-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_tenth" .f32 0x41200000#32 ((134217728 / 13421773 : ℝ) : EReal)
  ∧ IdealRules.named_const.Statement Cert.KernelIdeal.κ "inv_fifth" .f32 0x40A00000#32 ((67108864 / 13421773 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v220) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x49104x80 : Shape := ⟨3, ![8, 49104, 80]⟩
abbrev S8x49104x4 : Shape := ⟨3, ![8, 49104, 4]⟩
abbrev S1x49104x4 : Shape := ⟨3, ![1, 49104, 4]⟩
abbrev S8x24x5 : Shape := ⟨3, ![8, 24, 5]⟩
abbrev S_ : Shape := ⟨0, ![]⟩
abbrev S8x24x1 : Shape := ⟨3, ![8, 24, 1]⟩
abbrev S8x24 : Shape := ⟨2, ![8, 24]⟩

class Facts : Prop where
  slices_S8x24x5_S8x24x1_0_0_4 : S8x24x5.Slices ![0, 0, 4] S8x24x1
  shapeCasts_S8x24x1_S8x24 : S8x24x1.ShapeCasts S8x24
  bcast_S_S8x49104x80 : S_.BroadcastsInDim S8x49104x80 (![] : Fin 0 → Fin S8x49104x80.rank)
  reducesTo_S8x49104x80_S_d0_1_2 : S8x49104x80.ReducesTo [0, 1, 2] S_
  h_S_ : 0 < S_.numel
  bcast_S_S8x24 : S_.BroadcastsInDim S8x24 (![] : Fin 0 → Fin S8x24.rank)
  reducesTo_S8x24_S_d0_1 : S8x24.ReducesTo [0, 1] S_

variable [Facts]

def fn {F : FTy → Type} [FloatOps F] (main_arg0 : FVec F S8x49104x80 .f32) (main_arg1 : FVec F S8x49104x4 .f32) (main_arg2 : FVec F S1x49104x4 .f32) (main_arg3 : FVec F S8x24x5 .f32) (main_arg4 : IVec S_ 32) : IVec S_ 1 :=
  let main_v0 : FVec F S8x24x1 .f32 := (extractStridedSlice S8x24x1 ![0, 0, 4] · slices_S8x24x5_S8x24x1_0_0_4) main_arg3
  let main_v1 : FVec F S8x24 .f32 := shapeCast S8x24 main_v0 shapeCasts_S8x24x1_S8x24
  let main_v2 : IVec S8x24 32 := fptosi 32 main_v1
  let main_cst : FVec F S_ .f32 := constant S_ .f32 0x38D1B717#32
  let main_v3 : FVec F S8x49104x80 .f32 := broadcastInDim S8x49104x80 ![] bcast_S_S8x49104x80 main_cst
  let main_v4 : IVec S8x49104x80 1 := cmpf .oge main_arg0 main_v3
  let main_cst_0 : FVec F S_ .f32 := constant S_ .f32 0x3F7FF972#32
  let main_v5 : FVec F S8x49104x80 .f32 := broadcastInDim S8x49104x80 ![] bcast_S_S8x49104x80 main_cst_0
  let main_v6 : IVec S8x49104x80 1 := cmpf .ole main_arg0 main_v5
  let main_v7 : IVec S8x49104x80 1 := andi main_v4 main_v6
  let main_c : IVec S_ 1 := constantI S_ 1 1#1
  let main_v8 : IVec S_ 1 := (fun x v => Host.reduce IntOp.andi x v reducesTo_S8x49104x80_S_d0_1_2 h_S_) main_v7 main_c
  let main_c_1 : IVec S_ 32 := constantI S_ 32 0#32
  let main_v9 : IVec S8x24 32 := broadcastInDim S8x24 ![] bcast_S_S8x24 main_c_1
  let main_v10 : IVec S8x24 1 := cmpi .sge main_v2 main_v9
  let main_c_2 : IVec S_ 32 := constantI S_ 32 80#32
  let main_v11 : IVec S8x24 32 := broadcastInDim S8x24 ![] bcast_S_S8x24 main_c_2
  let main_v12 : IVec S8x24 1 := cmpi .slt main_v2 main_v11
  let main_v13 : IVec S8x24 1 := andi main_v10 main_v12
  let main_c_3 : IVec S_ 1 := constantI S_ 1 1#1
  let main_v14 : IVec S_ 1 := (fun x v => Host.reduce IntOp.andi x v reducesTo_S8x24_S_d0_1 h_S_) main_v13 main_c_3
  let main_v15 : IVec S_ 1 := andi main_v8 main_v14
  main_v15
-- ==== Kernel.lean ====
abbrev S8x49104x80 : Shape := ⟨3, ![8, 49104, 80]⟩
abbrev S8x49104x4 : Shape := ⟨3, ![8, 49104, 4]⟩
abbrev S1x49104x4 : Shape := ⟨3, ![1, 49104, 4]⟩
abbrev S8x24x5 : Shape := ⟨3, ![8, 24, 5]⟩
abbrev S_ : Shape := ⟨0, ![]⟩
abbrev S4x1 : Shape := ⟨2, ![4, 1]⟩
abbrev S8x80x49104 : Shape := ⟨3, ![8, 80, 49104]⟩
abbrev S1x4x1x1 : Shape := ⟨4, ![1, 4, 1, 1]⟩
abbrev S1x4x48x1 : Shape := ⟨4, ![1, 4, 48, 1]⟩
abbrev S4x48 : Shape := ⟨2, ![4, 48]⟩
abbrev S49104x4 : Shape := ⟨2, ![49104, 4]⟩
abbrev S4x49104 : Shape := ⟨2, ![4, 49104]⟩
abbrev S4x49152 : Shape := ⟨2, ![4, 49152]⟩
abbrev S8x4x49104 : Shape := ⟨3, ![8, 4, 49104]⟩
abbrev S8x4x48 : Shape := ⟨3, ![8, 4, 48]⟩
abbrev S8x4x49152 : Shape := ⟨3, ![8, 4, 49152]⟩
abbrev S8x5x24 : Shape := ⟨3, ![8, 5, 24]⟩
abbrev S8x1x1 : Shape := ⟨3, ![8, 1, 1]⟩
abbrev S8 : Shape := ⟨1, ![8]⟩
abbrev S1 : Shape := ⟨1, ![1]⟩
abbrev S1x80x8192 : Shape := ⟨3, ![1, 80, 8192]⟩
abbrev S1x4x8192 : Shape := ⟨3, ![1, 4, 8192]⟩
abbrev S4x8192 : Shape := ⟨2, ![4, 8192]⟩
abbrev S1x24x5 : Shape := ⟨3, ![1, 24, 5]⟩
abbrev S1x5x24 : Shape := ⟨3, ![1, 5, 24]⟩
abbrev S1x1x1 : Shape := ⟨3, ![1, 1, 1]⟩
abbrev S80x8192 : Shape := ⟨2, ![80, 8192]⟩
abbrev S24x5 : Shape := ⟨2, ![24, 5]⟩
abbrev S5x24 : Shape := ⟨2, ![5, 24]⟩
abbrev S1x8192 : Shape := ⟨2, ![1, 8192]⟩
abbrev S24x1 : Shape := ⟨2, ![24, 1]⟩
abbrev S24x8192 : Shape := ⟨2, ![24, 8192]⟩
abbrev S8192 : Shape := ⟨1, ![8192]⟩
abbrev S5x8192 : Shape := ⟨2, ![5, 8192]⟩
abbrev S1x1x8192 : Shape := ⟨3, ![1, 1, 8192]⟩

abbrev nBuf : Space → Nat
  | .hbm => 51
  | .vmem => 16
  | .smem => 0
  | _ => 0

abbrev bufTy : (tb : Table) → Fin (tcTables nBuf tb) → BufTy
  | .hbm, ⟨0, _⟩ => ⟨S8x49104x80, .f32⟩
  | .hbm, ⟨1, _⟩ => ⟨S8x49104x4, .f32⟩
  | .hbm, ⟨2, _⟩ => ⟨S1x49104x4, .f32⟩
  | .hbm, ⟨3, _⟩ => ⟨S8x24x5, .f32⟩
  | .hbm, ⟨4, _⟩ => ⟨S_, .i32⟩
  | .hbm, ⟨5, _⟩ => ⟨S4x1, .f32⟩
  | .hbm, ⟨6, _⟩ => ⟨S8x80x49104, .f32⟩
  | .hbm, ⟨7, _⟩ => ⟨S1x4x1x1, .f32⟩
  | .hbm, ⟨8, _⟩ => ⟨S1x4x48x1, .f32⟩
  | .hbm, ⟨9, _⟩ => ⟨S4x48, .f32⟩
  | .hbm, ⟨10, _⟩ => ⟨S49104x4, .f32⟩
  | .hbm, ⟨11, _⟩ => ⟨S4x49104, .f32⟩
  | .hbm, ⟨12, _⟩ => ⟨S4x49152, .f32⟩
  | .hbm, ⟨13, _⟩ => ⟨S8x4x49104, .f32⟩
  | .hbm, ⟨14, _⟩ => ⟨S_, .f32⟩
  | .hbm, ⟨15, _⟩ => ⟨S8x4x48, .f32⟩
  | .hbm, ⟨16, _⟩ => ⟨S8x4x49152, .f32⟩
  | .hbm, ⟨17, _⟩ => ⟨S8x5x24, .f32⟩
  | .hbm, ⟨18, _⟩ => ⟨S8x1x1, .f32⟩
  | .hbm, ⟨19, _⟩ => ⟨S8x1x1, .f32⟩
  | .hbm, ⟨20, _⟩ => ⟨S8x1x1, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .i1⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S1, .f32⟩
  | .local _ .vmem, ⟨0, _⟩ => ⟨S1x80x8192, .f32⟩
  | .local _ .vmem, ⟨1, _⟩ => ⟨S1x80x8192, .f32⟩
  | .local _ .vmem, ⟨2, _⟩ => ⟨S1x4x8192, .f32⟩
  | .local _ .vmem, ⟨3, _⟩ => ⟨S1x4x8192, .f32⟩
  | .local _ .vmem, ⟨4, _⟩ => ⟨S4x8192, .f32⟩
  | .local _ .vmem, ⟨5, _⟩ => ⟨S4x8192, .f32⟩
  | .local _ .vmem, ⟨6, _⟩ => ⟨S1x24x5, .f32⟩
  | .local _ .vmem, ⟨7, _⟩ => ⟨S1x24x5, .f32⟩
  | .local _ .vmem, ⟨8, _⟩ => ⟨S1x5x24, .f32⟩
  | .local _ .vmem, ⟨9, _⟩ => ⟨S1x5x24, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | _, _ => ⟨S8x49104x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_0 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11_0 : Ref sig .tc := ⟨.hbm, 18, rfl⟩
abbrev main_call0_v11_1 : Ref sig .tc := ⟨.hbm, 19, rfl⟩
abbrev main_call0_v11_2 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst_1 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_cst_2 : Ref sig .tc := ⟨.hbm, 28, rfl⟩
abbrev main_call0_v18 : Ref sig .tc := ⟨.hbm, 29, rfl⟩
abbrev main_call0_v19 : Ref sig .tc := ⟨.hbm, 30, rfl⟩
abbrev main_call0_cst_3 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_v23 : Ref sig .tc := ⟨.hbm, 38, rfl⟩
abbrev main_call0_cst_5 : Ref sig .tc := ⟨.hbm, 39, rfl⟩
abbrev main_call0_v24 : Ref sig .tc := ⟨.hbm, 40, rfl⟩
abbrev main_call0_v25 : Ref sig .tc := ⟨.hbm, 41, rfl⟩
abbrev main_call0_cst_6 : Ref sig .tc := ⟨.hbm, 42, rfl⟩
abbrev main_call0_v26 : Ref sig .tc := ⟨.hbm, 43, rfl⟩
abbrev main_v0_0 : Ref sig .tc := ⟨.hbm, 44, rfl⟩
abbrev main_call0_cst_7 : Ref sig .tc := ⟨.hbm, 45, rfl⟩
abbrev main_call0_v28 : Ref sig .tc := ⟨.hbm, 46, rfl⟩
abbrev main_call0_v29 : Ref sig .tc := ⟨.hbm, 47, rfl⟩
abbrev main_call0_cst_8 : Ref sig .tc := ⟨.hbm, 48, rfl⟩
abbrev main_call0_v30 : Ref sig .tc := ⟨.hbm, 49, rfl⟩
abbrev main_v0_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x24x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x5x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "inv_fifth" => some ((67108864 / 13421773 : ℝ) : EReal)
  | "inv_tenth" => some ((134217728 / 13421773 : ℝ) : EReal)
  | _ => none
-- ==== ReferenceIdeal.lean ====
abbrev S8x49104x80 : Shape := ⟨3, ![8, 49104, 80]⟩
abbrev S8x49104x4 : Shape := ⟨3, ![8, 49104, 4]⟩
abbrev S1x49104x4 : Shape := ⟨3, ![1, 49104, 4]⟩
abbrev S8x24x5 : Shape := ⟨3, ![8, 24, 5]⟩
abbrev S_ : Shape := ⟨0, ![]⟩
abbrev S1x1x4 : Shape := ⟨3, ![1, 1, 4]⟩
abbrev S49104x4 : Shape := ⟨2, ![49104, 4]⟩
abbrev S49104x1 : Shape := ⟨2, ![49104, 1]⟩
abbrev S49104 : Shape := ⟨1, ![49104]⟩
abbrev S8x24x1 : Shape := ⟨3, ![8, 24, 1]⟩
abbrev S8x24 : Shape := ⟨2, ![8, 24]⟩
abbrev S8x1x24 : Shape := ⟨3, ![8, 1, 24]⟩
abbrev S1x49104x1 : Shape := ⟨3, ![1, 49104, 1]⟩
abbrev S8x49104x24 : Shape := ⟨3, ![8, 49104, 24]⟩
abbrev S8x49104 : Shape := ⟨2, ![8, 49104]⟩
abbrev S8 : Shape := ⟨1, ![8]⟩
abbrev S8x49104x1 : Shape := ⟨3, ![8, 49104, 1]⟩
abbrev S1 : Shape := ⟨1, ![1]⟩
abbrev S1x1x1 : Shape := ⟨3, ![1, 1, 1]⟩
abbrev S8x49104x5 : Shape := ⟨3, ![8, 49104, 5]⟩
abbrev S1x1x80 : Shape := ⟨3, ![1, 1, 80]⟩
abbrev S1x49104 : Shape := ⟨2, ![1, 49104]⟩

abbrev nBuf : Space → Nat
  | .hbm => 320
  | .vmem => 0
  | .smem => 0
  | _ => 0

abbrev hbmTy0_0 (i : Nat) : BufTy := match i % 128 with
  | 0 => ⟨S8x49104x80, .f32⟩
  | 1 => ⟨S8x49104x4, .f32⟩
  | 2 => ⟨S1x49104x4, .f32⟩
  | 3 => ⟨S8x24x5, .f32⟩
  | 4 => ⟨S_, .i32⟩
  | 5 => ⟨S1x1x4, .f32⟩
  | 6 => ⟨S49104x4, .f32⟩
  | 7 => ⟨S49104x1, .f32⟩
  | 8 => ⟨S49104, .f32⟩
  | 9 => ⟨S49104x1, .f32⟩
  | 10 => ⟨S49104, .f32⟩
  | 11 => ⟨S49104, .f32⟩
  | 12 => ⟨S49104x1, .f32⟩
  | 13 => ⟨S49104, .f32⟩
  | 14 => ⟨S49104x1, .f32⟩
  | 15 => ⟨S49104, .f32⟩
  | 16 => ⟨S49104, .f32⟩
  | 17 => ⟨S49104x1, .f32⟩
  | 18 => ⟨S49104, .f32⟩
  | 19 => ⟨S_, .f32⟩
  | 20 => ⟨S49104, .f32⟩
  | 21 => ⟨S49104, .f32⟩
  | 22 => ⟨S49104, .f32⟩
  | 23 => ⟨S49104x1, .f32⟩
  | 24 => ⟨S49104, .f32⟩
  | 25 => ⟨S_, .f32⟩
  | 26 => ⟨S49104, .f32⟩
  | 27 => ⟨S49104, .f32⟩
  | 28 => ⟨S49104, .f32⟩
  | 29 => ⟨S_, .f32⟩
  | 30 => ⟨S_, .f32⟩
  | 31 => ⟨S_, .f32⟩
  | 32 => ⟨S8x49104x80, .f32⟩
  | 33 => ⟨S8x49104x80, .f32⟩
  | 34 => ⟨S_, .f32⟩
  | 35 => ⟨S8x49104x80, .f32⟩
  | 36 => ⟨S8x49104x80, .f32⟩
  | 37 => ⟨S8x24x1, .f32⟩
  | 38 => ⟨S8x24, .f32⟩
  | 39 => ⟨S8x24x1, .f32⟩
  | 40 => ⟨S8x24, .f32⟩
  | 41 => ⟨S8x24, .f32⟩
  | 42 => ⟨S8x24x1, .f32⟩
  | 43 => ⟨S8x24, .f32⟩
  | 44 => ⟨S8x24x1, .f32⟩
  | 45 => ⟨S8x24, .f32⟩
  | 46 => ⟨S8x24, .f32⟩
  | 47 => ⟨S8x24, .f32⟩
  | 48 => ⟨S8x1x24, .f32⟩
  | 49 => ⟨S49104x1, .f32⟩
  | 50 => ⟨S49104, .f32⟩
  | 51 => ⟨S1x49104x1, .f32⟩
  | 52 => ⟨S8x24x1, .f32⟩
  | 53 => ⟨S8x24, .f32⟩
  | 54 => ⟨S8x1x24, .f32⟩
  | 55 => ⟨S8x49104x24, .f32⟩
  | 56 => ⟨S8x49104x24, .f32⟩
  | 57 => ⟨S8x49104x24, .f32⟩
  | 58 => ⟨S49104x1, .f32⟩
  | 59 => ⟨S49104, .f32⟩
  | 60 => ⟨S1x49104x1, .f32⟩
  | 61 => ⟨S8x24x1, .f32⟩
  | 62 => ⟨S8x24, .f32⟩
  | 63 => ⟨S8x1x24, .f32⟩
  | 64 => ⟨S8x49104x24, .f32⟩
  | 65 => ⟨S8x49104x24, .f32⟩
  | 66 => ⟨S8x49104x24, .f32⟩
  | 67 => ⟨S8x49104x24, .f32⟩
  | 68 => ⟨S49104x1, .f32⟩
  | 69 => ⟨S49104, .f32⟩
  | 70 => ⟨S1x49104x1, .f32⟩
  | 71 => ⟨S8x24x1, .f32⟩
  | 72 => ⟨S8x24, .f32⟩
  | 73 => ⟨S8x1x24, .f32⟩
  | 74 => ⟨S8x49104x24, .f32⟩
  | 75 => ⟨S8x49104x24, .f32⟩
  | 76 => ⟨S8x49104x24, .f32⟩
  | 77 => ⟨S49104x1, .f32⟩
  | 78 => ⟨S49104, .f32⟩
  | 79 => ⟨S1x49104x1, .f32⟩
  | 80 => ⟨S8x24x1, .f32⟩
  | 81 => ⟨S8x24, .f32⟩
  | 82 => ⟨S8x1x24, .f32⟩
  | 83 => ⟨S8x49104x24, .f32⟩
  | 84 => ⟨S8x49104x24, .f32⟩
  | 85 => ⟨S8x49104x24, .f32⟩
  | 86 => ⟨S8x49104x24, .f32⟩
  | 87 => ⟨S_, .f32⟩
  | 88 => ⟨S_, .f32⟩
  | 89 => ⟨S8x49104x24, .f32⟩
  | 90 => ⟨S8x49104x24, .f32⟩
  | 91 => ⟨S_, .f32⟩
  | 92 => ⟨S_, .f32⟩
  | 93 => ⟨S8x49104x24, .f32⟩
  | 94 => ⟨S8x49104x24, .f32⟩
  | 95 => ⟨S49104, .f32⟩
  | 96 => ⟨S1x49104x1, .f32⟩
  | 97 => ⟨S8x49104x24, .f32⟩
  | 98 => ⟨S8x49104x24, .f32⟩
  | 99 => ⟨S8x49104x24, .f32⟩
  | 100 => ⟨S8x49104x24, .f32⟩
  | 101 => ⟨S8x49104x24, .f32⟩
  | 102 => ⟨S_, .f32⟩
  | 103 => ⟨S8x49104x24, .f32⟩
  | 104 => ⟨S8x49104x24, .f32⟩
  | 105 => ⟨S8x49104x24, .f32⟩
  | 106 => ⟨S8x49104x24, .f32⟩
  | 107 => ⟨S_, .f32⟩
  | 108 => ⟨S8x49104, .f32⟩
  | 109 => ⟨S8x49104x24, .i32⟩
  | 110 => ⟨S_, .f32⟩
  | 111 => ⟨S_, .i32⟩
  | 112 => ⟨S8x49104, .f32⟩
  | 113 => ⟨S8x49104, .i32⟩
  | 114 => ⟨S_, .f32⟩
  | 115 => ⟨S8x49104, .f32⟩
  | 116 => ⟨S8x49104, .i1⟩
  | 117 => ⟨S8x49104, .i32⟩
  | 118 => ⟨S_, .i32⟩
  | 119 => ⟨S8, .i32⟩
  | 120 => ⟨S8x49104x1, .i32⟩
  | 121 => ⟨S_, .i32⟩
  | 122 => ⟨S8x49104x1, .i32⟩
  | 123 => ⟨S8x49104x1, .i1⟩
  | 124 => ⟨S_, .i32⟩
  | 125 => ⟨S8x49104x1, .i32⟩
  | 126 => ⟨S8x49104x1, .i32⟩
  | 127 => ⟨S8x49104x1, .i32⟩
  | _ => ⟨S8x49104x80, .f32⟩

abbrev hbmTy0_1 (i : Nat) : BufTy := match i % 128 with
  | 0 => ⟨S1, .i32⟩
  | 1 => ⟨S_, .i32⟩
  | 2 => ⟨S8x49104x1, .i32⟩
  | 3 => ⟨S8x49104x1, .i1⟩
  | 4 => ⟨S1x1x1, .i32⟩
  | 5 => ⟨S8x49104x1, .i32⟩
  | 6 => ⟨S8x49104x1, .i1⟩
  | 7 => ⟨S8x49104x1, .i1⟩
  | 8 => ⟨S_, .i1⟩
  | 9 => ⟨S8x49104, .i1⟩
  | 10 => ⟨S8x49104x5, .f32⟩
  | 11 => ⟨S8x49104x5, .i1⟩
  | 12 => ⟨S_, .f32⟩
  | 13 => ⟨S8x49104x5, .f32⟩
  | 14 => ⟨S8x49104x5, .f32⟩
  | 15 => ⟨S_, .f32⟩
  | 16 => ⟨S8x49104x80, .f32⟩
  | 17 => ⟨S_, .f32⟩
  | 18 => ⟨S8x49104, .f32⟩
  | 19 => ⟨S8x49104, .i1⟩
  | 20 => ⟨S8x49104x1, .i1⟩
  | 21 => ⟨S_, .f32⟩
  | 22 => ⟨S_, .f32⟩
  | 23 => ⟨S8x49104x80, .i1⟩
  | 24 => ⟨S8x49104x80, .f32⟩
  | 25 => ⟨S8x49104x80, .f32⟩
  | 26 => ⟨S8x49104x1, .i1⟩
  | 27 => ⟨S_, .f32⟩
  | 28 => ⟨S_, .f32⟩
  | 29 => ⟨S8x49104x80, .i1⟩
  | 30 => ⟨S8x49104x80, .f32⟩
  | 31 => ⟨S8x49104x80, .f32⟩
  | 32 => ⟨S8x49104x1, .f32⟩
  | 33 => ⟨S8x49104, .f32⟩
  | 34 => ⟨S8x49104, .i32⟩
  | 35 => ⟨S8x49104x1, .i32⟩
  | 36 => ⟨S1x1x80, .i32⟩
  | 37 => ⟨S8x49104x80, .i32⟩
  | 38 => ⟨S8x49104x80, .i32⟩
  | 39 => ⟨S8x49104x80, .i1⟩
  | 40 => ⟨S8x49104x80, .f32⟩
  | 41 => ⟨S8x49104x1, .i1⟩
  | 42 => ⟨S_, .f32⟩
  | 43 => ⟨S8x49104x80, .f32⟩
  | 44 => ⟨S8x49104x80, .i1⟩
  | 45 => ⟨S8x49104x80, .i1⟩
  | 46 => ⟨S8x49104x80, .i1⟩
  | 47 => ⟨S_, .f32⟩
  | 48 => ⟨S_, .f32⟩
  | 49 => ⟨S8x49104x80, .f32⟩
  | 50 => ⟨S8x49104x80, .f32⟩
  | 51 => ⟨S_, .f32⟩
  | 52 => ⟨S8x49104x80, .f32⟩
  | 53 => ⟨S8x49104x80, .i1⟩
  | 54 => ⟨S_, .f32⟩
  | 55 => ⟨S8x49104x80, .f32⟩
  | 56 => ⟨S8x49104x80, .f32⟩
  | 57 => ⟨S8x49104x80, .f32⟩
  | 58 => ⟨S_, .f32⟩
  | 59 => ⟨S8x49104x80, .f32⟩
  | 60 => ⟨S8x49104x80, .f32⟩
  | 61 => ⟨S_, .f32⟩
  | 62 => ⟨S8x49104x80, .f32⟩
  | 63 => ⟨S8x49104x80, .f32⟩
  | 64 => ⟨S8x49104x80, .f32⟩
  | 65 => ⟨S8x49104x80, .f32⟩
  | 66 => ⟨S_, .f32⟩
  | 67 => ⟨S8x49104x80, .f32⟩
  | 68 => ⟨S8x49104x80, .f32⟩
  | 69 => ⟨S_, .f32⟩
  | 70 => ⟨S8x49104x80, .f32⟩
  | 71 => ⟨S8x49104x80, .f32⟩
  | 72 => ⟨S8x49104x80, .f32⟩
  | 73 => ⟨S8x49104x80, .f32⟩
  | 74 => ⟨S8x49104x80, .f32⟩
  | 75 => ⟨S8x49104x80, .f32⟩
  | 76 => ⟨S8x49104x80, .f32⟩
  | 77 => ⟨S_, .f32⟩
  | 78 => ⟨S8x49104x80, .f32⟩
  | 79 => ⟨S8x49104x80, .i1⟩
  | 80 => ⟨S_, .f32⟩
  | 81 => ⟨S_, .f32⟩
  | 82 => ⟨S8x49104x80, .f32⟩
  | 83 => ⟨S8x49104x80, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S8x49104x1, .f32⟩
  | 92 => ⟨S8x49104, .f32⟩
  | 93 => ⟨S8x49104x1, .f32⟩
  | 94 => ⟨S8x49104, .f32⟩
  | 95 => ⟨S8x49104, .f32⟩
  | 96 => ⟨S8x49104x1, .f32⟩
  | 97 => ⟨S8x49104, .f32⟩
  | 98 => ⟨S8x49104x1, .f32⟩
  | 99 => ⟨S8x49104, .f32⟩
  | 100 => ⟨S8x49104, .f32⟩
  | 101 => ⟨S8x49104x1, .f32⟩
  | 102 => ⟨S8x49104, .f32⟩
  | 103 => ⟨S_, .f32⟩
  | 104 => ⟨S8x49104, .f32⟩
  | 105 => ⟨S8x49104, .f32⟩
  | 106 => ⟨S8x49104, .f32⟩
  | 107 => ⟨S8x49104x1, .f32⟩
  | 108 => ⟨S8x49104, .f32⟩
  | 109 => ⟨S_, .f32⟩
  | 110 => ⟨S8x49104, .f32⟩
  | 111 => ⟨S8x49104, .f32⟩
  | 112 => ⟨S8x49104, .f32⟩
  | 113 => ⟨S_, .f32⟩
  | 114 => ⟨S8x49104, .f32⟩
  | 115 => ⟨S8x49104, .f32⟩
  | 116 => ⟨S_, .f32⟩
  | 117 => ⟨S8x49104, .f32⟩
  | 118 => ⟨S8x49104, .f32⟩
  | 119 => ⟨S1x49104, .f32⟩
  | 120 => ⟨S8x49104, .f32⟩
  | 121 => ⟨S8x49104, .f32⟩
  | 122 => ⟨S1x49104, .f32⟩
  | 123 => ⟨S8x49104, .f32⟩
  | 124 => ⟨S8x49104, .f32⟩
  | 125 => ⟨S1x49104, .f32⟩
  | 126 => ⟨S8x49104, .f32⟩
  | 127 => ⟨S8x49104, .f32⟩
  | _ => ⟨S8x49104x80, .f32⟩

abbrev hbmTy0_2 (i : Nat) : BufTy := match i % 128 with
  | 0 => ⟨S1x49104, .f32⟩
  | 1 => ⟨S8x49104, .f32⟩
  | 2 => ⟨S8x49104, .f32⟩
  | 3 => ⟨S1x49104, .f32⟩
  | 4 => ⟨S8x49104, .f32⟩
  | 5 => ⟨S8x49104, .f32⟩
  | 6 => ⟨S8x49104, .f32⟩
  | 7 => ⟨S1x49104, .f32⟩
  | 8 => ⟨S8x49104, .f32⟩
  | 9 => ⟨S8x49104, .f32⟩
  | 10 => ⟨S8x49104, .f32⟩
  | 11 => ⟨S8x49104x1, .f32⟩
  | 12 => ⟨S8x49104x1, .f32⟩
  | 13 => ⟨S8x49104x1, .f32⟩
  | 14 => ⟨S8x49104x1, .f32⟩
  | 15 => ⟨S8x49104x4, .f32⟩
  | 16 => ⟨S8x49104x4, .f32⟩
  | 17 => ⟨S8x49104x4, .f32⟩
  | 18 => ⟨S8x49104x4, .f32⟩
  | 19 => ⟨S8x49104x4, .f32⟩
  | 20 => ⟨S_, .f32⟩
  | 21 => ⟨S8x49104x4, .f32⟩
  | 22 => ⟨S8x49104x4, .i1⟩
  | 23 => ⟨S8x49104x4, .f32⟩
  | 24 => ⟨S_, .f32⟩
  | 25 => ⟨S8x49104x4, .f32⟩
  | 26 => ⟨S8x49104x4, .f32⟩
  | 27 => ⟨S_, .f32⟩
  | 28 => ⟨S8x49104x4, .f32⟩
  | 29 => ⟨S8x49104x4, .f32⟩
  | 30 => ⟨S8x49104x4, .f32⟩
  | 31 => ⟨S8x49104x1, .i1⟩
  | 32 => ⟨S8x49104x1, .f32⟩
  | 33 => ⟨S8x49104x4, .f32⟩
  | 34 => ⟨S8x49104x4, .f32⟩
  | 35 => ⟨S_, .f32⟩
  | 36 => ⟨S8, .f32⟩
  | 37 => ⟨S_, .i32⟩
  | 38 => ⟨S8, .i32⟩
  | 39 => ⟨S8, .i1⟩
  | 40 => ⟨S_, .i32⟩
  | 41 => ⟨S8, .i32⟩
  | 42 => ⟨S8, .i32⟩
  | 43 => ⟨S8, .f32⟩
  | 44 => ⟨S_, .f32⟩
  | 45 => ⟨S8, .f32⟩
  | 46 => ⟨S8, .f32⟩
  | 47 => ⟨S8, .f32⟩
  | 48 => ⟨S_, .f32⟩
  | 49 => ⟨S_, .f32⟩
  | 50 => ⟨S8, .f32⟩
  | 51 => ⟨S8, .f32⟩
  | 52 => ⟨S_, .f32⟩
  | 53 => ⟨S_, .f32⟩
  | 54 => ⟨S1, .f32⟩
  | 55 => ⟨S_, .f32⟩
  | 56 => ⟨S1, .f32⟩
  | 57 => ⟨S1, .f32⟩
  | 58 => ⟨S_, .f32⟩
  | 59 => ⟨S_, .f32⟩
  | 60 => ⟨S1, .f32⟩
  | 61 => ⟨S_, .f32⟩
  | 62 => ⟨S1, .f32⟩
  | 63 => ⟨S1, .f32⟩
  | _ => ⟨S8x49104x80, .f32⟩

abbrev hbmTy (i : Nat) : BufTy := match i / 128 with
  | 0 => hbmTy0_0 i
  | 1 => hbmTy0_1 i
  | 2 => hbmTy0_2 i
  | _ => ⟨S8x49104x80, .f32⟩

abbrev bufTy : (tb : Table) → Fin (tcTables nBuf tb) → BufTy
  | .hbm, ⟨i, _⟩ => hbmTy i
  | _, _ => ⟨S8x49104x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_4 : Ref sig .tc := ⟨.hbm, 87, rfl⟩
abbrev main_call1_v0 : Ref sig .tc := ⟨.hbm, 88, rfl⟩
abbrev main_call1_v1 : Ref sig .tc := ⟨.hbm, 89, rfl⟩
abbrev main_v72 : Ref sig .tc := ⟨.hbm, 90, rfl⟩
abbrev main_cst_5 : Ref sig .tc := ⟨.hbm, 91, rfl⟩
abbrev main_call2_v0 : Ref sig .tc := ⟨.hbm, 92, rfl⟩
abbrev main_call2_v1 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_6 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_7 : Ref sig .tc := ⟨.hbm, 107, rfl⟩
abbrev main_v85 : Ref sig .tc := ⟨.hbm, 108, rfl⟩
abbrev main_call3_v0 : Ref sig .tc := ⟨.hbm, 109, rfl⟩
abbrev main_call3_cst : Ref sig .tc := ⟨.hbm, 110, rfl⟩
abbrev main_call3_c : Ref sig .tc := ⟨.hbm, 111, rfl⟩
abbrev main_call3_v1_0 : Ref sig .tc := ⟨.hbm, 112, rfl⟩
abbrev main_v86 : Ref sig .tc := ⟨.hbm, 113, rfl⟩
abbrev main_cst_8 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c : Ref sig .tc := ⟨.hbm, 118, rfl⟩
abbrev main_v90 : Ref sig .tc := ⟨.hbm, 119, rfl⟩
abbrev main_v91 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_c_1 : Ref sig .tc := ⟨.hbm, 128, rfl⟩
abbrev main_call4_c_2 : Ref sig .tc := ⟨.hbm, 129, rfl⟩
abbrev main_call4_v5 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_c_3 : Ref sig .tc := ⟨.hbm, 136, rfl⟩
abbrev main_call4_v11 : Ref sig .tc := ⟨.hbm, 137, rfl⟩
abbrev main_call4_v12 : Ref sig .tc := ⟨.hbm, 138, rfl⟩
abbrev main_call4_v13 : Ref sig .tc := ⟨.hbm, 139, rfl⟩
abbrev main_call4_cst : Ref sig .tc := ⟨.hbm, 140, rfl⟩
abbrev main_call4_v14 : Ref sig .tc := ⟨.hbm, 141, rfl⟩
abbrev main_v92 : Ref sig .tc := ⟨.hbm, 142, rfl⟩
abbrev main_cst_9 : Ref sig .tc := ⟨.hbm, 143, rfl⟩
abbrev main_v93 : Ref sig .tc := ⟨.hbm, 144, rfl⟩
abbrev main_cst_10 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_11 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_v97 : Ref sig .tc := ⟨.hbm, 153, rfl⟩
abbrev main_v98 : Ref sig .tc := ⟨.hbm, 154, rfl⟩
abbrev main_cst_12 : Ref sig .tc := ⟨.hbm, 155, rfl⟩
abbrev main_call6_v0 : Ref sig .tc := ⟨.hbm, 156, rfl⟩
abbrev main_call6_v1 : Ref sig .tc := ⟨.hbm, 157, rfl⟩
abbrev main_call6_v2 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_call7_v3 : Ref sig .tc := ⟨.hbm, 166, rfl⟩
abbrev main_call7_v4 : Ref sig .tc := ⟨.hbm, 167, rfl⟩
abbrev main_v103 : Ref sig .tc := ⟨.hbm, 168, rfl⟩
abbrev main_v104 : Ref sig .tc := ⟨.hbm, 169, rfl⟩
abbrev main_cst_13 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_cst_14 : Ref sig .tc := ⟨.hbm, 175, rfl⟩
abbrev main_call8_v0 : Ref sig .tc := ⟨.hbm, 176, rfl⟩
abbrev main_call8_v1 : Ref sig .tc := ⟨.hbm, 177, rfl⟩
abbrev main_v109 : Ref sig .tc := ⟨.hbm, 178, rfl⟩
abbrev main_cst_15 : Ref sig .tc := ⟨.hbm, 179, rfl⟩
abbrev main_v110 : Ref sig .tc := ⟨.hbm, 180, rfl⟩
abbrev main_v111 : Ref sig .tc := ⟨.hbm, 181, rfl⟩
abbrev main_cst_16 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_17 : Ref sig .tc := ⟨.hbm, 186, rfl⟩
abbrev main_v115 : Ref sig .tc := ⟨.hbm, 187, rfl⟩
abbrev main_v116 : Ref sig .tc := ⟨.hbm, 188, rfl⟩
abbrev main_cst_18 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_19 : Ref sig .tc := ⟨.hbm, 194, rfl⟩
abbrev main_v121 : Ref sig .tc := ⟨.hbm, 195, rfl⟩
abbrev main_v122 : Ref sig .tc := ⟨.hbm, 196, rfl⟩
abbrev main_cst_20 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_cst_21 : Ref sig .tc := ⟨.hbm, 205, rfl⟩
abbrev main_v130 : Ref sig .tc := ⟨.hbm, 206, rfl⟩
abbrev main_v131 : Ref sig .tc := ⟨.hbm, 207, rfl⟩
abbrev main_cst_22 : Ref sig .tc := ⟨.hbm, 208, rfl⟩
abbrev main_call10_v0 : Ref sig .tc := ⟨.hbm, 209, rfl⟩
abbrev main_call10_v1 : Ref sig .tc := ⟨.hbm, 210, rfl⟩
abbrev main_v132 : Ref sig .tc := ⟨.hbm, 211, rfl⟩
abbrev main_cst_23 : Ref sig .tc := ⟨.hbm, 212, rfl⟩
abbrev main_v133 : Ref sig .tc := ⟨.hbm, 213, rfl⟩
abbrev main_v134 : Ref sig .tc := ⟨.hbm, 214, rfl⟩
abbrev main_cst_24 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_cst_25 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_cst_26 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_cst_27 : Ref sig .tc := ⟨.hbm, 241, rfl⟩
abbrev main_v158 : Ref sig .tc := ⟨.hbm, 242, rfl⟩
abbrev main_v159 : Ref sig .tc := ⟨.hbm, 243, rfl⟩
abbrev main_cst_28 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_cst_29 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_cst_30 : Ref sig .tc := ⟨.hbm, 280, rfl⟩
abbrev main_v194 : Ref sig .tc := ⟨.hbm, 281, rfl⟩
abbrev main_v195 : Ref sig .tc := ⟨.hbm, 282, rfl⟩
abbrev main_cst_31 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_cst_32 : Ref sig .tc := ⟨.hbm, 291, rfl⟩
abbrev main_v203 : Ref sig .tc := ⟨.hbm, 292, rfl⟩
abbrev main_c_33 : Ref sig .tc := ⟨.hbm, 293, rfl⟩
abbrev main_v204 : Ref sig .tc := ⟨.hbm, 294, rfl⟩
abbrev main_v205 : Ref sig .tc := ⟨.hbm, 295, rfl⟩
abbrev main_c_34 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_cst_35 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_cst_36 : Ref sig .tc := ⟨.hbm, 304, rfl⟩
abbrev main_call12_v0 : Ref sig .tc := ⟨.hbm, 305, rfl⟩
abbrev main_call12_v1 : Ref sig .tc := ⟨.hbm, 306, rfl⟩
abbrev main_v212 : Ref sig .tc := ⟨.hbm, 307, rfl⟩
abbrev main_cst_37 : Ref sig .tc := ⟨.hbm, 308, rfl⟩
abbrev main_v213 : Ref sig .tc := ⟨.hbm, 309, rfl⟩
abbrev main_v214 : Ref sig .tc := ⟨.hbm, 310, rfl⟩
abbrev main_cst_38 : Ref sig .tc := ⟨.hbm, 311, rfl⟩
abbrev main_v215 : Ref sig .tc := ⟨.hbm, 312, rfl⟩
abbrev main_v216 : Ref sig .tc := ⟨.hbm, 313, rfl⟩
abbrev main_cst_39 : Ref sig .tc := ⟨.hbm, 314, rfl⟩
abbrev main_v217 : Ref sig .tc := ⟨.hbm, 315, rfl⟩
abbrev main_v218 : Ref sig .tc := ⟨.hbm, 316, rfl⟩
abbrev main_cst_40 : Ref sig .tc := ⟨.hbm, 317, rfl⟩
abbrev main_v219 : Ref sig .tc := ⟨.hbm, 318, rfl⟩
abbrev main_v220 : Ref sig .tc := ⟨.hbm, 319, rfl⟩

abbrev nD : Nat := 1
abbrev τ : Topo := Topo.v7x

variable {F : FTy → Type} [FloatOps F]
-- ==== Proof.IdealFrame.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition of the body's one branch: the second grid coordinate is zero. -/
abbrev isFirst (i : grid0.Coords) : Prop := (Scalar.cmpi .ne (Scalar.extui (Scalar.cmpi .eq (BitVec.ofNat 32 (i 1).val) 0#32)) 0#32) = 1#1

set_option maxHeartbeats 4000000 in
/-- On whole staging memrefs the body runs to its return whatever they hold, leaves the annotations as they
    were and every other memref at some contents. -/
theorem body_runs (c : Dev nD) (i : grid0.Coords) (arg2 : Memref sig .tc .vmem S1x80x8192 .f32) (harg2 : arg2.IsWhole) (arg3 : Memref sig .tc .vmem S1x4x8192 .f32) (harg3 : arg3.IsWhole) (arg4 : Memref sig .tc .vmem S4x8192 .f32) (harg4 : arg4.IsWhole) (arg5 : Memref sig .tc .vmem S1x24x5 .f32) (harg5 : arg5.IsWhole) (arg6 : Memref sig .tc .vmem S1x5x24 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole)
    (x3 : Vec F S1x24x5 .f32) (K : PUnit → sProp 𝕄) :
    iprop((∃ d, owns (c : Thread nD τ) arg2 fullShare d) ∗ (∃ d, owns (c : Thread nD τ) arg3 fullShare d) ∗ (∃ d, owns (c : Thread nD τ) arg4 fullShare d) ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop((∃ d, owns (c : Thread nD τ) arg2 fullShare d) ∗ (∃ d, owns (c : Thread nD τ) arg3 fullShare d) ∗ (∃ d, owns (c : Thread nD τ) arg4 fullShare d) ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) Set.univ (cc0__focal_kernel i arg2 harg2 arg3 harg3 arg4 harg4 arg5 harg5 arg6 harg6 arg7 harg7 arg8 harg8 arg9 harg9) K := by
  simp only [cc0__focal_kernel_eq_skeleton]; unfold cc0__focal_kernel_skel
  simp only [k0_part1_eq_skeleton, k0_part2_eq_skeleton, k0_part3_eq_skeleton, k0_part4_eq_skeleton]
  unfold owns
  by_cases hc0 : isFirst i
  · iintro ⟨⟨%d0, %f0, -, H0⟩, ⟨%d1, %f1, -, H1⟩, ⟨%d2, %f2, -, H2⟩, ⟨%f3, %hf3, H3⟩, ⟨%d4, %f4, -, H4⟩, ⟨%d5, %f5, -, H5⟩, ⟨%d6, %f6, -, H6⟩, ⟨%d7, %f7, -, H7⟩, Hk⟩
    sl_exec (disch := first | sl_exact hc0)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _; isplitr; swap; · iexact H3
      ipureintro; exact hf3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl
  · iintro ⟨⟨%d0, %f0, -, H0⟩, ⟨%d1, %f1, -, H1⟩, ⟨%d2, %f2, -, H2⟩, ⟨%f3, %hf3, H3⟩, ⟨%d4, %f4, -, H4⟩, ⟨%d5, %f5, -, H5⟩, ⟨%d6, %f6, -, H6⟩, ⟨%d7, %f7, -, H7⟩, Hk⟩
    sl_exec (disch := first | sl_exact hc0)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _; isplitr; swap; · iexact H3
      ipureintro; exact hf3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

/-- The windows nothing is said of: all but the annotations, the one launch argument a window stages. -/
def forgets : Fin 8 → Bool := fun w => !(w == 3)

/-- The pipeline's proof data: the arrays as the region finds them, the annotations' block in place after the body. -/
def dats (_ : Fin 1) (c : Dev nD) : Dat τ (Elt F) Unit ℕ (UR sig nD τ) ℕ cfg0 c where
  A w := V m c (Pipeline.arrRef spec0 w)
  after w t := match w with
    | ⟨0, _⟩ => Pipeline.Dat.unnamed (cfg := cfg0) 0 t
    | ⟨1, _⟩ => Pipeline.Dat.unnamed (cfg := cfg0) 1 t
    | ⟨2, _⟩ => Pipeline.Dat.unnamed (cfg := cfg0) 2 t
    | ⟨3, _⟩ => iblk m c 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by dsimp only [dats]

/-- The annotations' buffer after the body holds their block. -/
theorem after_3 (c : Dev nD) (t : Fin cfg0.N) : (dats m 0 c).after 3 t = iblk m c 3 t := by dsimp only [dats]

/-- The annotations' buffer before the body holds their block. -/
theorem before_3 (c : Dev nD) (t : Fin cfg0.N) (d) : (dats m 0 c).before 3 t d = iblk m c 3 t :=
  before0_3_of m (dats m 0 c) (A_eq m c 3) (after_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- What the body returns at point `t`. -/
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- The body's triple at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_3]
  rw [show (dats m 0 c).Φ t.succ = (dats m 0 c).Φ t.castSucc from rfl,
    show (dats m 0 c).owesAt () t.succ = (dats m 0 c).owesAt () t.castSucc from rfl, after_3]
  iintro ⟨HΦ, Ho, H0, H1, H2, ⟨%d3, H3⟩, H4, H5, H6, H7⟩
  iapply (body_runs c (grid0.coords t) _ _ _ _ _ _ _ _ _ _ _ _ _ _ _ _ (iblk m c 3 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body there. -/
theorem body_row (t : Fin cfg0.N) :
    defs₀ (F := F) .tc cfg0.body (cfg0.bodyArgs t (cfg0.slots t)) = bodyAt0 t := by
  unfold defs₀; rw [Defs.onTc_tc]

/-- The pipeline's body obligation with the forgotten windows at any contents. -/
theorem body_obligation (c : Dev nD) :
    BodyObligationLoose (dats (F := F) m 0 c) (defs₀ (F := F)) Variants.none () Set.univ forgets := fun t => by
  rw [bigSep_W0, bigSep_W0, body_row]
  exact triple_restated (sound_body m c t) rfl .rfl fun _ => .rfl

/-- The buffers of which nothing is said after the region: all but the five arguments. -/
def scratchRefs : Finset (Ref sig .tc) :=
  Finset.univ.filter fun b => b ≠ main_arg0 ∧ b ≠ main_arg1 ∧ b ≠ main_arg2 ∧ b ≠ main_arg3 ∧ b ≠ main_arg4

/-- No host operation after the region writes an argument. -/
theorem suffix_writes : ∀ ops ∈ ([hostOps1] : List (List (HloOp τ sig (Elt F)))), ∀ op ∈ ops, ∀ b : Ref sig .tc,
    Proc.devRef .tc b ∈ op.writes → b ∈ scratchRefs := by
  have key : ∀ a : Ref sig .tc, (a = main_arg0 ∨ a = main_arg1 ∨ a = main_arg2 ∨ a = main_arg3 ∨ a = main_arg4) →
      ∀ op ∈ (hostOps1 : List (HloOp τ sig (Elt F))), Proc.devRef .tc a ∉ op.writes := by
    intro a ha
    rw [← List.forall_iff_forall_mem]
    rcases ha with rfl | rfl | rfl | rfl | rfl <;>
    · simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)
  intro ops hops op hop b hb
  rw [List.mem_singleton] at hops; subst hops
  rw [scratchRefs, Finset.mem_filter]
  refine ⟨Finset.mem_univ _, ?_, ?_, ?_, ?_, ?_⟩ <;> (rintro rfl; exact key _ (by simp) op hop hb)

set_option backward.isDefEq.respectTransparency.types false in
set_option maxHeartbeats 800000 in
/-- Every execution terminates with the unwritten buffers as the region found them and every counter at zero. -/
theorem run_main : θ_run defs (onTc (τ := τ) (main (F := F))) (s₀ m ρ)
    (fun r => Pipeline.RDat.FramePostR (cfgs 0) (fun c => (dats m 0 c).toRForget forgets) scratchRefs (V m) r ∧ r.2.sem = fun _ => 0) :=
  Pipeline.θ_run_frame_around_T_forget (Q' := _) cfgs (dats m) (0 : Fin 1) launch0 defs₀ Variants.none forgets scratchRefs m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := suffix_writes) (hmain := hmain m Variants.none) (hA := A_eq m) (hΦ := fun _ _ => rfl)

/-- An argument no window stages is kept by the region's post. -/
theorem mem_kept (b : Ref sig .tc) (hb : b ∈ Pipeline.restRefs sig spec0)
    (h : b = main_arg0 ∨ b = main_arg1 ∨ b = main_arg2 ∨ b = main_arg3 ∨ b = main_arg4) :
    b ∈ Pipeline.restRefs sig spec0 \ scratchRefs := by
  rw [Finset.mem_sdiff, scratchRefs, Finset.mem_filter]
  exact ⟨hb, by rintro ⟨-, h0, h1, h2, h3, h4⟩; rcases h with h | h | h | h | h <;> contradiction⟩

/-- The kernel terminates from any memory with zero counters, leaving its arguments unchanged and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨((h.1 c).2 main_arg0 (mem_kept _ (Pipeline.mem_restRefs_of main_arg0 (by decide) (by decide)) (by simp))).trans (V_main_arg0 m c),
      ((h.1 c).2 main_arg1 (mem_kept _ (Pipeline.mem_restRefs_of main_arg1 (by decide) (by decide)) (by simp))).trans (V_main_arg1 m c),
      ((h.1 c).2 main_arg2 (mem_kept _ (Pipeline.mem_restRefs_of main_arg2 (by decide) (by decide)) (by simp))).trans (V_main_arg2 m c),
      (((dats m 0 c).toRForget_arrAt_iff (fgt := forgets) (w := 3) rfl _ _).mp ((h.1 c).1 3)).trans
        (((dats m 0 c).arrAt_in 3 rfl _).trans ((A_eq m c 3).trans (V_main_arg3 m c))),
      ((h.1 c).2 main_arg4 (mem_kept _ (Pipeline.mem_restRefs_of main_arg4 (by decide) (by decide)) (by simp))).trans (V_main_arg4 m c)⟩, h.2⟩)
    (run_main m ρ)

end Cert.KernelIdeal.Hand

end
-- ==== Proof.RefOps.lean ====
/- The host operations of the reference program, in order, as lists; the program is their sequence. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v186`, named. It packs its operands into a list of dependent pairs
    whose shapes a later argument's type mentions, so `simp` cannot rewrite an operand where it stands; applied by
    name, the operands are plain arguments, which the window lemmas below rewrite before the name unfolds. -/
def fn_main_v186 : (main_v182 : Ref sig .tc).ty.Contents (Elt F) → (main_v183 : Ref sig .tc).ty.Contents (Elt F) → (main_v184 : Ref sig .tc).ty.Contents (Elt F) → (main_v185 : Ref sig .tc).ty.Contents (Elt F) → (main_v186 : Ref sig .tc).ty.Contents (Elt F) :=
  (fun u0 u1 u2 u3 => (concatenate S8x49104x4 2 [⟨S8x49104x1, (u0 : (⟨S8x49104x1, .f32⟩ : BufTy).Contents (Elt F))⟩, ⟨S8x49104x1, (u1 : (⟨S8x49104x1, .f32⟩ : BufTy).Contents (Elt F))⟩, ⟨S8x49104x1, (u2 : (⟨S8x49104x1, .f32⟩ : BufTy).Contents (Elt F))⟩, ⟨S8x49104x1, (u3 : (⟨S8x49104x1, .f32⟩ : BufTy).Contents (Elt F))⟩] concatenates_S8x49104x1_S8x49104x1_S8x49104x1_S8x49104x1_S8x49104x4_d2 : (⟨S8x49104x4, .f32⟩ : BufTy).Contents (Elt F)))

/-- @main's operations 1 … 30 of 315 (window `main_part0`). -/
abbrev ops_part0_0 : List (HloOp τ sig (Elt F)) :=
  [ nullary main_cst (fun i => FloatOps.ofBits .f32 (lit0 (S1x1x4.rowMajor i))),
    reshape main_arg2 main_v0 (rfl : (.f32 : EltTy) = .f32) shapeCasts_S1x49104x4_S49104x4,
    unary main_v0 main_v1 ((extractStridedSlice S49104x1 ![0, 2] · slices_S49104x4_S49104x1_0_2) : (⟨S49104x4, .f32⟩ : BufTy).Contents (Elt F) → (⟨S49104x1, .f32⟩ : BufTy).Contents (Elt F)),
    reshape main_v1 main_v2 (rfl : (.f32 : EltTy) = .f32) shapeCasts_S49104x1_S49104,
    unary main_v0 main_v3 ((extractStridedSlice S49104x1 ![0, 0] · slices_S49104x4_S49104x1_0_0) : (⟨S49104x4, .f32⟩ : BufTy).Contents (Elt F) → (⟨S49104x1, .f32⟩ : BufTy).Contents (Elt F)),
    reshape main_v3 main_v4 (rfl : (.f32 : EltTy) = .f32) shapeCasts_S49104x1_S49104,
    binary main_v2 main_v4 main_v5 (subf : (⟨S49104, .f32⟩ : BufTy).Contents (Elt F) → (⟨S49104, .f32⟩ : BufTy).Contents (Elt F) → (⟨S49104, .f32⟩ : BufTy).Contents (Elt F)),
    unary main_v0 main_v6 ((extractStridedSlice S49104x1 ![0, 3] · slices_S49104x4_S49104x1_0_3) : (⟨S49104x4, .f32⟩ : BufTy).Contents (Elt F) → (⟨S49104x1, .f32⟩ : BufTy).Contents (Elt F)),
    reshape main_v6 main_v7 (rfl : (.f32 : EltTy) = .f32) shapeCasts_S49104x1_S49104,
    unary main_v0 main_v8 ((extractStridedSlice S49104x1 ![0, 1] · slices_S49104x4_S49104x1_0_1) : (⟨S49104x4, .f32⟩ : BufTy).Contents (Elt F) → (⟨S49104x1, .f32⟩ : BufTy).Contents (Elt F)),
    reshape main_v8 main_v9 (rfl : (.f32 : EltTy) = .f32) shapeCasts_S49104x1_S49104,
    binary main_v7 main_v9 main_v10 (subf : (⟨S49104, .f32⟩ : BufTy).Contents (Elt F) → (⟨S49104, .f32⟩ : BufTy).Contents (Elt F) → (⟨S49104, .f32⟩ : BufTy).Contents (Elt F)),
    unary main_v0 main_v11 ((extractStridedSlice S49104x1 ![0, 0] · slices_S49104x4_S49104x1_0_0) : (⟨S49104x4, .f32⟩ : BufTy).Contents (Elt F) → (⟨S49104x1, .f32⟩ : BufTy).Contents (Elt F)),
    reshape main_v11 main_v12 (rfl : (.f32 : EltTy) = .f32) shapeCasts_S49104x1_S49104,
    nullary main_cst_0 (constant S_ .f32 0x3F000000#32),
    unary main_cst_0 main_v13 (broadcastInDim S49104 ![] bcast_S_S49104 : (⟨S_, .f32⟩ : BufTy).Contents (Elt F) → (⟨S49104, .f32⟩ : BufTy).Contents (Elt F)),
    binary main_v13 main_v5 main_v14 (mulf : (⟨S49104, .f32⟩ : BufTy).Contents (Elt F) → (⟨S49104, .f32⟩ : BufTy).Contents (Elt F) → (⟨S49104, .f32⟩ : BufTy).Contents (Elt F)),
    binary main_v12 main_v14 main_v15 (addf : (⟨S49104, .f32⟩ : BufTy).Contents (Elt F) → (⟨S49104, .f32⟩ : BufTy).Contents (Elt F) → (⟨S49104, .f32⟩ : BufTy).Contents (Elt F)),
    unary main_v0 main_v16 ((extractStridedSlice S49104x1 ![0, 1] · slices_S49104x4_S49104x1_0_1) : (⟨S49104x4, .f32⟩ : BufTy).Contents (Elt F) → (⟨S49104x1, .f32⟩ : BufTy).Contents (Elt F)),
    reshape main_v16 main_v17 (rfl : (.f32 : EltTy) = .f32) shapeCasts_S49104x1_S49104,
    nullary main_cst_1 (constant S_ .f32 0x3F000000#32),
    unary main_cst_1 main_v18 (broadcastInDim S49104 ![] bcast_S_S49104 : (⟨S_, .f32⟩ : BufTy).Contents (Elt F) → (⟨S49104, .f32⟩ : BufTy).Contents (Elt F)),
    binary main_v18 main_v10 main_v19 (mulf : (⟨S49104, .f32⟩ : BufTy).Contents (Elt F) → (⟨S49104, .f32⟩ : BufTy).Contents (Elt F) → (⟨S49104, .f32⟩ : BufTy).Contents (Elt F)),
    binary main_v17 main_v19 main_v20 (addf : (⟨S49104, .f32⟩ : BufTy).Contents (Elt F) → (⟨S49104, .f32⟩ : BufTy).Contents (Elt F) → (⟨S49104, .f32⟩ : BufTy).Contents (Elt F)),
    nullary main_cst_2 (constant S_ .f32 0x38D1B717#32),
    nullary main_cst_3 (constant S_ .f32 0x3F7FF972#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8x49104x80, .f32⟩) main_call0_v1) (broadcastInDim S8x49104x80 ![] bcast_S_S8x49104x80),
    TRef.binary (TRef.of (T := ⟨S8x49104x80, .f32⟩) main_call0_v1) (TRef.of (T := ⟨S8x49104x80, .f32⟩) main_arg0) (TRef.of (T := ⟨S8x49104x80, .f32⟩) main_call0_v2) maximumf,
    TRef.unary (TRef.of (T := ⟨S_, .f32⟩) main_cst_3) (TRef.of (T := ⟨S_, .f32⟩) main_call0_v3) id ]

/-- @main's operations 31 … 60 of 315 (window `main_part0`). -/
abbrev ops_part0_1 : List (HloOp τ sig (Elt F)) :=
  [ TRef.unary (TRef.of (T := ⟨S_, .f32⟩) main_call0_v3) (TRef.of (T := ⟨S8x49104x80, .f32⟩) main_call0_v4) (broadcastInDim S8x49104x80 ![] bcast_S_S8x49104x80),
    TRef.binary (TRef.of (T := ⟨S8x49104x80, .f32⟩) main_call0_v4) (TRef.of (T := ⟨S8x49104x80, .f32⟩) main_call0_v2) (TRef.of (T := ⟨S8x49104x80, .f32⟩) main_v21) minimumf,
    unary main_arg3 main_v22 ((extractStridedSlice S8x24x1 ![0, 0, 2] · slices_S8x24x5_S8x24x1_0_0_2) : (⟨S8x24x5, .f32⟩ : BufTy).Contents (Elt F) → (⟨S8x24x1, .f32⟩ : BufTy).Contents (Elt F)),
    reshape main_v22 main_v23 (rfl : (.f32 : EltTy) = .f32) shapeCasts_S8x24x1_S8x24,
    unary main_arg3 main_v24 ((extractStridedSlice S8x24x1 ![0, 0, 0] · slices_S8x24x5_S8x24x1_0_0_0) : (⟨S8x24x5, .f32⟩ : BufTy).Contents (Elt F) → (⟨S8x24x1, .f32⟩ : BufTy).Contents (Elt F)),
    reshape main_v24 main_v25 (rfl : (.f32 : EltTy) = .f32) shapeCasts_S8x24x1_S8x24,
    binary main_v23 main_v25 main_v26 (subf : (⟨S8x24, .f32⟩ : BufTy).Contents (Elt F) → (⟨S8x24, .f32⟩ : BufTy).Contents (Elt F) → (⟨S8x24, .f32⟩ : BufTy).Contents (Elt F)),
    unary main_arg3 main_v27 ((extractStridedSlice S8x24x1 ![0, 0, 3] · slices_S8x24x5_S8x24x1_0_0_3) : (⟨S8x24x5, .f32⟩ : BufTy).Contents (Elt F) → (⟨S8x24x1, .f32⟩ : BufTy).Contents (Elt F)),
    reshape main_v27 main_v28 (rfl : (.f32 : EltTy) = .f32) shapeCasts_S8x24x1_S8x24,
    unary main_arg3 main_v29 ((extractStridedSlice S8x24x1 ![0, 0, 1] · slices_S8x24x5_S8x24x1_0_0_1) : (⟨S8x24x5, .f32⟩ : BufTy).Contents (Elt F) → (⟨S8x24x1, .f32⟩ : BufTy).Contents (Elt F)),
    reshape main_v29 main_v30 (rfl : (.f32 : EltTy) = .f32) shapeCasts_S8x24x1_S8x24,
    binary main_v28 main_v30 main_v31 (subf : (⟨S8x24, .f32⟩ : BufTy).Contents (Elt F) → (⟨S8x24, .f32⟩ : BufTy).Contents (Elt F) → (⟨S8x24, .f32⟩ : BufTy).Contents (Elt F)),
    binary main_v26 main_v31 main_v32 (mulf : (⟨S8x24, .f32⟩ : BufTy).Contents (Elt F) → (⟨S8x24, .f32⟩ : BufTy).Contents (Elt F) → (⟨S8x24, .f32⟩ : BufTy).Contents (Elt F)),
    unary main_v32 main_v33 (broadcastInDim S8x1x24 ![0, 2] bcast_S8x24_S8x1x24_0_2 : (⟨S8x24, .f32⟩ : BufTy).Contents (Elt F) → (⟨S8x1x24, .f32⟩ : BufTy).Contents (Elt F)),
    unary main_v0 main_v34 ((extractStridedSlice S49104x1 ![0, 2] · slices_S49104x4_S49104x1_0_2) : (⟨S49104x4, .f32⟩ : BufTy).Contents (Elt F) → (⟨S49104x1, .f32⟩ : BufTy).Contents (Elt F)),
    reshape main_v34 main_v35 (rfl : (.f32 : EltTy) = .f32) shapeCasts_S49104x1_S49104,
    unary main_v35 main_v36 (broadcastInDim S1x49104x1 ![1] bcast_S49104_S1x49104x1_1 : (⟨S49104, .f32⟩ : BufTy).Contents (Elt F) → (⟨S1x49104x1, .f32⟩ : BufTy).Contents (Elt F)),
    unary main_arg3 main_v37 ((extractStridedSlice S8x24x1 ![0, 0, 2] · slices_S8x24x5_S8x24x1_0_0_2) : (⟨S8x24x5, .f32⟩ : BufTy).Contents (Elt F) → (⟨S8x24x1, .f32⟩ : BufTy).Contents (Elt F)),
    reshape main_v37 main_v38 (rfl : (.f32 : EltTy) = .f32) shapeCasts_S8x24x1_S8x24,
    unary main_v38 main_v39 (broadcastInDim S8x1x24 ![0, 2] bcast_S8x24_S8x1x24_0_2 : (⟨S8x24, .f32⟩ : BufTy).Contents (Elt F) → (⟨S8x1x24, .f32⟩ : BufTy).Contents (Elt F)),
    unary main_v36 main_v40 (broadcastInDim S8x49104x24 ![0, 1, 2] bcast_S1x49104x1_S8x49104x24_0_1_2 : (⟨S1x49104x1, .f32⟩ : BufTy).Contents (Elt F) → (⟨S8x49104x24, .f32⟩ : BufTy).Contents (Elt F)),
    unary main_v39 main_v41 (broadcastInDim S8x49104x24 ![0, 1, 2] bcast_S8x1x24_S8x49104x24_0_1_2 : (⟨S8x1x24, .f32⟩ : BufTy).Contents (Elt F) → (⟨S8x49104x24, .f32⟩ : BufTy).Contents (Elt F)),
    binary main_v40 main_v41 main_v42 (minimumf : (⟨S8x49104x24, .f32⟩ : BufTy).Contents (Elt F) → (⟨S8x49104x24, .f32⟩ : BufTy).Contents (Elt F) → (⟨S8x49104x24, .f32⟩ : BufTy).Contents (Elt F)),
    unary main_v0 main_v43 ((extractStridedSlice S49104x1 ![0, 0] · slices_S49104x4_S49104x1_0_0) : (⟨S49104x4, .f32⟩ : BufTy).Contents (Elt F) → (⟨S49104x1, .f32⟩ : BufTy).Contents (Elt F)),
    reshape main_v43 main_v44 (rfl : (.f32 : EltTy) = .f32) shapeCasts_S49104x1_S49104,
    unary main_v44 main_v45 (broadcastInDim S1x49104x1 ![1] bcast_S49104_S1x49104x1_1 : (⟨S49104, .f32⟩ : BufTy).Contents (Elt F) → (⟨S1x49104x1, .f32⟩ : BufTy).Contents (Elt F)),
    unary main_arg3 main_v46 ((extractStridedSlice S8x24x1 ![0, 0, 0] · slices_S8x24x5_S8x24x1_0_0_0) : (⟨S8x24x5, .f32⟩ : BufTy).Contents (Elt F) → (⟨S8x24x1, .f32⟩ : BufTy).Contents (Elt F)),
    reshape main_v46 main_v47 (rfl : (.f32 : EltTy) = .f32) shapeCasts_S8x24x1_S8x24,
    unary main_v47 main_v48 (broadcastInDim S8x1x24 ![0, 2] bcast_S8x24_S8x1x24_0_2 : (⟨S8x24, .f32⟩ : BufTy).Contents (Elt F) → (⟨S8x1x24, .f32⟩ : BufTy).Contents (Elt F)),
    unary main_v45 main_v49 (broadcastInDim S8x49104x24 ![0, 1, 2] bcast_S1x49104x1_S8x49104x24_0_1_2 : (⟨S1x49104x1, .f32⟩ : BufTy).Contents (Elt F) → (⟨S8x49104x24, .f32⟩ : BufTy).Contents (Elt F)) ]

/-- @main's operations 61 … 65 of 315 (window `main_part0`). -/
abbrev ops_part0_2 : List (HloOp τ sig (Elt F)) :=
  [ unary main_v48 main_v50 (broadcastInDim S8x49104x24 ![0, 1, 2] bcast_S8x1x24_S8x49104x24_0_1_2 : (⟨S8x1x24, .f32⟩ : BufTy).Contents (Elt F) → (⟨S8x49104x24, .f32⟩ : BufTy).Contents (Elt F)),
    binary main_v49 main_v50 main_v51 (maximumf : (⟨S8x49104x24, .f32⟩ : BufTy).Contents (Elt F) → (⟨S8x49104x24, .f32⟩ : BufTy).Contents (Elt F) → (⟨S8x49104x24, .f32⟩ : BufTy).Contents (Elt F)),
    binary main_v42 main_v51 main_v52 (subf : (⟨S8x49104x24, .f32⟩ : BufTy).Contents (Elt F) → (⟨S8x49104x24, .f32⟩ : BufTy).Contents (Elt F) → (⟨S8x49104x24, .f32⟩ : BufTy).Contents (Elt F)),
    unary main_v0 main_v53 ((extractStridedSlice S49104x1 ![0, 3] · slices_S49104x4_S49104x1_0_3) : (⟨S49104x4, .f32⟩ : BufTy).Contents (Elt F) → (⟨S49104x1, .f32⟩ : BufTy).Contents (Elt F)),
    reshape main_v53 main_v54 (rfl : (.f32 : EltTy) = .f32) shapeCasts_S49104x1_S49104 ]

/-- Window `main_part0`'s operations. Not an abbreviation: `main_eq` below splits `ops` into the windows and no further. -/
def ops_part0 : List (HloOp τ sig (Elt F)) :=
  ops_part0_0 ++ (ops_part0_1 ++ (ops_part0_2))

/-- @main's operations 66 … 95 of 315 (window `main_part1`). -/
abbrev ops_part1_0 : List (HloOp τ sig (Elt F)) :=
  [ unary main_v54 main_v55 (broadcastInDim S1x49104x1 ![1] bcast_S49104_S1x49104x1_1 : (⟨S49104, .f32⟩ : BufTy).Contents (Elt F) → (⟨S1x49104x1, .f32⟩ : BufTy).Contents (Elt F)),
    unary main_arg3 main_v56 ((extractStridedSlice S8x24x1 ![0, 0, 3] · slices_S8x24x5_S8x24x1_0_0_3) : (⟨S8x24x5, .f32⟩ : BufTy).Contents (Elt F) → (⟨S8x24x1, .f32⟩ : BufTy).Contents (Elt F)),
    reshape main_v56 main_v57 (rfl : (.f32 : EltTy) = .f32) shapeCasts_S8x24x1_S8x24,
    unary main_v57 main_v58 (broadcastInDim S8x1x24 ![0, 2] bcast_S8x24_S8x1x24_0_2 : (⟨S8x24, .f32⟩ : BufTy).Contents (Elt F) → (⟨S8x1x24, .f32⟩ : BufTy).Contents (Elt F)),
    unary main_v55 main_v59 (broadcastInDim S8x49104x24 ![0, 1, 2] bcast_S1x49104x1_S8x49104x24_0_1_2 : (⟨S1x49104x1, .f32⟩ : BufTy).Contents (Elt F) → (⟨S8x49104x24, .f32⟩ : BufTy).Contents (Elt F)),
    unary main_v58 main_v60 (broadcastInDim S8x49104x24 ![0, 1, 2] bcast_S8x1x24_S8x49104x24_0_1_2 : (⟨S8x1x24, .f32⟩ : BufTy).Contents (Elt F) → (⟨S8x49104x24, .f32⟩ : BufTy).Contents (Elt F)),
    binary main_v59 main_v60 main_v61 (minimumf : (⟨S8x49104x24, .f32⟩ : BufTy).Contents (Elt F) → (⟨S8x49104x24, .f32⟩ : BufTy).Contents (Elt F) → (⟨S8x49104x24, .f32⟩ : BufTy).Contents (Elt F)),
    unary main_v0 main_v62 ((extractStridedSlice S49104x1 ![0, 1] · slices_S49104x4_S49104x1_0_1) : (⟨S49104x4, .f32⟩ : BufTy).Contents (Elt F) → (⟨S49104x1, .f32⟩ : BufTy).Contents (Elt F)),
    reshape main_v62 main_v63 (rfl : (.f32 : EltTy) = .f32) shapeCasts_S49104x1_S49104,
    unary main_v63 main_v64 (broadcastInDim S1x49104x1 ![1] bcast_S49104_S1x49104x1_1 : (⟨S49104, .f32⟩ : BufTy).Contents (Elt F) → (⟨S1x49104x1, .f32⟩ : BufTy).Contents (Elt F)),
    unary main_arg3 main_v65 ((extractStridedSlice S8x24x1 ![0, 0, 1] · slices_S8x24x5_S8x24x1_0_0_1) : (⟨S8x24x5, .f32⟩ : BufTy).Contents (Elt F) → (⟨S8x24x1, .f32⟩ : BufTy).Contents (Elt F)),
    reshape main_v65 main_v66 (rfl : (.f32 : EltTy) = .f32) shapeCasts_S8x24x1_S8x24,
    unary main_v66 main_v67 (broadcastInDim S8x1x24 ![0, 2] bcast_S8x24_S8x1x24_0_2 : (⟨S8x24, .f32⟩ : BufTy).Contents (Elt F) → (⟨S8x1x24, .f32⟩ : BufTy).Contents (Elt F)),
    unary main_v64 main_v68 (broadcastInDim S8x49104x24 ![0, 1, 2] bcast_S1x49104x1_S8x49104x24_0_1_2 : (⟨S1x49104x1, .f32⟩ : BufTy).Contents (Elt F) → (⟨S8x49104x24, .f32⟩ : BufTy).Contents (Elt F)),
    unary main_v67 main_v69 (broadcastInDim S8x49104x24 ![0, 1, 2] bcast_S8x1x24_S8x49104x24_0_1_2 : (⟨S8x1x24, .f32⟩ : BufTy).Contents (Elt F) → (⟨S8x49104x24, .f32⟩ : BufTy).Contents (Elt F)),
    binary main_v68 main_v69 main_v70 (maximumf : (⟨S8x49104x24, .f32⟩ : BufTy).Contents (Elt F) → (⟨S8x49104x24, .f32⟩ : BufTy).Contents (Elt F) → (⟨S8x49104x24, .f32⟩ : BufTy).Contents (Elt F)),
    binary main_v61 main_v70 main_v71 (subf : (⟨S8x49104x24, .f32⟩ : BufTy).Contents (Elt F) → (⟨S8x49104x24, .f32⟩ : BufTy).Contents (Elt F) → (⟨S8x49104x24, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8x49104x24, .f32⟩) main_call1_v1) (broadcastInDim S8x49104x24 ![] bcast_S_S8x49104x24),
    TRef.binary (TRef.of (T := ⟨S8x49104x24, .f32⟩) main_call1_v1) (TRef.of (T := ⟨S8x49104x24, .f32⟩) main_v52) (TRef.of (T := ⟨S8x49104x24, .f32⟩) main_v72) maximumf,
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8x49104x24, .f32⟩) main_call2_v1) (broadcastInDim S8x49104x24 ![] bcast_S_S8x49104x24),
    TRef.binary (TRef.of (T := ⟨S8x49104x24, .f32⟩) main_call2_v1) (TRef.of (T := ⟨S8x49104x24, .f32⟩) main_v71) (TRef.of (T := ⟨S8x49104x24, .f32⟩) main_v73) maximumf,
    binary main_v5 main_v10 main_v74 (mulf : (⟨S49104, .f32⟩ : BufTy).Contents (Elt F) → (⟨S49104, .f32⟩ : BufTy).Contents (Elt F) → (⟨S49104, .f32⟩ : BufTy).Contents (Elt F)),
    unary main_v74 main_v75 (broadcastInDim S1x49104x1 ![1] bcast_S49104_S1x49104x1_1 : (⟨S49104, .f32⟩ : BufTy).Contents (Elt F) → (⟨S1x49104x1, .f32⟩ : BufTy).Contents (Elt F)),
    unary main_v75 main_v76 (broadcastInDim S8x49104x24 ![0, 1, 2] bcast_S1x49104x1_S8x49104x24_0_1_2 : (⟨S1x49104x1, .f32⟩ : BufTy).Contents (Elt F) → (⟨S8x49104x24, .f32⟩ : BufTy).Contents (Elt F)),
    unary main_v33 main_v77 (broadcastInDim S8x49104x24 ![0, 1, 2] bcast_S8x1x24_S8x49104x24_0_1_2 : (⟨S8x1x24, .f32⟩ : BufTy).Contents (Elt F) → (⟨S8x49104x24, .f32⟩ : BufTy).Contents (Elt F)),
    binary main_v76 main_v77 main_v78 (addf : (⟨S8x49104x24, .f32⟩ : BufTy).Contents (Elt F) → (⟨S8x49104x24, .f32⟩ : BufTy).Contents (Elt F) → (⟨S8x49104x24, .f32⟩ : BufTy).Contents (Elt F)) ]

/-- @main's operations 96 … 125 of 315 (window `main_part1`). -/
abbrev ops_part1_1 : List (HloOp τ sig (Elt F)) :=
  [ binary main_v72 main_v73 main_v79 (mulf : (⟨S8x49104x24, .f32⟩ : BufTy).Contents (Elt F) → (⟨S8x49104x24, .f32⟩ : BufTy).Contents (Elt F) → (⟨S8x49104x24, .f32⟩ : BufTy).Contents (Elt F)),
    binary main_v78 main_v79 main_v80 (subf : (⟨S8x49104x24, .f32⟩ : BufTy).Contents (Elt F) → (⟨S8x49104x24, .f32⟩ : BufTy).Contents (Elt F) → (⟨S8x49104x24, .f32⟩ : BufTy).Contents (Elt F)),
    nullary main_cst_6 (constant S_ .f32 0x322BCC77#32),
    unary main_cst_6 main_v81 (broadcastInDim S8x49104x24 ![] bcast_S_S8x49104x24 : (⟨S_, .f32⟩ : BufTy).Contents (Elt F) → (⟨S8x49104x24, .f32⟩ : BufTy).Contents (Elt F)),
    binary main_v80 main_v81 main_v82 (maximumf : (⟨S8x49104x24, .f32⟩ : BufTy).Contents (Elt F) → (⟨S8x49104x24, .f32⟩ : BufTy).Contents (Elt F) → (⟨S8x49104x24, .f32⟩ : BufTy).Contents (Elt F)),
    binary main_v72 main_v73 main_v83 (mulf : (⟨S8x49104x24, .f32⟩ : BufTy).Contents (Elt F) → (⟨S8x49104x24, .f32⟩ : BufTy).Contents (Elt F) → (⟨S8x49104x24, .f32⟩ : BufTy).Contents (Elt F)),
    binary main_v83 main_v82 main_v84 (Host.divf : (⟨S8x49104x24, .f32⟩ : BufTy).Contents (Elt F) → (⟨S8x49104x24, .f32⟩ : BufTy).Contents (Elt F) → (⟨S8x49104x24, .f32⟩ : BufTy).Contents (Elt F)),
    nullary main_cst_7 (constant S_ .f32 0xFF800000#32),
    binary main_v84 main_cst_7 main_v85 ((fun x v => Host.reduce FloatOps.maximumf x v reducesTo_S8x49104x24_S8x49104_d2 h_S_) : (⟨S8x49104x24, .f32⟩ : BufTy).Contents (Elt F) → (⟨S_, .f32⟩ : BufTy).Contents (Elt F) → (⟨S8x49104, .f32⟩ : BufTy).Contents (Elt F)),
    TRef.nullary (TRef.of (T := ⟨S8x49104x24, .i32⟩) main_call3_v0) (iotaInDim S8x49104x24 32 2),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S8x49104x24, .f32⟩) main_v84) (TRef.of (T := ⟨S8x49104x24, .i32⟩) main_call3_v0) (TRef.of (T := ⟨S_, .f32⟩) main_call3_cst) (TRef.of (T := ⟨S_, .i32⟩) main_call3_c) (TRef.of (T := ⟨S8x49104, .f32⟩) main_call3_v1_0) (fun x y u v j => (Host.argReduce reducer_argmax_f32_i32 x y u v reducesTo_S8x49104x24_S8x49104_d2 h_S_ j).1),
    TRef.quaternary (TRef.of (T := ⟨S8x49104x24, .f32⟩) main_v84) (TRef.of (T := ⟨S8x49104x24, .i32⟩) main_call3_v0) (TRef.of (T := ⟨S_, .f32⟩) main_call3_cst) (TRef.of (T := ⟨S_, .i32⟩) main_call3_c) (TRef.of (T := ⟨S8x49104, .i32⟩) main_v86) (fun x y u v j => (Host.argReduce reducer_argmax_f32_i32 x y u v reducesTo_S8x49104x24_S8x49104_d2 h_S_ j).2),
    nullary main_cst_8 (constant S_ .f32 0x3F000000#32),
    unary main_cst_8 main_v87 (broadcastInDim S8x49104 ![] bcast_S_S8x49104 : (⟨S_, .f32⟩ : BufTy).Contents (Elt F) → (⟨S8x49104, .f32⟩ : BufTy).Contents (Elt F)),
    binary main_v85 main_v87 main_v88 (cmpf .oge : (⟨S8x49104, .f32⟩ : BufTy).Contents (Elt F) → (⟨S8x49104, .f32⟩ : BufTy).Contents (Elt F) → (⟨S8x49104, .i1⟩ : BufTy).Contents (Elt F)),
    unary main_v88 main_v89 ((extui 32 · natLt_1_32) : (⟨S8x49104, .i1⟩ : BufTy).Contents (Elt F) → (⟨S8x49104, .i32⟩ : BufTy).Contents (Elt F)),
    nullary main_c (constantI S_ 32 0#32),
    binary main_v89 main_c main_v90 ((fun x v => Host.reduce IntOp.addi x v reducesTo_S8x49104_S8_d1 h_S_) : (⟨S8x49104, .i32⟩ : BufTy).Contents (Elt F) → (⟨S_, .i32⟩ : BufTy).Contents (Elt F) → (⟨S8, .i32⟩ : BufTy).Contents (Elt F)),
    unary main_v86 main_v91 (broadcastInDim S8x49104x1 ![0, 1] bcast_S8x49104_S8x49104x1_0_1 : (⟨S8x49104, .i32⟩ : BufTy).Contents (Elt F) → (⟨S8x49104x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S8x49104x1, .i32⟩) main_call4_v0) (broadcastInDim S8x49104x1 ![] bcast_S_S8x49104x1),
    TRef.binary (TRef.of (T := ⟨S8x49104x1, .i32⟩) main_v91) (TRef.of (T := ⟨S8x49104x1, .i32⟩) main_call4_v0) (TRef.of (T := ⟨S8x49104x1, .i1⟩) main_call4_v1) (cmpi .slt),
    TRef.nullary (TRef.of (T := ⟨S_, .i32⟩) main_call4_c_0) (constantI S_ 32 24#32),
    TRef.unary (TRef.of (T := ⟨S_, .i32⟩) main_call4_c_0) (TRef.of (T := ⟨S8x49104x1, .i32⟩) main_call4_v2) (broadcastInDim S8x49104x1 ![] bcast_S_S8x49104x1),
    TRef.binary (TRef.of (T := ⟨S8x49104x1, .i32⟩) main_v91) (TRef.of (T := ⟨S8x49104x1, .i32⟩) main_call4_v2) (TRef.of (T := ⟨S8x49104x1, .i32⟩) main_call4_v3) addi,
    TRef.ternary (TRef.of (T := ⟨S8x49104x1, .i1⟩) main_call4_v1) (TRef.of (T := ⟨S8x49104x1, .i32⟩) main_call4_v3) (TRef.of (T := ⟨S8x49104x1, .i32⟩) main_v91) (TRef.of (T := ⟨S8x49104x1, .i32⟩) main_call4_v4) select,
    TRef.nullary (TRef.of (T := ⟨S1, .i32⟩) main_call4_c_1) (constantI S1 32 23#32),
    TRef.nullary (TRef.of (T := ⟨S_, .i32⟩) main_call4_c_2) (constantI S_ 32 0#32) ]

/-- @main's operations 126 … 155 of 315 (window `main_part1`). -/
abbrev ops_part1_2 : List (HloOp τ sig (Elt F)) :=
  [ TRef.unary (TRef.of (T := ⟨S_, .i32⟩) main_call4_c_2) (TRef.of (T := ⟨S8x49104x1, .i32⟩) main_call4_v5) (broadcastInDim S8x49104x1 ![] bcast_S_S8x49104x1),
    TRef.binary (TRef.of (T := ⟨S8x49104x1, .i32⟩) main_call4_v4) (TRef.of (T := ⟨S8x49104x1, .i32⟩) main_call4_v5) (TRef.of (T := ⟨S8x49104x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S8x49104x1, .i32⟩) main_call4_v8) (broadcastInDim S8x49104x1 ![0, 1, 2] bcast_S1x1x1_S8x49104x1_0_1_2),
    TRef.binary (TRef.of (T := ⟨S8x49104x1, .i32⟩) main_call4_v4) (TRef.of (T := ⟨S8x49104x1, .i32⟩) main_call4_v8) (TRef.of (T := ⟨S8x49104x1, .i1⟩) main_call4_v9) (cmpi .sle),
    TRef.binary (TRef.of (T := ⟨S8x49104x1, .i1⟩) main_call4_v6) (TRef.of (T := ⟨S8x49104x1, .i1⟩) main_call4_v9) (TRef.of (T := ⟨S8x49104x1, .i1⟩) main_call4_v10) andi,
    TRef.nullary (TRef.of (T := ⟨S_, .i1⟩) main_call4_c_3) (constantI S_ 1 1#1),
    TRef.binary (TRef.of (T := ⟨S8x49104x1, .i1⟩) main_call4_v10) (TRef.of (T := ⟨S_, .i1⟩) main_call4_c_3) (TRef.of (T := ⟨S8x49104, .i1⟩) main_call4_v11) (fun x v => Host.reduce IntOp.andi x v reducesTo_S8x49104x1_S8x49104_d2 h_S_),
    TRef.binary (TRef.of (T := ⟨S8x24x5, .f32⟩) main_arg3) (TRef.of (T := ⟨S8x49104x1, .i32⟩) main_call4_v4) (TRef.of (T := ⟨S8x49104x5, .f32⟩) main_call4_v12) (fun x i => Host.gather gather_S8x24x5_S8x49104x1_S8x49104x5_2_1_0_0_1_2_115 x i),
    TRef.unary (TRef.of (T := ⟨S8x49104, .i1⟩) main_call4_v11) (TRef.of (T := ⟨S8x49104x5, .i1⟩) main_call4_v13) (broadcastInDim S8x49104x5 ![0, 1] bcast_S8x49104_S8x49104x5_0_1),
    TRef.nullary (TRef.of (T := ⟨S_, .f32⟩) main_call4_cst) (constant S_ .f32 0x7FC00000#32),
    TRef.unary (TRef.of (T := ⟨S_, .f32⟩) main_call4_cst) (TRef.of (T := ⟨S8x49104x5, .f32⟩) main_call4_v14) (broadcastInDim S8x49104x5 ![] bcast_S_S8x49104x5),
    TRef.ternary (TRef.of (T := ⟨S8x49104x5, .i1⟩) main_call4_v13) (TRef.of (T := ⟨S8x49104x5, .f32⟩) main_call4_v12) (TRef.of (T := ⟨S8x49104x5, .f32⟩) main_call4_v14) (TRef.of (T := ⟨S8x49104x5, .f32⟩) main_v92) select,
    nullary main_cst_9 (constant S_ .f32 0xBF800000#32),
    unary main_cst_9 main_v93 (broadcastInDim S8x49104x80 ![] bcast_S_S8x49104x80 : (⟨S_, .f32⟩ : BufTy).Contents (Elt F) → (⟨S8x49104x80, .f32⟩ : BufTy).Contents (Elt F)),
    nullary main_cst_10 (constant S_ .f32 0x3ECCCCCD#32),
    unary main_cst_10 main_v94 (broadcastInDim S8x49104 ![] bcast_S_S8x49104 : (⟨S_, .f32⟩ : BufTy).Contents (Elt F) → (⟨S8x49104, .f32⟩ : BufTy).Contents (Elt F)),
    binary main_v85 main_v94 main_v95 (cmpf .olt : (⟨S8x49104, .f32⟩ : BufTy).Contents (Elt F) → (⟨S8x49104, .f32⟩ : BufTy).Contents (Elt F) → (⟨S8x49104, .i1⟩ : BufTy).Contents (Elt F)),
    unary main_v95 main_v96 (broadcastInDim S8x49104x1 ![0, 1] bcast_S8x49104_S8x49104x1_0_1 : (⟨S8x49104, .i1⟩ : BufTy).Contents (Elt F) → (⟨S8x49104x1, .i1⟩ : BufTy).Contents (Elt F)),
    nullary main_cst_11 (constant S_ .f32 0x00000000#32),
    TRef.unary (TRef.of (T := ⟨S_, .f32⟩) main_cst_11) (TRef.of (T := ⟨S_, .f32⟩) main_call5_v0) id,
    TRef.unary (TRef.of (T := ⟨S8x49104x1, .i1⟩) main_v96) (TRef.of (T := ⟨S8x49104x80, .i1⟩) main_call5_v1) (broadcastInDim S8x49104x80 ![0, 1, 2] bcast_S8x49104x1_S8x49104x80_0_1_2),
    TRef.unary (TRef.of (T := ⟨S_, .f32⟩) main_call5_v0) (TRef.of (T := ⟨S8x49104x80, .f32⟩) main_call5_v2) (broadcastInDim S8x49104x80 ![] bcast_S_S8x49104x80),
    TRef.ternary (TRef.of (T := ⟨S8x49104x80, .i1⟩) main_call5_v1) (TRef.of (T := ⟨S8x49104x80, .f32⟩) main_call5_v2) (TRef.of (T := ⟨S8x49104x80, .f32⟩) main_v93) (TRef.of (T := ⟨S8x49104x80, .f32⟩) main_v97) select,
    unary main_v88 main_v98 (broadcastInDim S8x49104x1 ![0, 1] bcast_S8x49104_S8x49104x1_0_1 : (⟨S8x49104, .i1⟩ : BufTy).Contents (Elt F) → (⟨S8x49104x1, .i1⟩ : BufTy).Contents (Elt F)),
    nullary main_cst_12 (constant S_ .f32 0x00000000#32),
    TRef.unary (TRef.of (T := ⟨S_, .f32⟩) main_cst_12) (TRef.of (T := ⟨S_, .f32⟩) main_call6_v0) id,
    TRef.unary (TRef.of (T := ⟨S8x49104x1, .i1⟩) main_v98) (TRef.of (T := ⟨S8x49104x80, .i1⟩) main_call6_v1) (broadcastInDim S8x49104x80 ![0, 1, 2] bcast_S8x49104x1_S8x49104x80_0_1_2),
    TRef.unary (TRef.of (T := ⟨S_, .f32⟩) main_call6_v0) (TRef.of (T := ⟨S8x49104x80, .f32⟩) main_call6_v2) (broadcastInDim S8x49104x80 ![] bcast_S_S8x49104x80),
    TRef.ternary (TRef.of (T := ⟨S8x49104x80, .i1⟩) main_call6_v1) (TRef.of (T := ⟨S8x49104x80, .f32⟩) main_call6_v2) (TRef.of (T := ⟨S8x49104x80, .f32⟩) main_v97) (TRef.of (T := ⟨S8x49104x80, .f32⟩) main_v99) select ]

/-- @main's operations 156 … 165 of 315 (window `main_part1`). -/
abbrev ops_part1_3 : List (HloOp τ sig (Elt F)) :=
  [ unary main_v92 main_v100 ((extractStridedSlice S8x49104x1 ![0, 0, 4] · slices_S8x49104x5_S8x49104x1_0_0_4) : (⟨S8x49104x5, .f32⟩ : BufTy).Contents (Elt F) → (⟨S8x49104x1, .f32⟩ : BufTy).Contents (Elt F)),
    reshape main_v100 main_v101 (rfl : (.f32 : EltTy) = .f32) shapeCasts_S8x49104x1_S8x49104,
    unary main_v101 main_v102 (fptosi 32 : (⟨S8x49104, .f32⟩ : BufTy).Contents (Elt F) → (⟨S8x49104, .i32⟩ : BufTy).Contents (Elt F)),
    TRef.unary (TRef.of (T := ⟨S8x49104, .i32⟩) main_v102) (TRef.of (T := ⟨S8x49104x1, .i32⟩) main_call7_v0) (broadcastInDim S8x49104x1 ![0, 1] bcast_S8x49104_S8x49104x1_0_1),
    TRef.nullary (TRef.of (T := ⟨S1x1x80, .i32⟩) main_call7_v1) (iotaInDim S1x1x80 32 2),
    TRef.unary (TRef.of (T := ⟨S8x49104x1, .i32⟩) main_call7_v0) (TRef.of (T := ⟨S8x49104x80, .i32⟩) main_call7_v2) (broadcastInDim S8x49104x80 ![0, 1, 2] bcast_S8x49104x1_S8x49104x80_0_1_2),
    TRef.unary (TRef.of (T := ⟨S1x1x80, .i32⟩) main_call7_v1) (TRef.of (T := ⟨S8x49104x80, .i32⟩) main_call7_v3) (broadcastInDim S8x49104x80 ![0, 1, 2] bcast_S1x1x80_S8x49104x80_0_1_2),
    TRef.binary (TRef.of (T := ⟨S8x49104x80, .i32⟩) main_call7_v2) (TRef.of (T := ⟨S8x49104x80, .i32⟩) main_call7_v3) (TRef.of (T := ⟨S8x49104x80, .i1⟩) main_call7_v4) (cmpi .eq),
    TRef.unary (TRef.of (T := ⟨S8x49104x80, .i1⟩) main_call7_v4) (TRef.of (T := ⟨S8x49104x80, .f32⟩) main_v103) (uitofp .f32),
    unary main_v88 main_v104 (broadcastInDim S8x49104x1 ![0, 1] bcast_S8x49104_S8x49104x1_0_1 : (⟨S8x49104, .i1⟩ : BufTy).Contents (Elt F) → (⟨S8x49104x1, .i1⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3)))

/-- @main's operations 166 … 195 of 315 (window `main_part2`). -/
abbrev ops_part2_0 : List (HloOp τ sig (Elt F)) :=
  [ nullary main_cst_13 (constant S_ .f32 0x3F000000#32),
    unary main_cst_13 main_v105 (broadcastInDim S8x49104x80 ![] bcast_S_S8x49104x80 : (⟨S_, .f32⟩ : BufTy).Contents (Elt F) → (⟨S8x49104x80, .f32⟩ : BufTy).Contents (Elt F)),
    binary main_v103 main_v105 main_v106 (cmpf .ogt : (⟨S8x49104x80, .f32⟩ : BufTy).Contents (Elt F) → (⟨S8x49104x80, .f32⟩ : BufTy).Contents (Elt F) → (⟨S8x49104x80, .i1⟩ : BufTy).Contents (Elt F)),
    unary main_v104 main_v107 (broadcastInDim S8x49104x80 ![0, 1, 2] bcast_S8x49104x1_S8x49104x80_0_1_2 : (⟨S8x49104x1, .i1⟩ : BufTy).Contents (Elt F) → (⟨S8x49104x80, .i1⟩ : BufTy).Contents (Elt F)),
    binary main_v107 main_v106 main_v108 (andi : (⟨S8x49104x80, .i1⟩ : BufTy).Contents (Elt F) → (⟨S8x49104x80, .i1⟩ : BufTy).Contents (Elt F) → (⟨S8x49104x80, .i1⟩ : BufTy).Contents (Elt F)),
    nullary main_cst_14 (constant S_ .f32 0x3F800000#32),
    TRef.unary (TRef.of (T := ⟨S_, .f32⟩) main_cst_14) (TRef.of (T := ⟨S_, .f32⟩) main_call8_v0) id,
    TRef.unary (TRef.of (T := ⟨S_, .f32⟩) main_call8_v0) (TRef.of (T := ⟨S8x49104x80, .f32⟩) main_call8_v1) (broadcastInDim S8x49104x80 ![] bcast_S_S8x49104x80),
    TRef.ternary (TRef.of (T := ⟨S8x49104x80, .i1⟩) main_v108) (TRef.of (T := ⟨S8x49104x80, .f32⟩) main_call8_v1) (TRef.of (T := ⟨S8x49104x80, .f32⟩) main_v99) (TRef.of (T := ⟨S8x49104x80, .f32⟩) main_v109) select,
    nullary main_cst_15 (constant S_ .f32 0x3F800000#32),
    unary main_cst_15 main_v110 (broadcastInDim S8x49104x80 ![] bcast_S_S8x49104x80 : (⟨S_, .f32⟩ : BufTy).Contents (Elt F) → (⟨S8x49104x80, .f32⟩ : BufTy).Contents (Elt F)),
    binary main_v109 main_v110 main_v111 (cmpf .oeq : (⟨S8x49104x80, .f32⟩ : BufTy).Contents (Elt F) → (⟨S8x49104x80, .f32⟩ : BufTy).Contents (Elt F) → (⟨S8x49104x80, .i1⟩ : BufTy).Contents (Elt F)),
    nullary main_cst_16 (constant S_ .f32 0x3F800000#32),
    unary main_cst_16 main_v112 (broadcastInDim S8x49104x80 ![] bcast_S_S8x49104x80 : (⟨S_, .f32⟩ : BufTy).Contents (Elt F) → (⟨S8x49104x80, .f32⟩ : BufTy).Contents (Elt F)),
    binary main_v112 main_v21 main_v113 (subf : (⟨S8x49104x80, .f32⟩ : BufTy).Contents (Elt F) → (⟨S8x49104x80, .f32⟩ : BufTy).Contents (Elt F) → (⟨S8x49104x80, .f32⟩ : BufTy).Contents (Elt F)),
    TRef.ternary (TRef.of (T := ⟨S8x49104x80, .i1⟩) main_v111) (TRef.of (T := ⟨S8x49104x80, .f32⟩) main_v113) (TRef.of (T := ⟨S8x49104x80, .f32⟩) main_v21) (TRef.of (T := ⟨S8x49104x80, .f32⟩) main_v114) select,
    nullary main_cst_17 (constant S_ .f32 0x40000000#32),
    unary main_cst_17 main_v115 (broadcastInDim S8x49104x80 ![] bcast_S_S8x49104x80 : (⟨S_, .f32⟩ : BufTy).Contents (Elt F) → (⟨S8x49104x80, .f32⟩ : BufTy).Contents (Elt F)),
    binary main_v114 main_v115 main_v116 (Host.powf : (⟨S8x49104x80, .f32⟩ : BufTy).Contents (Elt F) → (⟨S8x49104x80, .f32⟩ : BufTy).Contents (Elt F) → (⟨S8x49104x80, .f32⟩ : BufTy).Contents (Elt F)),
    nullary main_cst_18 (constant S_ .f32 0x3E800000#32),
    unary main_cst_18 main_v117 (broadcastInDim S8x49104x80 ![] bcast_S_S8x49104x80 : (⟨S_, .f32⟩ : BufTy).Contents (Elt F) → (⟨S8x49104x80, .f32⟩ : BufTy).Contents (Elt F)),
    binary main_v117 main_v116 main_v118 (mulf : (⟨S8x49104x80, .f32⟩ : BufTy).Contents (Elt F) → (⟨S8x49104x80, .f32⟩ : BufTy).Contents (Elt F) → (⟨S8x49104x80, .f32⟩ : BufTy).Contents (Elt F)),
    unary main_v21 main_v119 (Host.log : (⟨S8x49104x80, .f32⟩ : BufTy).Contents (Elt F) → (⟨S8x49104x80, .f32⟩ : BufTy).Contents (Elt F)),
    binary main_v109 main_v119 main_v120 (mulf : (⟨S8x49104x80, .f32⟩ : BufTy).Contents (Elt F) → (⟨S8x49104x80, .f32⟩ : BufTy).Contents (Elt F) → (⟨S8x49104x80, .f32⟩ : BufTy).Contents (Elt F)),
    nullary main_cst_19 (constant S_ .f32 0x3F800000#32),
    unary main_cst_19 main_v121 (broadcastInDim S8x49104x80 ![] bcast_S_S8x49104x80 : (⟨S_, .f32⟩ : BufTy).Contents (Elt F) → (⟨S8x49104x80, .f32⟩ : BufTy).Contents (Elt F)),
    binary main_v121 main_v109 main_v122 (subf : (⟨S8x49104x80, .f32⟩ : BufTy).Contents (Elt F) → (⟨S8x49104x80, .f32⟩ : BufTy).Contents (Elt F) → (⟨S8x49104x80, .f32⟩ : BufTy).Contents (Elt F)),
    nullary main_cst_20 (constant S_ .f32 0x3F800000#32),
    unary main_cst_20 main_v123 (broadcastInDim S8x49104x80 ![] bcast_S_S8x49104x80 : (⟨S_, .f32⟩ : BufTy).Contents (Elt F) → (⟨S8x49104x80, .f32⟩ : BufTy).Contents (Elt F)),
    binary main_v123 main_v21 main_v124 (subf : (⟨S8x49104x80, .f32⟩ : BufTy).Contents (Elt F) → (⟨S8x49104x80, .f32⟩ : BufTy).Contents (Elt F) → (⟨S8x49104x80, .f32⟩ : BufTy).Contents (Elt F)) ]

/-- @main's operations 196 … 225 of 315 (window `main_part2`). -/
abbrev ops_part2_1 : List (HloOp τ sig (Elt F)) :=
  [ unary main_v124 main_v125 (Host.log : (⟨S8x49104x80, .f32⟩ : BufTy).Contents (Elt F) → (⟨S8x49104x80, .f32⟩ : BufTy).Contents (Elt F)),
    binary main_v122 main_v125 main_v126 (mulf : (⟨S8x49104x80, .f32⟩ : BufTy).Contents (Elt F) → (⟨S8x49104x80, .f32⟩ : BufTy).Contents (Elt F) → (⟨S8x49104x80, .f32⟩ : BufTy).Contents (Elt F)),
    binary main_v120 main_v126 main_v127 (addf : (⟨S8x49104x80, .f32⟩ : BufTy).Contents (Elt F) → (⟨S8x49104x80, .f32⟩ : BufTy).Contents (Elt F) → (⟨S8x49104x80, .f32⟩ : BufTy).Contents (Elt F)),
    unary main_v127 main_v128 (Host.negf : (⟨S8x49104x80, .f32⟩ : BufTy).Contents (Elt F) → (⟨S8x49104x80, .f32⟩ : BufTy).Contents (Elt F)),
    binary main_v118 main_v128 main_v129 (mulf : (⟨S8x49104x80, .f32⟩ : BufTy).Contents (Elt F) → (⟨S8x49104x80, .f32⟩ : BufTy).Contents (Elt F) → (⟨S8x49104x80, .f32⟩ : BufTy).Contents (Elt F)),
    nullary main_cst_21 (constant S_ .f32 0xBF800000#32),
    unary main_cst_21 main_v130 (broadcastInDim S8x49104x80 ![] bcast_S_S8x49104x80 : (⟨S_, .f32⟩ : BufTy).Contents (Elt F) → (⟨S8x49104x80, .f32⟩ : BufTy).Contents (Elt F)),
    binary main_v109 main_v130 main_v131 (cmpf .une : (⟨S8x49104x80, .f32⟩ : BufTy).Contents (Elt F) → (⟨S8x49104x80, .f32⟩ : BufTy).Contents (Elt F) → (⟨S8x49104x80, .i1⟩ : BufTy).Contents (Elt F)),
    nullary main_cst_22 (constant S_ .f32 0x00000000#32),
    TRef.unary (TRef.of (T := ⟨S_, .f32⟩) main_cst_22) (TRef.of (T := ⟨S_, .f32⟩) main_call10_v0) id,
    TRef.unary (TRef.of (T := ⟨S_, .f32⟩) main_call10_v0) (TRef.of (T := ⟨S8x49104x80, .f32⟩) main_call10_v1) (broadcastInDim S8x49104x80 ![] bcast_S_S8x49104x80),
    TRef.ternary (TRef.of (T := ⟨S8x49104x80, .i1⟩) main_v131) (TRef.of (T := ⟨S8x49104x80, .f32⟩) main_v129) (TRef.of (T := ⟨S8x49104x80, .f32⟩) main_call10_v1) (TRef.of (T := ⟨S8x49104x80, .f32⟩) main_v132) select,
    nullary main_cst_23 (constant S_ .f32 0x00000000#32),
    binary main_v132 main_cst_23 main_v133 ((fun x v => Host.reduceAdd x v reducesTo_S8x49104x80_S8_d1_2 h_S_) : (⟨S8x49104x80, .f32⟩ : BufTy).Contents (Elt F) → (⟨S_, .f32⟩ : BufTy).Contents (Elt F) → (⟨S8, .f32⟩ : BufTy).Contents (Elt F)),
    unary main_v90 main_v134 (sitofp .f32 : (⟨S8, .i32⟩ : BufTy).Contents (Elt F) → (⟨S8, .f32⟩ : BufTy).Contents (Elt F)),
    nullary main_cst_24 (constant S_ .f32 0x3F800000#32),
    unary main_cst_24 main_v135 (broadcastInDim S8 ![] bcast_S_S8 : (⟨S_, .f32⟩ : BufTy).Contents (Elt F) → (⟨S8, .f32⟩ : BufTy).Contents (Elt F)),
    binary main_v134 main_v135 main_v136 (maximumf : (⟨S8, .f32⟩ : BufTy).Contents (Elt F) → (⟨S8, .f32⟩ : BufTy).Contents (Elt F) → (⟨S8, .f32⟩ : BufTy).Contents (Elt F)),
    binary main_v133 main_v136 main_v137 (Host.divf : (⟨S8, .f32⟩ : BufTy).Contents (Elt F) → (⟨S8, .f32⟩ : BufTy).Contents (Elt F) → (⟨S8, .f32⟩ : BufTy).Contents (Elt F)),
    unary main_v92 main_v138 ((extractStridedSlice S8x49104x1 ![0, 0, 2] · slices_S8x49104x5_S8x49104x1_0_0_2) : (⟨S8x49104x5, .f32⟩ : BufTy).Contents (Elt F) → (⟨S8x49104x1, .f32⟩ : BufTy).Contents (Elt F)),
    reshape main_v138 main_v139 (rfl : (.f32 : EltTy) = .f32) shapeCasts_S8x49104x1_S8x49104,
    unary main_v92 main_v140 ((extractStridedSlice S8x49104x1 ![0, 0, 0] · slices_S8x49104x5_S8x49104x1_0_0_0) : (⟨S8x49104x5, .f32⟩ : BufTy).Contents (Elt F) → (⟨S8x49104x1, .f32⟩ : BufTy).Contents (Elt F)),
    reshape main_v140 main_v141 (rfl : (.f32 : EltTy) = .f32) shapeCasts_S8x49104x1_S8x49104,
    binary main_v139 main_v141 main_v142 (subf : (⟨S8x49104, .f32⟩ : BufTy).Contents (Elt F) → (⟨S8x49104, .f32⟩ : BufTy).Contents (Elt F) → (⟨S8x49104, .f32⟩ : BufTy).Contents (Elt F)),
    unary main_v92 main_v143 ((extractStridedSlice S8x49104x1 ![0, 0, 3] · slices_S8x49104x5_S8x49104x1_0_0_3) : (⟨S8x49104x5, .f32⟩ : BufTy).Contents (Elt F) → (⟨S8x49104x1, .f32⟩ : BufTy).Contents (Elt F)),
    reshape main_v143 main_v144 (rfl : (.f32 : EltTy) = .f32) shapeCasts_S8x49104x1_S8x49104,
    unary main_v92 main_v145 ((extractStridedSlice S8x49104x1 ![0, 0, 1] · slices_S8x49104x5_S8x49104x1_0_0_1) : (⟨S8x49104x5, .f32⟩ : BufTy).Contents (Elt F) → (⟨S8x49104x1, .f32⟩ : BufTy).Contents (Elt F)),
    reshape main_v145 main_v146 (rfl : (.f32 : EltTy) = .f32) shapeCasts_S8x49104x1_S8x49104,
    binary main_v144 main_v146 main_v147 (subf : (⟨S8x49104, .f32⟩ : BufTy).Contents (Elt F) → (⟨S8x49104, .f32⟩ : BufTy).Contents (Elt F) → (⟨S8x49104, .f32⟩ : BufTy).Contents (Elt F)),
    unary main_v92 main_v148 ((extractStridedSlice S8x49104x1 ![0, 0, 0] · slices_S8x49104x5_S8x49104x1_0_0_0) : (⟨S8x49104x5, .f32⟩ : BufTy).Contents (Elt F) → (⟨S8x49104x1, .f32⟩ : BufTy).Contents (Elt F)) ]

/-- @main's operations 226 … 229 of 315 (window `main_part2`). -/
abbrev ops_part2_2 : List (HloOp τ sig (Elt F)) :=
  [ reshape main_v148 main_v149 (rfl : (.f32 : EltTy) = .f32) shapeCasts_S8x49104x1_S8x49104,
    nullary main_cst_25 (constant S_ .f32 0x3F000000#32),
    unary main_cst_25 main_v150 (broadcastInDim S8x49104 ![] bcast_S_S8x49104 : (⟨S_, .f32⟩ : BufTy).Contents (Elt F) → (⟨S8x49104, .f32⟩ : BufTy).Contents (Elt F)),
    binary main_v150 main_v142 main_v151 (mulf : (⟨S8x49104, .f32⟩ : BufTy).Contents (Elt F) → (⟨S8x49104, .f32⟩ : BufTy).Contents (Elt F) → (⟨S8x49104, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 230 … 289 of 315 (window `main_part3`). -/
abbrev ops_part3 : List (HloOp τ sig (Elt F)) :=
  [ binary main_v149 main_v151 main_v152 (addf : (⟨S8x49104, .f32⟩ : BufTy).Contents (Elt F) → (⟨S8x49104, .f32⟩ : BufTy).Contents (Elt F) → (⟨S8x49104, .f32⟩ : BufTy).Contents (Elt F)),
    unary main_v92 main_v153 ((extractStridedSlice S8x49104x1 ![0, 0, 1] · slices_S8x49104x5_S8x49104x1_0_0_1) : (⟨S8x49104x5, .f32⟩ : BufTy).Contents (Elt F) → (⟨S8x49104x1, .f32⟩ : BufTy).Contents (Elt F)),
    reshape main_v153 main_v154 (rfl : (.f32 : EltTy) = .f32) shapeCasts_S8x49104x1_S8x49104,
    nullary main_cst_26 (constant S_ .f32 0x3F000000#32),
    unary main_cst_26 main_v155 (broadcastInDim S8x49104 ![] bcast_S_S8x49104 : (⟨S_, .f32⟩ : BufTy).Contents (Elt F) → (⟨S8x49104, .f32⟩ : BufTy).Contents (Elt F)),
    binary main_v155 main_v147 main_v156 (mulf : (⟨S8x49104, .f32⟩ : BufTy).Contents (Elt F) → (⟨S8x49104, .f32⟩ : BufTy).Contents (Elt F) → (⟨S8x49104, .f32⟩ : BufTy).Contents (Elt F)),
    binary main_v154 main_v156 main_v157 (addf : (⟨S8x49104, .f32⟩ : BufTy).Contents (Elt F) → (⟨S8x49104, .f32⟩ : BufTy).Contents (Elt F) → (⟨S8x49104, .f32⟩ : BufTy).Contents (Elt F)),
    nullary main_cst_27 (constant S_ .f32 0x3F800000#32),
    unary main_cst_27 main_v158 (broadcastInDim S8x49104 ![] bcast_S_S8x49104 : (⟨S_, .f32⟩ : BufTy).Contents (Elt F) → (⟨S8x49104, .f32⟩ : BufTy).Contents (Elt F)),
    binary main_v142 main_v158 main_v159 (maximumf : (⟨S8x49104, .f32⟩ : BufTy).Contents (Elt F) → (⟨S8x49104, .f32⟩ : BufTy).Contents (Elt F) → (⟨S8x49104, .f32⟩ : BufTy).Contents (Elt F)),
    nullary main_cst_28 (constant S_ .f32 0x3F800000#32),
    unary main_cst_28 main_v160 (broadcastInDim S8x49104 ![] bcast_S_S8x49104 : (⟨S_, .f32⟩ : BufTy).Contents (Elt F) → (⟨S8x49104, .f32⟩ : BufTy).Contents (Elt F)),
    binary main_v147 main_v160 main_v161 (maximumf : (⟨S8x49104, .f32⟩ : BufTy).Contents (Elt F) → (⟨S8x49104, .f32⟩ : BufTy).Contents (Elt F) → (⟨S8x49104, .f32⟩ : BufTy).Contents (Elt F)),
    unary main_v15 main_v162 (broadcastInDim S1x49104 ![1] bcast_S49104_S1x49104_1 : (⟨S49104, .f32⟩ : BufTy).Contents (Elt F) → (⟨S1x49104, .f32⟩ : BufTy).Contents (Elt F)),
    unary main_v162 main_v163 (broadcastInDim S8x49104 ![0, 1] bcast_S1x49104_S8x49104_0_1 : (⟨S1x49104, .f32⟩ : BufTy).Contents (Elt F) → (⟨S8x49104, .f32⟩ : BufTy).Contents (Elt F)),
    binary main_v152 main_v163 main_v164 (subf : (⟨S8x49104, .f32⟩ : BufTy).Contents (Elt F) → (⟨S8x49104, .f32⟩ : BufTy).Contents (Elt F) → (⟨S8x49104, .f32⟩ : BufTy).Contents (Elt F)),
    unary main_v5 main_v165 (broadcastInDim S1x49104 ![1] bcast_S49104_S1x49104_1 : (⟨S49104, .f32⟩ : BufTy).Contents (Elt F) → (⟨S1x49104, .f32⟩ : BufTy).Contents (Elt F)),
    unary main_v165 main_v166 (broadcastInDim S8x49104 ![0, 1] bcast_S1x49104_S8x49104_0_1 : (⟨S1x49104, .f32⟩ : BufTy).Contents (Elt F) → (⟨S8x49104, .f32⟩ : BufTy).Contents (Elt F)),
    binary main_v164 main_v166 main_v167 (Host.divf : (⟨S8x49104, .f32⟩ : BufTy).Contents (Elt F) → (⟨S8x49104, .f32⟩ : BufTy).Contents (Elt F) → (⟨S8x49104, .f32⟩ : BufTy).Contents (Elt F)),
    unary main_v20 main_v168 (broadcastInDim S1x49104 ![1] bcast_S49104_S1x49104_1 : (⟨S49104, .f32⟩ : BufTy).Contents (Elt F) → (⟨S1x49104, .f32⟩ : BufTy).Contents (Elt F)),
    unary main_v168 main_v169 (broadcastInDim S8x49104 ![0, 1] bcast_S1x49104_S8x49104_0_1 : (⟨S1x49104, .f32⟩ : BufTy).Contents (Elt F) → (⟨S8x49104, .f32⟩ : BufTy).Contents (Elt F)),
    binary main_v157 main_v169 main_v170 (subf : (⟨S8x49104, .f32⟩ : BufTy).Contents (Elt F) → (⟨S8x49104, .f32⟩ : BufTy).Contents (Elt F) → (⟨S8x49104, .f32⟩ : BufTy).Contents (Elt F)),
    unary main_v10 main_v171 (broadcastInDim S1x49104 ![1] bcast_S49104_S1x49104_1 : (⟨S49104, .f32⟩ : BufTy).Contents (Elt F) → (⟨S1x49104, .f32⟩ : BufTy).Contents (Elt F)),
    unary main_v171 main_v172 (broadcastInDim S8x49104 ![0, 1] bcast_S1x49104_S8x49104_0_1 : (⟨S1x49104, .f32⟩ : BufTy).Contents (Elt F) → (⟨S8x49104, .f32⟩ : BufTy).Contents (Elt F)),
    binary main_v170 main_v172 main_v173 (Host.divf : (⟨S8x49104, .f32⟩ : BufTy).Contents (Elt F) → (⟨S8x49104, .f32⟩ : BufTy).Contents (Elt F) → (⟨S8x49104, .f32⟩ : BufTy).Contents (Elt F)),
    unary main_v5 main_v174 (broadcastInDim S1x49104 ![1] bcast_S49104_S1x49104_1 : (⟨S49104, .f32⟩ : BufTy).Contents (Elt F) → (⟨S1x49104, .f32⟩ : BufTy).Contents (Elt F)),
    unary main_v174 main_v175 (broadcastInDim S8x49104 ![0, 1] bcast_S1x49104_S8x49104_0_1 : (⟨S1x49104, .f32⟩ : BufTy).Contents (Elt F) → (⟨S8x49104, .f32⟩ : BufTy).Contents (Elt F)),
    binary main_v159 main_v175 main_v176 (Host.divf : (⟨S8x49104, .f32⟩ : BufTy).Contents (Elt F) → (⟨S8x49104, .f32⟩ : BufTy).Contents (Elt F) → (⟨S8x49104, .f32⟩ : BufTy).Contents (Elt F)),
    unary main_v176 main_v177 (Host.log : (⟨S8x49104, .f32⟩ : BufTy).Contents (Elt F) → (⟨S8x49104, .f32⟩ : BufTy).Contents (Elt F)),
    unary main_v10 main_v178 (broadcastInDim S1x49104 ![1] bcast_S49104_S1x49104_1 : (⟨S49104, .f32⟩ : BufTy).Contents (Elt F) → (⟨S1x49104, .f32⟩ : BufTy).Contents (Elt F)),
    unary main_v178 main_v179 (broadcastInDim S8x49104 ![0, 1] bcast_S1x49104_S8x49104_0_1 : (⟨S1x49104, .f32⟩ : BufTy).Contents (Elt F) → (⟨S8x49104, .f32⟩ : BufTy).Contents (Elt F)),
    binary main_v161 main_v179 main_v180 (Host.divf : (⟨S8x49104, .f32⟩ : BufTy).Contents (Elt F) → (⟨S8x49104, .f32⟩ : BufTy).Contents (Elt F) → (⟨S8x49104, .f32⟩ : BufTy).Contents (Elt F)),
    unary main_v180 main_v181 (Host.log : (⟨S8x49104, .f32⟩ : BufTy).Contents (Elt F) → (⟨S8x49104, .f32⟩ : BufTy).Contents (Elt F)),
    unary main_v167 main_v182 (broadcastInDim S8x49104x1 ![0, 1] bcast_S8x49104_S8x49104x1_0_1 : (⟨S8x49104, .f32⟩ : BufTy).Contents (Elt F) → (⟨S8x49104x1, .f32⟩ : BufTy).Contents (Elt F)),
    unary main_v173 main_v183 (broadcastInDim S8x49104x1 ![0, 1] bcast_S8x49104_S8x49104x1_0_1 : (⟨S8x49104, .f32⟩ : BufTy).Contents (Elt F) → (⟨S8x49104x1, .f32⟩ : BufTy).Contents (Elt F)),
    unary main_v177 main_v184 (broadcastInDim S8x49104x1 ![0, 1] bcast_S8x49104_S8x49104x1_0_1 : (⟨S8x49104, .f32⟩ : BufTy).Contents (Elt F) → (⟨S8x49104x1, .f32⟩ : BufTy).Contents (Elt F)),
    unary main_v181 main_v185 (broadcastInDim S8x49104x1 ![0, 1] bcast_S8x49104_S8x49104x1_0_1 : (⟨S8x49104, .f32⟩ : BufTy).Contents (Elt F) → (⟨S8x49104x1, .f32⟩ : BufTy).Contents (Elt F)),
    nary ![main_v182, main_v183, main_v184, main_v185] main_v186 (fun u => fn_main_v186 (F := F) (u 0) (u 1) (u 2) (u 3)),
    unary main_cst main_v187 (broadcastInDim S8x49104x4 ![0, 1, 2] bcast_S1x1x4_S8x49104x4_0_1_2 : (⟨S1x1x4, .f32⟩ : BufTy).Contents (Elt F) → (⟨S8x49104x4, .f32⟩ : BufTy).Contents (Elt F)),
    binary main_v186 main_v187 main_v188 (Host.divf : (⟨S8x49104x4, .f32⟩ : BufTy).Contents (Elt F) → (⟨S8x49104x4, .f32⟩ : BufTy).Contents (Elt F) → (⟨S8x49104x4, .f32⟩ : BufTy).Contents (Elt F)),
    binary main_v188 main_arg1 main_v189 (subf : (⟨S8x49104x4, .f32⟩ : BufTy).Contents (Elt F) → (⟨S8x49104x4, .f32⟩ : BufTy).Contents (Elt F) → (⟨S8x49104x4, .f32⟩ : BufTy).Contents (Elt F)),
    unary main_v189 main_v190 (Host.absf : (⟨S8x49104x4, .f32⟩ : BufTy).Contents (Elt F) → (⟨S8x49104x4, .f32⟩ : BufTy).Contents (Elt F)),
    nullary main_cst_29 (constant S_ .f32 0x3DE38E39#32),
    unary main_cst_29 main_v191 (broadcastInDim S8x49104x4 ![] bcast_S_S8x49104x4 : (⟨S_, .f32⟩ : BufTy).Contents (Elt F) → (⟨S8x49104x4, .f32⟩ : BufTy).Contents (Elt F)),
    binary main_v190 main_v191 main_v192 (cmpf .ole : (⟨S8x49104x4, .f32⟩ : BufTy).Contents (Elt F) → (⟨S8x49104x4, .f32⟩ : BufTy).Contents (Elt F) → (⟨S8x49104x4, .i1⟩ : BufTy).Contents (Elt F)),
    binary main_v190 main_v190 main_v193 (mulf : (⟨S8x49104x4, .f32⟩ : BufTy).Contents (Elt F) → (⟨S8x49104x4, .f32⟩ : BufTy).Contents (Elt F) → (⟨S8x49104x4, .f32⟩ : BufTy).Contents (Elt F)),
    nullary main_cst_30 (constant S_ .f32 0x40900000#32),
    unary main_cst_30 main_v194 (broadcastInDim S8x49104x4 ![] bcast_S_S8x49104x4 : (⟨S_, .f32⟩ : BufTy).Contents (Elt F) → (⟨S8x49104x4, .f32⟩ : BufTy).Contents (Elt F)),
    binary main_v194 main_v193 main_v195 (mulf : (⟨S8x49104x4, .f32⟩ : BufTy).Contents (Elt F) → (⟨S8x49104x4, .f32⟩ : BufTy).Contents (Elt F) → (⟨S8x49104x4, .f32⟩ : BufTy).Contents (Elt F)),
    nullary main_cst_31 (constant S_ .f32 0x3D638E39#32),
    unary main_cst_31 main_v196 (broadcastInDim S8x49104x4 ![] bcast_S_S8x49104x4 : (⟨S_, .f32⟩ : BufTy).Contents (Elt F) → (⟨S8x49104x4, .f32⟩ : BufTy).Contents (Elt F)),
    binary main_v190 main_v196 main_v197 (subf : (⟨S8x49104x4, .f32⟩ : BufTy).Contents (Elt F) → (⟨S8x49104x4, .f32⟩ : BufTy).Contents (Elt F) → (⟨S8x49104x4, .f32⟩ : BufTy).Contents (Elt F)),
    TRef.ternary (TRef.of (T := ⟨S8x49104x4, .i1⟩) main_v192) (TRef.of (T := ⟨S8x49104x4, .f32⟩) main_v195) (TRef.of (T := ⟨S8x49104x4, .f32⟩) main_v197) (TRef.of (T := ⟨S8x49104x4, .f32⟩) main_v198) select,
    unary main_v88 main_v199 (broadcastInDim S8x49104x1 ![0, 1] bcast_S8x49104_S8x49104x1_0_1 : (⟨S8x49104, .i1⟩ : BufTy).Contents (Elt F) → (⟨S8x49104x1, .i1⟩ : BufTy).Contents (Elt F)),
    unary main_v199 main_v200 (uitofp .f32 : (⟨S8x49104x1, .i1⟩ : BufTy).Contents (Elt F) → (⟨S8x49104x1, .f32⟩ : BufTy).Contents (Elt F)),
    unary main_v200 main_v201 (broadcastInDim S8x49104x4 ![0, 1, 2] bcast_S8x49104x1_S8x49104x4_0_1_2 : (⟨S8x49104x1, .f32⟩ : BufTy).Contents (Elt F) → (⟨S8x49104x4, .f32⟩ : BufTy).Contents (Elt F)),
    binary main_v198 main_v201 main_v202 (mulf : (⟨S8x49104x4, .f32⟩ : BufTy).Contents (Elt F) → (⟨S8x49104x4, .f32⟩ : BufTy).Contents (Elt F) → (⟨S8x49104x4, .f32⟩ : BufTy).Contents (Elt F)),
    nullary main_cst_32 (constant S_ .f32 0x00000000#32),
    binary main_v202 main_cst_32 main_v203 ((fun x v => Host.reduceAdd x v reducesTo_S8x49104x4_S8_d1_2 h_S_) : (⟨S8x49104x4, .f32⟩ : BufTy).Contents (Elt F) → (⟨S_, .f32⟩ : BufTy).Contents (Elt F) → (⟨S8, .f32⟩ : BufTy).Contents (Elt F)),
    nullary main_c_33 (constantI S_ 32 0#32) ]

/-- @main's operations 290 … 315 of 315 (window `main_part4`). -/
abbrev ops_part4 : List (HloOp τ sig (Elt F)) :=
  [ unary main_c_33 main_v204 (broadcastInDim S8 ![] bcast_S_S8 : (⟨S_, .i32⟩ : BufTy).Contents (Elt F) → (⟨S8, .i32⟩ : BufTy).Contents (Elt F)),
    binary main_v90 main_v204 main_v205 (cmpi .sgt : (⟨S8, .i32⟩ : BufTy).Contents (Elt F) → (⟨S8, .i32⟩ : BufTy).Contents (Elt F) → (⟨S8, .i1⟩ : BufTy).Contents (Elt F)),
    nullary main_c_34 (constantI S_ 32 1#32),
    unary main_c_34 main_v206 (broadcastInDim S8 ![] bcast_S_S8 : (⟨S_, .i32⟩ : BufTy).Contents (Elt F) → (⟨S8, .i32⟩ : BufTy).Contents (Elt F)),
    binary main_v90 main_v206 main_v207 (maxsi : (⟨S8, .i32⟩ : BufTy).Contents (Elt F) → (⟨S8, .i32⟩ : BufTy).Contents (Elt F) → (⟨S8, .i32⟩ : BufTy).Contents (Elt F)),
    unary main_v207 main_v208 (sitofp .f32 : (⟨S8, .i32⟩ : BufTy).Contents (Elt F) → (⟨S8, .f32⟩ : BufTy).Contents (Elt F)),
    nullary main_cst_35 (constant S_ .f32 0x40800000#32),
    unary main_cst_35 main_v209 (broadcastInDim S8 ![] bcast_S_S8 : (⟨S_, .f32⟩ : BufTy).Contents (Elt F) → (⟨S8, .f32⟩ : BufTy).Contents (Elt F)),
    binary main_v208 main_v209 main_v210 (mulf : (⟨S8, .f32⟩ : BufTy).Contents (Elt F) → (⟨S8, .f32⟩ : BufTy).Contents (Elt F) → (⟨S8, .f32⟩ : BufTy).Contents (Elt F)),
    binary main_v203 main_v210 main_v211 (Host.divf : (⟨S8, .f32⟩ : BufTy).Contents (Elt F) → (⟨S8, .f32⟩ : BufTy).Contents (Elt F) → (⟨S8, .f32⟩ : BufTy).Contents (Elt F)),
    nullary main_cst_36 (constant S_ .f32 0x00000000#32),
    TRef.unary (TRef.of (T := ⟨S_, .f32⟩) main_cst_36) (TRef.of (T := ⟨S_, .f32⟩) main_call12_v0) id,
    TRef.unary (TRef.of (T := ⟨S_, .f32⟩) main_call12_v0) (TRef.of (T := ⟨S8, .f32⟩) main_call12_v1) (broadcastInDim S8 ![] bcast_S_S8),
    TRef.ternary (TRef.of (T := ⟨S8, .i1⟩) main_v205) (TRef.of (T := ⟨S8, .f32⟩) main_v211) (TRef.of (T := ⟨S8, .f32⟩) main_call12_v1) (TRef.of (T := ⟨S8, .f32⟩) main_v212) select,
    nullary main_cst_37 (constant S_ .f32 0x00000000#32),
    binary main_v137 main_cst_37 main_v213 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v213 main_v214 (broadcastInDim S1 ![] bcast_S_S1 : (⟨S_, .f32⟩ : BufTy).Contents (Elt F) → (⟨S1, .f32⟩ : BufTy).Contents (Elt F)),
    nullary main_cst_38 (constant S_ .f32 0x41000000#32),
    unary main_cst_38 main_v215 (broadcastInDim S1 ![] bcast_S_S1 : (⟨S_, .f32⟩ : BufTy).Contents (Elt F) → (⟨S1, .f32⟩ : BufTy).Contents (Elt F)),
    binary main_v214 main_v215 main_v216 (Host.divf : (⟨S1, .f32⟩ : BufTy).Contents (Elt F) → (⟨S1, .f32⟩ : BufTy).Contents (Elt F) → (⟨S1, .f32⟩ : BufTy).Contents (Elt F)),
    nullary main_cst_39 (constant S_ .f32 0x00000000#32),
    binary main_v212 main_cst_39 main_v217 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v217 main_v218 (broadcastInDim S1 ![] bcast_S_S1 : (⟨S_, .f32⟩ : BufTy).Contents (Elt F) → (⟨S1, .f32⟩ : BufTy).Contents (Elt F)),
    nullary main_cst_40 (constant S_ .f32 0x41000000#32),
    unary main_cst_40 main_v219 (broadcastInDim S1 ![] bcast_S_S1 : (⟨S_, .f32⟩ : BufTy).Contents (Elt F) → (⟨S1, .f32⟩ : BufTy).Contents (Elt F)),
    binary main_v218 main_v219 main_v220 (Host.divf : (⟨S1, .f32⟩ : BufTy).Contents (Elt F) → (⟨S1, .f32⟩ : BufTy).Contents (Elt F) → (⟨S1, .f32⟩ : BufTy).Contents (Elt F)) ]

/-- @main's 315 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., nullary_bufs_sub .., nullary_bufs_sub .., unary_bufs_sub .., unary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., unary_bufs_sub .., reshape_bufs_sub .., unary_bufs_sub .., unary_bufs_sub .., unary_bufs_sub .., binary_bufs_sub .., unary_bufs_sub .., reshape_bufs_sub .., unary_bufs_sub .., unary_bufs_sub .., reshape_bufs_sub .., unary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., binary_bufs_sub .., binary_bufs_sub .., unary_bufs_sub .., reshape_bufs_sub ..⟩
set_option maxRecDepth 8192 in
theorem ops_part0_2_fresh : (ops_part0_2 : List (HloOp τ sig (Elt F))).Forall fun op => op.fresh = ∅ :=
  ⟨rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., unary_bufs_sub .., reshape_bufs_sub .., unary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., binary_bufs_sub .., nullary_bufs_sub .., unary_bufs_sub .., unary_bufs_sub .., binary_bufs_sub .., nullary_bufs_sub .., unary_bufs_sub .., unary_bufs_sub .., binary_bufs_sub .., binary_bufs_sub .., unary_bufs_sub .., unary_bufs_sub .., unary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., nullary_bufs_sub .., unary_bufs_sub .., binary_bufs_sub .., unary_bufs_sub .., nullary_bufs_sub .., unary_bufs_sub .., unary_bufs_sub .., unary_bufs_sub .., ternary_bufs_sub .., unary_bufs_sub .., nullary_bufs_sub .., unary_bufs_sub .., unary_bufs_sub .., unary_bufs_sub .., ternary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_3_sub : (ops_part1_3 : List (HloOp τ sig (Elt F))).Forall fun op => op.bufs ⊆ tcRefs τ sig :=
  ⟨unary_bufs_sub .., reshape_bufs_sub .., unary_bufs_sub .., unary_bufs_sub .., nullary_bufs_sub .., unary_bufs_sub .., unary_bufs_sub .., binary_bufs_sub .., unary_bufs_sub .., unary_bufs_sub ..⟩
set_option maxRecDepth 8192 in
theorem ops_part1_3_fresh : (ops_part1_3 : List (HloOp τ sig (Elt F))).Forall fun op => op.fresh = ∅ :=
  ⟨rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., nullary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨reshape_bufs_sub .., nullary_bufs_sub .., unary_bufs_sub .., binary_bufs_sub ..⟩
set_option maxRecDepth 8192 in
theorem ops_part2_2_fresh : (ops_part2_2 : List (HloOp τ sig (Elt F))).Forall fun op => op.fresh = ∅ :=
  ⟨rfl, rfl, rfl, rfl⟩
set_option maxRecDepth 8192 in
theorem ops_part3_sub : (ops_part3 : List (HloOp τ sig (Elt F))).Forall fun op => op.bufs ⊆ tcRefs τ sig :=
  ⟨binary_bufs_sub .., unary_bufs_sub .., reshape_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., unary_bufs_sub .., unary_bufs_sub .., unary_bufs_sub .., unary_bufs_sub .., unary_bufs_sub .., nary_bufs_sub .., unary_bufs_sub .., binary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., binary_bufs_sub .., nullary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., unary_bufs_sub .., ternary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part2_0_sub op h, List.forall_iff_forall_mem.mp ops_part2_1_sub op h, List.forall_iff_forall_mem.mp ops_part2_2_sub op h, List.forall_iff_forall_mem.mp ops_part3_sub op h, List.forall_iff_forall_mem.mp ops_part4_sub op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part2_0_fresh op h, List.forall_iff_forall_mem.mp ops_part2_1_fresh op h, List.forall_iff_forall_mem.mp ops_part2_2_fresh op h, List.forall_iff_forall_mem.mp ops_part3_fresh op h, List.forall_iff_forall_mem.mp ops_part4_fresh op h]

end Cert.ReferenceIdeal.Value
-- ==== Proof.RefRunA.lean ====
/- The buffers of the reference program after its first windows of operations, as terms of its arguments. -/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
/-- `main_v0`'s composed term of the arguments (named: it is used 10 times). -/
def res_main_v0 (V0 : Valuation τ sig (Elt F)) : (Proc.devRef .tc main_v0 : DevRef τ sig).ty.Contents (Elt F) :=
  shapeCast _ (V0 (Proc.devRef .tc main_arg2)) shapeCasts_S1x49104x4_S49104x4

set_option maxRecDepth 8192 in
/-- `main_v5`'s composed term of the arguments (named: it is used 4 times). -/
def res_main_v5 (V0 : Valuation τ sig (Elt F)) : (Proc.devRef .tc main_v5 : DevRef τ sig).ty.Contents (Elt F) :=
  subf (shapeCast _ (extractStridedSlice S49104x1 ![0, 2] (res_main_v0 V0) slices_S49104x4_S49104x1_0_2) shapeCasts_S49104x1_S49104) (shapeCast _ (extractStridedSlice S49104x1 ![0, 0] (res_main_v0 V0) slices_S49104x4_S49104x1_0_0) shapeCasts_S49104x1_S49104)

set_option maxRecDepth 8192 in
/-- `main_v10`'s composed term of the arguments (named: it is used 4 times). -/
def res_main_v10 (V0 : Valuation τ sig (Elt F)) : (Proc.devRef .tc main_v10 : DevRef τ sig).ty.Contents (Elt F) :=
  subf (shapeCast _ (extractStridedSlice S49104x1 ![0, 3] (res_main_v0 V0) slices_S49104x4_S49104x1_0_3) shapeCasts_S49104x1_S49104) (shapeCast _ (extractStridedSlice S49104x1 ![0, 1] (res_main_v0 V0) slices_S49104x4_S49104x1_0_1) shapeCasts_S49104x1_S49104)

set_option maxRecDepth 8192 in
/-- `main_v21`'s composed term of the arguments (named: it is used 4 times). -/
def res_main_v21 (V0 : Valuation τ sig (Elt F)) : (Proc.devRef .tc main_v21 : DevRef τ sig).ty.Contents (Elt F) :=
  minimumf (broadcastInDim S8x49104x80 ![] bcast_S_S8x49104x80 (id (constant S_ .f32 0x3F7FF972#32))) (maximumf (broadcastInDim S8x49104x80 ![] bcast_S_S8x49104x80 (id (constant S_ .f32 0x38D1B717#32))) (V0 (Proc.devRef .tc main_arg0)))

set_option maxRecDepth 8192 in
/-- `main_v72`'s composed term of the arguments (named: it is used 2 times). -/
def res_main_v72 (V0 : Valuation τ sig (Elt F)) : (Proc.devRef .tc main_v72 : DevRef τ sig).ty.Contents (Elt F) :=
  maximumf (broadcastInDim S8x49104x24 ![] bcast_S_S8x49104x24 (id (constant S_ .f32 0x00000000#32))) (subf (minimumf (broadcastInDim S8x49104x24 ![0, 1, 2] bcast_S1x49104x1_S8x49104x24_0_1_2 (broadcastInDim S1x49104x1 ![1] bcast_S49104_S1x49104x1_1 (shapeCast _ (extractStridedSlice S49104x1 ![0, 2] (res_main_v0 V0) slices_S49104x4_S49104x1_0_2) shapeCasts_S49104x1_S49104))) (broadcastInDim S8x49104x24 ![0, 1, 2] bcast_S8x1x24_S8x49104x24_0_1_2 (broadcastInDim S8x1x24 ![0, 2] bcast_S8x24_S8x1x24_0_2 (shapeCast _ (extractStridedSlice S8x24x1 ![0, 0, 2] (V0 (Proc.devRef .tc main_arg3)) slices_S8x24x5_S8x24x1_0_0_2) shapeCasts_S8x24x1_S8x24)))) (maximumf (broadcastInDim S8x49104x24 ![0, 1, 2] bcast_S1x49104x1_S8x49104x24_0_1_2 (broadcastInDim S1x49104x1 ![1] bcast_S49104_S1x49104x1_1 (shapeCast _ (extractStridedSlice S49104x1 ![0, 0] (res_main_v0 V0) slices_S49104x4_S49104x1_0_0) shapeCasts_S49104x1_S49104))) (broadcastInDim S8x49104x24 ![0, 1, 2] bcast_S8x1x24_S8x49104x24_0_1_2 (broadcastInDim S8x1x24 ![0, 2] bcast_S8x24_S8x1x24_0_2 (shapeCast _ (extractStridedSlice S8x24x1 ![0, 0, 0] (V0 (Proc.devRef .tc main_arg3)) slices_S8x24x5_S8x24x1_0_0_0) shapeCasts_S8x24x1_S8x24)))))

set_option maxRecDepth 8192 in
/-- `main_v73`'s composed term of the arguments (named: it is used 2 times). -/
def res_main_v73 (V0 : Valuation τ sig (Elt F)) : (Proc.devRef .tc main_v73 : DevRef τ sig).ty.Contents (Elt F) :=
  maximumf (broadcastInDim S8x49104x24 ![] bcast_S_S8x49104x24 (id (constant S_ .f32 0x00000000#32))) (subf (minimumf (broadcastInDim S8x49104x24 ![0, 1, 2] bcast_S1x49104x1_S8x49104x24_0_1_2 (broadcastInDim S1x49104x1 ![1] bcast_S49104_S1x49104x1_1 (shapeCast _ (extractStridedSlice S49104x1 ![0, 3] (res_main_v0 V0) slices_S49104x4_S49104x1_0_3) shapeCasts_S49104x1_S49104))) (broadcastInDim S8x49104x24 ![0, 1, 2] bcast_S8x1x24_S8x49104x24_0_1_2 (broadcastInDim S8x1x24 ![0, 2] bcast_S8x24_S8x1x24_0_2 (shapeCast _ (extractStridedSlice S8x24x1 ![0, 0, 3] (V0 (Proc.devRef .tc main_arg3)) slices_S8x24x5_S8x24x1_0_0_3) shapeCasts_S8x24x1_S8x24)))) (maximumf (broadcastInDim S8x49104x24 ![0, 1, 2] bcast_S1x49104x1_S8x49104x24_0_1_2 (broadcastInDim S1x49104x1 ![1] bcast_S49104_S1x49104x1_1 (shapeCast _ (extractStridedSlice S49104x1 ![0, 1] (res_main_v0 V0) slices_S49104x4_S49104x1_0_1) shapeCasts_S49104x1_S49104))) (broadcastInDim S8x49104x24 ![0, 1, 2] bcast_S8x1x24_S8x49104x24_0_1_2 (broadcastInDim S8x1x24 ![0, 2] bcast_S8x24_S8x1x24_0_2 (shapeCast _ (extractStridedSlice S8x24x1 ![0, 0, 1] (V0 (Proc.devRef .tc main_arg3)) slices_S8x24x5_S8x24x1_0_0_1) shapeCasts_S8x24x1_S8x24)))))

set_option maxRecDepth 8192 in
/-- `main_v84`'s composed term of the arguments (named: it is used 3 times). -/
def res_main_v84 (V0 : Valuation τ sig (Elt F)) : (Proc.devRef .tc main_v84 : DevRef τ sig).ty.Contents (Elt F) :=
  Host.divf (mulf (res_main_v72 V0) (res_main_v73 V0)) (maximumf (subf (addf (broadcastInDim S8x49104x24 ![0, 1, 2] bcast_S1x49104x1_S8x49104x24_0_1_2 (broadcastInDim S1x49104x1 ![1] bcast_S49104_S1x49104x1_1 (mulf (res_main_v5 V0) (res_main_v10 V0)))) (broadcastInDim S8x49104x24 ![0, 1, 2] bcast_S8x1x24_S8x49104x24_0_1_2 (broadcastInDim S8x1x24 ![0, 2] bcast_S8x24_S8x1x24_0_2 (mulf (subf (shapeCast _ (extractStridedSlice S8x24x1 ![0, 0, 2] (V0 (Proc.devRef .tc main_arg3)) slices_S8x24x5_S8x24x1_0_0_2) shapeCasts_S8x24x1_S8x24) (shapeCast _ (extractStridedSlice S8x24x1 ![0, 0, 0] (V0 (Proc.devRef .tc main_arg3)) slices_S8x24x5_S8x24x1_0_0_0) shapeCasts_S8x24x1_S8x24)) (subf (shapeCast _ (extractStridedSlice S8x24x1 ![0, 0, 3] (V0 (Proc.devRef .tc main_arg3)) slices_S8x24x5_S8x24x1_0_0_3) shapeCasts_S8x24x1_S8x24) (shapeCast _ (extractStridedSlice S8x24x1 ![0, 0, 1] (V0 (Proc.devRef .tc main_arg3)) slices_S8x24x5_S8x24x1_0_0_1) shapeCasts_S8x24x1_S8x24)))))) (mulf (res_main_v72 V0) (res_main_v73 V0))) (broadcastInDim S8x49104x24 ![] bcast_S_S8x49104x24 (constant S_ .f32 0x322BCC77#32)))

set_option maxRecDepth 8192 in
/-- `main_v85`'s composed term of the arguments (named: it is used 2 times). -/
def res_main_v85 (V0 : Valuation τ sig (Elt F)) : (Proc.devRef .tc main_v85 : DevRef τ sig).ty.Contents (Elt F) :=
  Host.reduce FloatOps.maximumf (res_main_v84 V0) (constant S_ .f32 0xFF800000#32) reducesTo_S8x49104x24_S8x49104_d2 h_S_

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S8x49104x24 32 2

set_option maxRecDepth 8192 in
/-- `main_call3_cst`'s composed term of the arguments (named: it is used 2 times). -/
def res_main_call3_cst (V0 : Valuation τ sig (Elt F)) : (Proc.devRef .tc main_call3_cst : DevRef τ sig).ty.Contents (Elt F) :=
  constant S_ .f32 0xFF800000#32

set_option maxRecDepth 8192 in
/-- `main_call3_c`'s composed term of the arguments (named: it is used 2 times). -/
def res_main_call3_c (V0 : Valuation τ sig (Elt F)) : (Proc.devRef .tc main_call3_c : DevRef τ sig).ty.Contents (Elt F) :=
  constantI S_ 32 0#32

set_option maxRecDepth 8192 in
/-- `main_v88`'s composed term of the arguments (named: it is used 4 times). -/
def res_main_v88 (V0 : Valuation τ sig (Elt F)) : (Proc.devRef .tc main_v88 : DevRef τ sig).ty.Contents (Elt F) :=
  cmpf .oge (res_main_v85 V0) (broadcastInDim S8x49104 ![] bcast_S_S8x49104 (constant S_ .f32 0x3F000000#32))

set_option maxRecDepth 8192 in
/-- `main_v90`'s composed term of the arguments (named: it is used 3 times). -/
def res_main_v90 (V0 : Valuation τ sig (Elt F)) : (Proc.devRef .tc main_v90 : DevRef τ sig).ty.Contents (Elt F) :=
  Host.reduce IntOp.addi (extui 32 (res_main_v88 V0) natLt_1_32) (constantI S_ 32 0#32) reducesTo_S8x49104_S8_d1 h_S_

set_option maxRecDepth 8192 in
/-- `main_v91`'s composed term of the arguments (named: it is used 3 times). -/
def res_main_v91 (V0 : Valuation τ sig (Elt F)) : (Proc.devRef .tc main_v91 : DevRef τ sig).ty.Contents (Elt F) :=
  broadcastInDim S8x49104x1 ![0, 1] bcast_S8x49104_S8x49104x1_0_1 ((fun j => (Host.argReduce reducer_argmax_f32_i32 (res_main_v84 V0) (res_main_call3_v0 V0) (res_main_call3_cst V0) (res_main_call3_c V0) reducesTo_S8x49104x24_S8x49104_d2 h_S_ j).2))

set_option maxRecDepth 8192 in
/-- `main_call4_v4`'s composed term of the arguments (named: it is used 3 times). -/
def res_main_call4_v4 (V0 : Valuation τ sig (Elt F)) : (Proc.devRef .tc main_call4_v4 : DevRef τ sig).ty.Contents (Elt F) :=
  select (cmpi .slt (res_main_v91 V0) (broadcastInDim S8x49104x1 ![] bcast_S_S8x49104x1 (constantI S_ 32 0#32))) (addi (res_main_v91 V0) (broadcastInDim S8x49104x1 ![] bcast_S_S8x49104x1 (constantI S_ 32 24#32))) (res_main_v91 V0)

set_option maxRecDepth 8192 in
/-- `main_v92`'s composed term of the arguments (named: it is used 7 times). -/
def res_main_v92 (V0 : Valuation τ sig (Elt F)) : (Proc.devRef .tc main_v92 : DevRef τ sig).ty.Contents (Elt F) :=
  select (broadcastInDim S8x49104x5 ![0, 1] bcast_S8x49104_S8x49104x5_0_1 (Host.reduce IntOp.andi (andi (cmpi .sge (res_main_call4_v4 V0) (broadcastInDim S8x49104x1 ![] bcast_S_S8x49104x1 (constantI S_ 32 0#32))) (cmpi .sle (res_main_call4_v4 V0) (broadcastInDim S8x49104x1 ![0, 1, 2] bcast_S1x1x1_S8x49104x1_0_1_2 (broadcastInDim S1x1x1 ![2] bcast_S1_S1x1x1_2 (constantI S1 32 23#32))))) (constantI S_ 1 1#1) reducesTo_S8x49104x1_S8x49104_d2 h_S_)) (Host.gather gather_S8x24x5_S8x49104x1_S8x49104x5_2_1_0_0_1_2_115 (V0 (Proc.devRef .tc main_arg3)) (res_main_call4_v4 V0)) (broadcastInDim S8x49104x5 ![] bcast_S_S8x49104x5 (constant S_ .f32 0x7FC00000#32))

set_option maxRecDepth 8192 in
/-- `main_v109`'s composed term of the arguments (named: it is used 4 times). -/
def res_main_v109 (V0 : Valuation τ sig (Elt F)) : (Proc.devRef .tc main_v109 : DevRef τ sig).ty.Contents (Elt F) :=
  select (andi (broadcastInDim S8x49104x80 ![0, 1, 2] bcast_S8x49104x1_S8x49104x80_0_1_2 (broadcastInDim S8x49104x1 ![0, 1] bcast_S8x49104_S8x49104x1_0_1 (res_main_v88 V0))) (cmpf .ogt (uitofp .f32 (cmpi .eq (broadcastInDim S8x49104x80 ![0, 1, 2] bcast_S8x49104x1_S8x49104x80_0_1_2 (broadcastInDim S8x49104x1 ![0, 1] bcast_S8x49104_S8x49104x1_0_1 (fptosi 32 (shapeCast _ (extractStridedSlice S8x49104x1 ![0, 0, 4] (res_main_v92 V0) slices_S8x49104x5_S8x49104x1_0_0_4) shapeCasts_S8x49104x1_S8x49104)))) (broadcastInDim S8x49104x80 ![0, 1, 2] bcast_S1x1x80_S8x49104x80_0_1_2 (iotaInDim S1x1x80 32 2))) : (⟨S8x49104x80, .f32⟩ : BufTy).Contents (Elt F)) (broadcastInDim S8x49104x80 ![] bcast_S_S8x49104x80 (constant S_ .f32 0x3F000000#32)))) (broadcastInDim S8x49104x80 ![] bcast_S_S8x49104x80 (id (constant S_ .f32 0x3F800000#32))) (select (broadcastInDim S8x49104x80 ![0, 1, 2] bcast_S8x49104x1_S8x49104x80_0_1_2 (broadcastInDim S8x49104x1 ![0, 1] bcast_S8x49104_S8x49104x1_0_1 (res_main_v88 V0))) (broadcastInDim S8x49104x80 ![] bcast_S_S8x49104x80 (id (constant S_ .f32 0x00000000#32))) (select (broadcastInDim S8x49104x80 ![0, 1, 2] bcast_S8x49104x1_S8x49104x80_0_1_2 (broadcastInDim S8x49104x1 ![0, 1] bcast_S8x49104_S8x49104x1_0_1 (cmpf .olt (res_main_v85 V0) (broadcastInDim S8x49104 ![] bcast_S_S8x49104 (constant S_ .f32 0x3ECCCCCD#32))))) (broadcastInDim S8x49104x80 ![] bcast_S_S8x49104x80 (id (constant S_ .f32 0x00000000#32))) (broadcastInDim S8x49104x80 ![] bcast_S_S8x49104x80 (constant S_ .f32 0xBF800000#32))))

set_option maxRecDepth 8192 in
/-- `main_v142`'s composed term of the arguments (named: it is used 2 times). -/
def res_main_v142 (V0 : Valuation τ sig (Elt F)) : (Proc.devRef .tc main_v142 : DevRef τ sig).ty.Contents (Elt F) :=
  subf (shapeCast _ (extractStridedSlice S8x49104x1 ![0, 0, 2] (res_main_v92 V0) slices_S8x49104x5_S8x49104x1_0_0_2) shapeCasts_S8x49104x1_S8x49104) (shapeCast _ (extractStridedSlice S8x49104x1 ![0, 0, 0] (res_main_v92 V0) slices_S8x49104x5_S8x49104x1_0_0_0) shapeCasts_S8x49104x1_S8x49104)

set_option maxRecDepth 8192 in
/-- `main_v147`'s composed term of the arguments (named: it is used 2 times). -/
def res_main_v147 (V0 : Valuation τ sig (Elt F)) : (Proc.devRef .tc main_v147 : DevRef τ sig).ty.Contents (Elt F) :=
  subf (shapeCast _ (extractStridedSlice S8x49104x1 ![0, 0, 3] (res_main_v92 V0) slices_S8x49104x5_S8x49104x1_0_0_3) shapeCasts_S8x49104x1_S8x49104) (shapeCast _ (extractStridedSlice S8x49104x1 ![0, 0, 1] (res_main_v92 V0) slices_S8x49104x5_S8x49104x1_0_0_1) shapeCasts_S8x49104x1_S8x49104)

set_option maxRecDepth 8192 in
/-- `main_v190`'s composed term of the arguments (named: it is used 4 times). -/
def res_main_v190 (V0 : Valuation τ sig (Elt F)) : (Proc.devRef .tc main_v190 : DevRef τ sig).ty.Contents (Elt F) :=
  Host.absf (subf (Host.divf ((concatenate S8x49104x4 2 [⟨S8x49104x1, ((broadcastInDim S8x49104x1 ![0, 1] bcast_S8x49104_S8x49104x1_0_1 (Host.divf (subf (addf (shapeCast _ (extractStridedSlice S8x49104x1 ![0, 0, 0] (res_main_v92 V0) slices_S8x49104x5_S8x49104x1_0_0_0) shapeCasts_S8x49104x1_S8x49104) (mulf (broadcastInDim S8x49104 ![] bcast_S_S8x49104 (constant S_ .f32 0x3F000000#32)) (res_main_v142 V0))) (broadcastInDim S8x49104 ![0, 1] bcast_S1x49104_S8x49104_0_1 (broadcastInDim S1x49104 ![1] bcast_S49104_S1x49104_1 (addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)))))) (broadcastInDim S8x49104 ![0, 1] bcast_S1x49104_S8x49104_0_1 (broadcastInDim S1x49104 ![1] bcast_S49104_S1x49104_1 (res_main_v5 V0))))) : (⟨S8x49104x1, .f32⟩ : BufTy).Contents (Elt F))⟩, ⟨S8x49104x1, ((broadcastInDim S8x49104x1 ![0, 1] bcast_S8x49104_S8x49104x1_0_1 (Host.divf (subf (addf (shapeCast _ (extractStridedSlice S8x49104x1 ![0, 0, 1] (res_main_v92 V0) slices_S8x49104x5_S8x49104x1_0_0_1) shapeCasts_S8x49104x1_S8x49104) (mulf (broadcastInDim S8x49104 ![] bcast_S_S8x49104 (constant S_ .f32 0x3F000000#32)) (res_main_v147 V0))) (broadcastInDim S8x49104 ![0, 1] bcast_S1x49104_S8x49104_0_1 (broadcastInDim S1x49104 ![1] bcast_S49104_S1x49104_1 (addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)))))) (broadcastInDim S8x49104 ![0, 1] bcast_S1x49104_S8x49104_0_1 (broadcastInDim S1x49104 ![1] bcast_S49104_S1x49104_1 (res_main_v10 V0))))) : (⟨S8x49104x1, .f32⟩ : BufTy).Contents (Elt F))⟩, ⟨S8x49104x1, ((broadcastInDim S8x49104x1 ![0, 1] bcast_S8x49104_S8x49104x1_0_1 (Host.log (Host.divf (maximumf (res_main_v142 V0) (broadcastInDim S8x49104 ![] bcast_S_S8x49104 (constant S_ .f32 0x3F800000#32))) (broadcastInDim S8x49104 ![0, 1] bcast_S1x49104_S8x49104_0_1 (broadcastInDim S1x49104 ![1] bcast_S49104_S1x49104_1 (res_main_v5 V0)))))) : (⟨S8x49104x1, .f32⟩ : BufTy).Contents (Elt F))⟩, ⟨S8x49104x1, ((broadcastInDim S8x49104x1 ![0, 1] bcast_S8x49104_S8x49104x1_0_1 (Host.log (Host.divf (maximumf (res_main_v147 V0) (broadcastInDim S8x49104 ![] bcast_S_S8x49104 (constant S_ .f32 0x3F800000#32))) (broadcastInDim S8x49104 ![0, 1] bcast_S1x49104_S8x49104_0_1 (broadcastInDim S1x49104 ![1] bcast_S49104_S1x49104_1 (res_main_v10 V0)))))) : (⟨S8x49104x1, .f32⟩ : BufTy).Contents (Elt F))⟩] concatenates_S8x49104x1_S8x49104x1_S8x49104x1_S8x49104x1_S8x49104x4_d2 : (⟨S8x49104x4, .f32⟩ : BufTy).Contents (Elt F))) (broadcastInDim S8x49104x4 ![0, 1, 2] bcast_S1x1x4_S8x49104x4_0_1_2 ((fun i => FloatOps.ofBits .f32 (lit0 (S1x1x4.rowMajor i)))))) (V0 (Proc.devRef .tc main_arg1)))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_v1, main_v2, main_v3, main_v4, main_v5, main_v6, main_v7, main_v8, main_v9, main_v10, main_v11, main_v12, main_cst_0, main_v13, main_v14, main_v15, main_v16, main_v17, main_cst_1, main_v18, main_v19, main_v20, main_cst_2, main_cst_3, main_call0_v0, main_call0_v1, main_call0_v2, main_call0_v3]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
set_option maxRecDepth 8192 in
set_option maxHeartbeats 2000000 in
theorem val0_1_main_cst (V0 : Valuation τ sig (Elt F)) : val0_1 V0 (no_index (Proc.devRef .tc main_cst)) = (fun i => FloatOps.ofBits .f32 (lit0 (S1x1x4.rowMajor i))) := by
  unfold val0_1
  simp only [ops_part0_0, TRef.binary, TRef.unary, TRef.toBuf, TRef.ofBuf, cast_eq]
  after_results_simp
  all_goals rfl
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0, TRef.binary, TRef.unary, TRef.toBuf, TRef.ofBuf, cast_eq]
  after_results_simp
  simp only [val0_main_arg2] <;> rfl
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0, TRef.binary, TRef.unary, TRef.toBuf, TRef.ofBuf, cast_eq]
  after_results_simp
  simp only [val0_main_arg2] <;> rfl
set_option maxRecDepth 8192 in
set_option maxHeartbeats 2000000 in
theorem val0_1_main_v10 (V0 : Valuation τ sig (Elt F)) : val0_1 V0 (no_index (Proc.devRef .tc main_v10)) = res_main_v10 V0 := by
  unfold val0_1
  simp only [ops_part0_0, TRef.binary, TRef.unary, TRef.toBuf, TRef.ofBuf, cast_eq]
  after_results_simp
  simp only [val0_main_arg2] <;> rfl
set_option maxRecDepth 8192 in
set_option maxHeartbeats 2000000 in
theorem val0_1_main_v15 (V0 : Valuation τ sig (Elt F)) : val0_1 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) := by
  unfold val0_1
  simp only [ops_part0_0, TRef.binary, TRef.unary, TRef.toBuf, TRef.ofBuf, cast_eq]
  after_results_simp
  simp only [val0_main_arg2] <;> rfl
set_option maxRecDepth 8192 in
set_option maxHeartbeats 2000000 in
theorem val0_1_main_v20 (V0 : Valuation τ sig (Elt F)) : val0_1 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) := by
  unfold val0_1
  simp only [ops_part0_0, TRef.binary, TRef.unary, TRef.toBuf, TRef.ofBuf, cast_eq]
  after_results_simp
  simp only [val0_main_arg2] <;> rfl
set_option maxRecDepth 8192 in
set_option maxHeartbeats 2000000 in
theorem val0_1_main_call0_v2 (V0 : Valuation τ sig (Elt F)) : val0_1 V0 (no_index (Proc.devRef .tc main_call0_v2)) = maximumf (broadcastInDim S8x49104x80 ![] bcast_S_S8x49104x80 (id (constant S_ .f32 0x38D1B717#32))) (V0 (Proc.devRef .tc main_arg0)) := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_call0_v3 (V0 : Valuation τ sig (Elt F)) : val0_1 V0 (no_index (Proc.devRef .tc main_call0_v3)) = id (constant S_ .f32 0x3F7FF972#32) := by
  unfold val0_1
  simp only [ops_part0_0, TRef.binary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v4, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_cst (V0 : Valuation τ sig (Elt F)) : val0_2 V0 (no_index (Proc.devRef .tc main_cst)) = (fun i => FloatOps.ofBits .f32 (lit0 (S1x1x4.rowMajor i))) :=
  (val0_2_keep V0 main_cst (by decide)).trans (val0_1_main_cst V0)
theorem val0_2_main_v0 (V0 : Valuation τ sig (Elt F)) : val0_2 V0 (no_index (Proc.devRef .tc main_v0)) = res_main_v0 V0 :=
  (val0_2_keep V0 main_v0 (by decide)).trans (val0_1_main_v0 V0)
theorem val0_2_main_v5 (V0 : Valuation τ sig (Elt F)) : val0_2 V0 (no_index (Proc.devRef .tc main_v5)) = res_main_v5 V0 :=
  (val0_2_keep V0 main_v5 (by decide)).trans (val0_1_main_v5 V0)
theorem val0_2_main_v10 (V0 : Valuation τ sig (Elt F)) : val0_2 V0 (no_index (Proc.devRef .tc main_v10)) = res_main_v10 V0 :=
  (val0_2_keep V0 main_v10 (by decide)).trans (val0_1_main_v10 V0)
theorem val0_2_main_v15 (V0 : Valuation τ sig (Elt F)) : val0_2 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) :=
  (val0_2_keep V0 main_v15 (by decide)).trans (val0_1_main_v15 V0)
theorem val0_2_main_v20 (V0 : Valuation τ sig (Elt F)) : val0_2 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) :=
  (val0_2_keep V0 main_v20 (by decide)).trans (val0_1_main_v20 V0)
set_option maxRecDepth 8192 in
set_option maxHeartbeats 2000000 in
theorem val0_2_main_v21 (V0 : Valuation τ sig (Elt F)) : val0_2 V0 (no_index (Proc.devRef .tc main_v21)) = res_main_v21 V0 := by
  unfold val0_2
  simp only [ops_part0_1, TRef.binary, TRef.unary, TRef.toBuf, TRef.ofBuf, cast_eq]
  after_results_simp
  simp only [val0_1_main_call0_v2, val0_1_main_call0_v3] <;> rfl
set_option maxRecDepth 8192 in
set_option maxHeartbeats 2000000 in
theorem val0_2_main_v33 (V0 : Valuation τ sig (Elt F)) : val0_2 V0 (no_index (Proc.devRef .tc main_v33)) = broadcastInDim S8x1x24 ![0, 2] bcast_S8x24_S8x1x24_0_2 (mulf (subf (shapeCast _ (extractStridedSlice S8x24x1 ![0, 0, 2] (V0 (Proc.devRef .tc main_arg3)) slices_S8x24x5_S8x24x1_0_0_2) shapeCasts_S8x24x1_S8x24) (shapeCast _ (extractStridedSlice S8x24x1 ![0, 0, 0] (V0 (Proc.devRef .tc main_arg3)) slices_S8x24x5_S8x24x1_0_0_0) shapeCasts_S8x24x1_S8x24)) (subf (shapeCast _ (extractStridedSlice S8x24x1 ![0, 0, 3] (V0 (Proc.devRef .tc main_arg3)) slices_S8x24x5_S8x24x1_0_0_3) shapeCasts_S8x24x1_S8x24) (shapeCast _ (extractStridedSlice S8x24x1 ![0, 0, 1] (V0 (Proc.devRef .tc main_arg3)) slices_S8x24x5_S8x24x1_0_0_1) shapeCasts_S8x24x1_S8x24))) := by
  unfold val0_2
  simp only [ops_part0_1, TRef.binary, TRef.unary, TRef.toBuf, TRef.ofBuf, cast_eq]
  after_results_simp
  simp only [val0_1_main_arg3] <;> rfl
set_option maxRecDepth 8192 in
set_option maxHeartbeats 2000000 in
theorem val0_2_main_v42 (V0 : Valuation τ sig (Elt F)) : val0_2 V0 (no_index (Proc.devRef .tc main_v42)) = minimumf (broadcastInDim S8x49104x24 ![0, 1, 2] bcast_S1x49104x1_S8x49104x24_0_1_2 (broadcastInDim S1x49104x1 ![1] bcast_S49104_S1x49104x1_1 (shapeCast _ (extractStridedSlice S49104x1 ![0, 2] (res_main_v0 V0) slices_S49104x4_S49104x1_0_2) shapeCasts_S49104x1_S49104))) (broadcastInDim S8x49104x24 ![0, 1, 2] bcast_S8x1x24_S8x49104x24_0_1_2 (broadcastInDim S8x1x24 ![0, 2] bcast_S8x24_S8x1x24_0_2 (shapeCast _ (extractStridedSlice S8x24x1 ![0, 0, 2] (V0 (Proc.devRef .tc main_arg3)) slices_S8x24x5_S8x24x1_0_0_2) shapeCasts_S8x24x1_S8x24))) := by
  unfold val0_2
  simp only [ops_part0_1, TRef.binary, TRef.unary, TRef.toBuf, TRef.ofBuf, cast_eq]
  after_results_simp
  simp only [val0_1_main_arg3, val0_1_main_v0] <;> rfl
set_option maxRecDepth 8192 in
set_option maxHeartbeats 2000000 in
theorem val0_2_main_v48 (V0 : Valuation τ sig (Elt F)) : val0_2 V0 (no_index (Proc.devRef .tc main_v48)) = broadcastInDim S8x1x24 ![0, 2] bcast_S8x24_S8x1x24_0_2 (shapeCast _ (extractStridedSlice S8x24x1 ![0, 0, 0] (V0 (Proc.devRef .tc main_arg3)) slices_S8x24x5_S8x24x1_0_0_0) shapeCasts_S8x24x1_S8x24) := by
  unfold val0_2
  simp only [ops_part0_1, TRef.binary, TRef.unary, TRef.toBuf, TRef.ofBuf, cast_eq]
  after_results_simp
  simp only [val0_1_main_arg3] <;> rfl
set_option maxRecDepth 8192 in
set_option maxHeartbeats 2000000 in
theorem val0_2_main_v49 (V0 : Valuation τ sig (Elt F)) : val0_2 V0 (no_index (Proc.devRef .tc main_v49)) = broadcastInDim S8x49104x24 ![0, 1, 2] bcast_S1x49104x1_S8x49104x24_0_1_2 (broadcastInDim S1x49104x1 ![1] bcast_S49104_S1x49104x1_1 (shapeCast _ (extractStridedSlice S49104x1 ![0, 0] (res_main_v0 V0) slices_S49104x4_S49104x1_0_0) shapeCasts_S49104x1_S49104)) := by
  unfold val0_2
  simp only [ops_part0_1, TRef.binary, TRef.unary, TRef.toBuf, TRef.ofBuf, cast_eq]
  after_results_simp
  simp only [val0_1_main_v0] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v50, main_v51, main_v52, main_v53, main_v54]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_cst (V0 : Valuation τ sig (Elt F)) : val1 V0 (no_index (Proc.devRef .tc main_cst)) = (fun i => FloatOps.ofBits .f32 (lit0 (S1x1x4.rowMajor i))) :=
  (val1_keep V0 main_cst (by decide)).trans (val0_2_main_cst V0)
theorem val1_main_v0 (V0 : Valuation τ sig (Elt F)) : val1 V0 (no_index (Proc.devRef .tc main_v0)) = res_main_v0 V0 :=
  (val1_keep V0 main_v0 (by decide)).trans (val0_2_main_v0 V0)
theorem val1_main_v5 (V0 : Valuation τ sig (Elt F)) : val1 V0 (no_index (Proc.devRef .tc main_v5)) = res_main_v5 V0 :=
  (val1_keep V0 main_v5 (by decide)).trans (val0_2_main_v5 V0)
theorem val1_main_v10 (V0 : Valuation τ sig (Elt F)) : val1 V0 (no_index (Proc.devRef .tc main_v10)) = res_main_v10 V0 :=
  (val1_keep V0 main_v10 (by decide)).trans (val0_2_main_v10 V0)
theorem val1_main_v15 (V0 : Valuation τ sig (Elt F)) : val1 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) :=
  (val1_keep V0 main_v15 (by decide)).trans (val0_2_main_v15 V0)
theorem val1_main_v20 (V0 : Valuation τ sig (Elt F)) : val1 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) :=
  (val1_keep V0 main_v20 (by decide)).trans (val0_2_main_v20 V0)
theorem val1_main_v21 (V0 : Valuation τ sig (Elt F)) : val1 V0 (no_index (Proc.devRef .tc main_v21)) = res_main_v21 V0 :=
  (val1_keep V0 main_v21 (by decide)).trans (val0_2_main_v21 V0)
theorem val1_main_v33 (V0 : Valuation τ sig (Elt F)) : val1 V0 (no_index (Proc.devRef .tc main_v33)) = broadcastInDim S8x1x24 ![0, 2] bcast_S8x24_S8x1x24_0_2 (mulf (subf (shapeCast _ (extractStridedSlice S8x24x1 ![0, 0, 2] (V0 (Proc.devRef .tc main_arg3)) slices_S8x24x5_S8x24x1_0_0_2) shapeCasts_S8x24x1_S8x24) (shapeCast _ (extractStridedSlice S8x24x1 ![0, 0, 0] (V0 (Proc.devRef .tc main_arg3)) slices_S8x24x5_S8x24x1_0_0_0) shapeCasts_S8x24x1_S8x24)) (subf (shapeCast _ (extractStridedSlice S8x24x1 ![0, 0, 3] (V0 (Proc.devRef .tc main_arg3)) slices_S8x24x5_S8x24x1_0_0_3) shapeCasts_S8x24x1_S8x24) (shapeCast _ (extractStridedSlice S8x24x1 ![0, 0, 1] (V0 (Proc.devRef .tc main_arg3)) slices_S8x24x5_S8x24x1_0_0_1) shapeCasts_S8x24x1_S8x24))) :=
  (val1_keep V0 main_v33 (by decide)).trans (val0_2_main_v33 V0)
set_option maxRecDepth 8192 in
theorem val1_main_v52 (V0 : Valuation τ sig (Elt F)) : val1 V0 (no_index (Proc.devRef .tc main_v52)) = subf (minimumf (broadcastInDim S8x49104x24 ![0, 1, 2] bcast_S1x49104x1_S8x49104x24_0_1_2 (broadcastInDim S1x49104x1 ![1] bcast_S49104_S1x49104x1_1 (shapeCast _ (extractStridedSlice S49104x1 ![0, 2] (res_main_v0 V0) slices_S49104x4_S49104x1_0_2) shapeCasts_S49104x1_S49104))) (broadcastInDim S8x49104x24 ![0, 1, 2] bcast_S8x1x24_S8x49104x24_0_1_2 (broadcastInDim S8x1x24 ![0, 2] bcast_S8x24_S8x1x24_0_2 (shapeCast _ (extractStridedSlice S8x24x1 ![0, 0, 2] (V0 (Proc.devRef .tc main_arg3)) slices_S8x24x5_S8x24x1_0_0_2) shapeCasts_S8x24x1_S8x24)))) (maximumf (broadcastInDim S8x49104x24 ![0, 1, 2] bcast_S1x49104x1_S8x49104x24_0_1_2 (broadcastInDim S1x49104x1 ![1] bcast_S49104_S1x49104x1_1 (shapeCast _ (extractStridedSlice S49104x1 ![0, 0] (res_main_v0 V0) slices_S49104x4_S49104x1_0_0) shapeCasts_S49104x1_S49104))) (broadcastInDim S8x49104x24 ![0, 1, 2] bcast_S8x1x24_S8x49104x24_0_1_2 (broadcastInDim S8x1x24 ![0, 2] bcast_S8x24_S8x1x24_0_2 (shapeCast _ (extractStridedSlice S8x24x1 ![0, 0, 0] (V0 (Proc.devRef .tc main_arg3)) slices_S8x24x5_S8x24x1_0_0_0) shapeCasts_S8x24x1_S8x24)))) := by
  unfold val1
  simp only [ops_part0_2]
  after_results_simp
  simp only [val0_2_main_v48, val0_2_main_v49, val0_2_main_v42] <;> rfl
set_option maxRecDepth 8192 in
theorem val1_main_v54 (V0 : Valuation τ sig (Elt F)) : val1 V0 (no_index (Proc.devRef .tc main_v54)) = shapeCast _ (extractStridedSlice S49104x1 ![0, 3] (res_main_v0 V0) slices_S49104x4_S49104x1_0_3) shapeCasts_S49104x1_S49104 := by
  unfold val1
  simp only [ops_part0_2]
  after_results_simp
  simp only [val0_2_main_v0] <;> rfl

/-- The device's buffer contents after @main's first 95 operations. -/
def val1_1 (V0 : Valuation τ sig (Elt F)) : Valuation τ sig (Elt F) := after ops_part1_0 (val1 V0)
/-- The buffers that window `ops_part1_0`'s operations write. -/
abbrev ops_part1_0_W : List (Ref sig .tc) := [main_v55, main_v56, main_v57, main_v58, main_v59, main_v60, main_v61, main_v62, main_v63, main_v64, main_v65, main_v66, main_v67, main_v68, main_v69, main_v70, main_v71, main_cst_4, main_call1_v0, main_call1_v1, main_v72, main_cst_5, main_call2_v0, main_call2_v1, main_v73, main_v74, main_v75, main_v76, main_v77, main_v78]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_cst (V0 : Valuation τ sig (Elt F)) : val1_1 V0 (no_index (Proc.devRef .tc main_cst)) = (fun i => FloatOps.ofBits .f32 (lit0 (S1x1x4.rowMajor i))) :=
  (val1_1_keep V0 main_cst (by decide)).trans (val1_main_cst V0)
theorem val1_1_main_v5 (V0 : Valuation τ sig (Elt F)) : val1_1 V0 (no_index (Proc.devRef .tc main_v5)) = res_main_v5 V0 :=
  (val1_1_keep V0 main_v5 (by decide)).trans (val1_main_v5 V0)
theorem val1_1_main_v10 (V0 : Valuation τ sig (Elt F)) : val1_1 V0 (no_index (Proc.devRef .tc main_v10)) = res_main_v10 V0 :=
  (val1_1_keep V0 main_v10 (by decide)).trans (val1_main_v10 V0)
theorem val1_1_main_v15 (V0 : Valuation τ sig (Elt F)) : val1_1 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) :=
  (val1_1_keep V0 main_v15 (by decide)).trans (val1_main_v15 V0)
theorem val1_1_main_v20 (V0 : Valuation τ sig (Elt F)) : val1_1 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) :=
  (val1_1_keep V0 main_v20 (by decide)).trans (val1_main_v20 V0)
theorem val1_1_main_v21 (V0 : Valuation τ sig (Elt F)) : val1_1 V0 (no_index (Proc.devRef .tc main_v21)) = res_main_v21 V0 :=
  (val1_1_keep V0 main_v21 (by decide)).trans (val1_main_v21 V0)
set_option maxRecDepth 8192 in
set_option maxHeartbeats 2000000 in
theorem val1_1_main_v72 (V0 : Valuation τ sig (Elt F)) : val1_1 V0 (no_index (Proc.devRef .tc main_v72)) = res_main_v72 V0 := by
  unfold val1_1
  simp only [ops_part1_0, TRef.binary, TRef.unary, TRef.toBuf, TRef.ofBuf, cast_eq]
  after_results_simp
  simp only [val1_main_v52] <;> rfl
set_option maxRecDepth 8192 in
set_option maxHeartbeats 2000000 in
theorem val1_1_main_v73 (V0 : Valuation τ sig (Elt F)) : val1_1 V0 (no_index (Proc.devRef .tc main_v73)) = res_main_v73 V0 := by
  unfold val1_1
  simp only [ops_part1_0, TRef.binary, TRef.unary, TRef.toBuf, TRef.ofBuf, cast_eq]
  after_results_simp
  simp only [val1_main_arg3, val1_main_v0, val1_main_v54] <;> rfl
set_option maxRecDepth 8192 in
set_option maxHeartbeats 2000000 in
theorem val1_1_main_v78 (V0 : Valuation τ sig (Elt F)) : val1_1 V0 (no_index (Proc.devRef .tc main_v78)) = addf (broadcastInDim S8x49104x24 ![0, 1, 2] bcast_S1x49104x1_S8x49104x24_0_1_2 (broadcastInDim S1x49104x1 ![1] bcast_S49104_S1x49104x1_1 (mulf (res_main_v5 V0) (res_main_v10 V0)))) (broadcastInDim S8x49104x24 ![0, 1, 2] bcast_S8x1x24_S8x49104x24_0_1_2 (broadcastInDim S8x1x24 ![0, 2] bcast_S8x24_S8x1x24_0_2 (mulf (subf (shapeCast _ (extractStridedSlice S8x24x1 ![0, 0, 2] (V0 (Proc.devRef .tc main_arg3)) slices_S8x24x5_S8x24x1_0_0_2) shapeCasts_S8x24x1_S8x24) (shapeCast _ (extractStridedSlice S8x24x1 ![0, 0, 0] (V0 (Proc.devRef .tc main_arg3)) slices_S8x24x5_S8x24x1_0_0_0) shapeCasts_S8x24x1_S8x24)) (subf (shapeCast _ (extractStridedSlice S8x24x1 ![0, 0, 3] (V0 (Proc.devRef .tc main_arg3)) slices_S8x24x5_S8x24x1_0_0_3) shapeCasts_S8x24x1_S8x24) (shapeCast _ (extractStridedSlice S8x24x1 ![0, 0, 1] (V0 (Proc.devRef .tc main_arg3)) slices_S8x24x5_S8x24x1_0_0_1) shapeCasts_S8x24x1_S8x24))))) := by
  unfold val1_1
  simp only [ops_part1_0, TRef.binary, TRef.unary, TRef.toBuf, TRef.ofBuf, cast_eq]
  after_results_simp
  simp only [val1_main_v33, val1_main_v10, val1_main_v5] <;> rfl

end Cert.ReferenceIdeal.Value
-- ==== Proof.RefRunB.lean ====
/- The buffers of the reference program after its last windows of operations, and the run of the program. -/
module

public import proofs.«01_k».proof.Proof.RefRunA

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 125 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v79, main_v80, main_cst_6, main_v81, main_v82, main_v83, main_v84, main_cst_7, main_v85, main_call3_v0, main_call3_cst, main_call3_c, main_call3_v1_0, main_v86, main_cst_8, main_v87, main_v88, main_v89, main_c, main_v90, main_v91, main_call4_c, main_call4_v0, main_call4_v1, main_call4_c_0, main_call4_v2, main_call4_v3, main_call4_v4, main_call4_c_1, main_call4_c_2]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_cst (V0 : Valuation τ sig (Elt F)) : val1_2 V0 (no_index (Proc.devRef .tc main_cst)) = (fun i => FloatOps.ofBits .f32 (lit0 (S1x1x4.rowMajor i))) :=
  (val1_2_keep V0 main_cst (by decide)).trans (val1_1_main_cst V0)
theorem val1_2_main_v5 (V0 : Valuation τ sig (Elt F)) : val1_2 V0 (no_index (Proc.devRef .tc main_v5)) = res_main_v5 V0 :=
  (val1_2_keep V0 main_v5 (by decide)).trans (val1_1_main_v5 V0)
theorem val1_2_main_v10 (V0 : Valuation τ sig (Elt F)) : val1_2 V0 (no_index (Proc.devRef .tc main_v10)) = res_main_v10 V0 :=
  (val1_2_keep V0 main_v10 (by decide)).trans (val1_1_main_v10 V0)
theorem val1_2_main_v15 (V0 : Valuation τ sig (Elt F)) : val1_2 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) :=
  (val1_2_keep V0 main_v15 (by decide)).trans (val1_1_main_v15 V0)
theorem val1_2_main_v20 (V0 : Valuation τ sig (Elt F)) : val1_2 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) :=
  (val1_2_keep V0 main_v20 (by decide)).trans (val1_1_main_v20 V0)
theorem val1_2_main_v21 (V0 : Valuation τ sig (Elt F)) : val1_2 V0 (no_index (Proc.devRef .tc main_v21)) = res_main_v21 V0 :=
  (val1_2_keep V0 main_v21 (by decide)).trans (val1_1_main_v21 V0)
set_option maxRecDepth 8192 in
set_option maxHeartbeats 2000000 in
theorem val1_2_main_v85 (V0 : Valuation τ sig (Elt F)) : val1_2 V0 (no_index (Proc.devRef .tc main_v85)) = res_main_v85 V0 := by
  unfold val1_2
  simp only [ops_part1_1, TRef.binary, TRef.nullary, TRef.quaternary, TRef.ternary, TRef.unary, TRef.toBuf, TRef.ofBuf, cast_eq]
  after_results_simp
  simp only [val1_1_main_v73, val1_1_main_v72, val1_1_main_v78] <;> rfl
set_option maxRecDepth 8192 in
set_option maxHeartbeats 2000000 in
theorem val1_2_main_v88 (V0 : Valuation τ sig (Elt F)) : val1_2 V0 (no_index (Proc.devRef .tc main_v88)) = res_main_v88 V0 := by
  unfold val1_2
  simp only [ops_part1_1, TRef.binary, TRef.nullary, TRef.quaternary, TRef.ternary, TRef.unary, TRef.toBuf, TRef.ofBuf, cast_eq]
  after_results_simp
  simp only [val1_1_main_v73, val1_1_main_v72, val1_1_main_v78] <;> rfl
set_option maxRecDepth 8192 in
set_option maxHeartbeats 2000000 in
theorem val1_2_main_v90 (V0 : Valuation τ sig (Elt F)) : val1_2 V0 (no_index (Proc.devRef .tc main_v90)) = res_main_v90 V0 := by
  unfold val1_2
  simp only [ops_part1_1, TRef.binary, TRef.nullary, TRef.quaternary, TRef.ternary, TRef.unary, TRef.toBuf, TRef.ofBuf, cast_eq]
  after_results_simp
  simp only [val1_1_main_v73, val1_1_main_v72, val1_1_main_v78] <;> rfl
set_option maxRecDepth 8192 in
set_option maxHeartbeats 2000000 in
theorem val1_2_main_call4_v4 (V0 : Valuation τ sig (Elt F)) : val1_2 V0 (no_index (Proc.devRef .tc main_call4_v4)) = res_main_call4_v4 V0 := by
  unfold val1_2
  simp only [ops_part1_1, TRef.binary, TRef.nullary, TRef.quaternary, TRef.ternary, TRef.unary, TRef.toBuf, TRef.ofBuf, cast_eq]
  after_results_simp
  simp only [val1_1_main_v73, val1_1_main_v72, val1_1_main_v78] <;> rfl
set_option maxRecDepth 8192 in
set_option maxHeartbeats 2000000 in
theorem val1_2_main_call4_c_1 (V0 : Valuation τ sig (Elt F)) : val1_2 V0 (no_index (Proc.devRef .tc main_call4_c_1)) = constantI S1 32 23#32 := by
  unfold val1_2
  simp only [ops_part1_1, TRef.binary, TRef.nullary, TRef.quaternary, TRef.ternary, TRef.unary, TRef.toBuf, TRef.ofBuf, cast_eq]
  after_results_simp
  all_goals rfl
set_option maxRecDepth 8192 in
set_option maxHeartbeats 2000000 in
theorem val1_2_main_call4_c_2 (V0 : Valuation τ sig (Elt F)) : val1_2 V0 (no_index (Proc.devRef .tc main_call4_c_2)) = constantI S_ 32 0#32 := by
  unfold val1_2
  simp only [ops_part1_1, TRef.binary, TRef.nullary, TRef.quaternary, TRef.ternary, TRef.unary, TRef.toBuf, TRef.ofBuf, cast_eq]
  after_results_simp
  all_goals rfl

/-- The device's buffer contents after @main's first 155 operations. -/
def val1_3 (V0 : Valuation τ sig (Elt F)) : Valuation τ sig (Elt F) := after ops_part1_2 (val1_2 V0)
/-- The buffers that window `ops_part1_2`'s operations write. -/
abbrev ops_part1_2_W : List (Ref sig .tc) := [main_call4_v5, main_call4_v6, main_call4_v7, main_call4_v8, main_call4_v9, main_call4_v10, main_call4_c_3, main_call4_v11, main_call4_v12, main_call4_v13, main_call4_cst, main_call4_v14, main_v92, main_cst_9, main_v93, main_cst_10, main_v94, main_v95, main_v96, main_cst_11, main_call5_v0, main_call5_v1, main_call5_v2, main_v97, main_v98, main_cst_12, main_call6_v0, main_call6_v1, main_call6_v2, main_v99]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
theorem val1_3_main_arg0 (V0 : Valuation τ sig (Elt F)) : val1_3 V0 (no_index (Proc.devRef .tc main_arg0)) = V0 (Proc.devRef .tc main_arg0) :=
  (val1_3_keep V0 main_arg0 (by decide)).trans (val1_2_main_arg0 V0)
theorem val1_3_main_arg1 (V0 : Valuation τ sig (Elt F)) : val1_3 V0 (no_index (Proc.devRef .tc main_arg1)) = V0 (Proc.devRef .tc main_arg1) :=
  (val1_3_keep V0 main_arg1 (by decide)).trans (val1_2_main_arg1 V0)
theorem val1_3_main_arg2 (V0 : Valuation τ sig (Elt F)) : val1_3 V0 (no_index (Proc.devRef .tc main_arg2)) = V0 (Proc.devRef .tc main_arg2) :=
  (val1_3_keep V0 main_arg2 (by decide)).trans (val1_2_main_arg2 V0)
theorem val1_3_main_arg3 (V0 : Valuation τ sig (Elt F)) : val1_3 V0 (no_index (Proc.devRef .tc main_arg3)) = V0 (Proc.devRef .tc main_arg3) :=
  (val1_3_keep V0 main_arg3 (by decide)).trans (val1_2_main_arg3 V0)
theorem val1_3_main_arg4 (V0 : Valuation τ sig (Elt F)) : val1_3 V0 (no_index (Proc.devRef .tc main_arg4)) = V0 (Proc.devRef .tc main_arg4) :=
  (val1_3_keep V0 main_arg4 (by decide)).trans (val1_2_main_arg4 V0)
theorem val1_3_main_cst (V0 : Valuation τ sig (Elt F)) : val1_3 V0 (no_index (Proc.devRef .tc main_cst)) = (fun i => FloatOps.ofBits .f32 (lit0 (S1x1x4.rowMajor i))) :=
  (val1_3_keep V0 main_cst (by decide)).trans (val1_2_main_cst V0)
theorem val1_3_main_v5 (V0 : Valuation τ sig (Elt F)) : val1_3 V0 (no_index (Proc.devRef .tc main_v5)) = res_main_v5 V0 :=
  (val1_3_keep V0 main_v5 (by decide)).trans (val1_2_main_v5 V0)
theorem val1_3_main_v10 (V0 : Valuation τ sig (Elt F)) : val1_3 V0 (no_index (Proc.devRef .tc main_v10)) = res_main_v10 V0 :=
  (val1_3_keep V0 main_v10 (by decide)).trans (val1_2_main_v10 V0)
theorem val1_3_main_v15 (V0 : Valuation τ sig (Elt F)) : val1_3 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) :=
  (val1_3_keep V0 main_v15 (by decide)).trans (val1_2_main_v15 V0)
theorem val1_3_main_v20 (V0 : Valuation τ sig (Elt F)) : val1_3 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) :=
  (val1_3_keep V0 main_v20 (by decide)).trans (val1_2_main_v20 V0)
theorem val1_3_main_v21 (V0 : Valuation τ sig (Elt F)) : val1_3 V0 (no_index (Proc.devRef .tc main_v21)) = res_main_v21 V0 :=
  (val1_3_keep V0 main_v21 (by decide)).trans (val1_2_main_v21 V0)
theorem val1_3_main_v88 (V0 : Valuation τ sig (Elt F)) : val1_3 V0 (no_index (Proc.devRef .tc main_v88)) = res_main_v88 V0 :=
  (val1_3_keep V0 main_v88 (by decide)).trans (val1_2_main_v88 V0)
theorem val1_3_main_v90 (V0 : Valuation τ sig (Elt F)) : val1_3 V0 (no_index (Proc.devRef .tc main_v90)) = res_main_v90 V0 :=
  (val1_3_keep V0 main_v90 (by decide)).trans (val1_2_main_v90 V0)
set_option maxRecDepth 8192 in
set_option maxHeartbeats 2000000 in
theorem val1_3_main_v92 (V0 : Valuation τ sig (Elt F)) : val1_3 V0 (no_index (Proc.devRef .tc main_v92)) = res_main_v92 V0 := by
  unfold val1_3
  simp only [ops_part1_2, TRef.binary, TRef.nullary, TRef.ternary, TRef.unary, TRef.toBuf, TRef.ofBuf, cast_eq]
  after_results_simp
  simp only [val1_2_main_call4_v4, val1_2_main_arg3, val1_2_main_call4_c_1, val1_2_main_call4_c_2] <;> rfl
set_option maxRecDepth 8192 in
set_option maxHeartbeats 2000000 in
theorem val1_3_main_v99 (V0 : Valuation τ sig (Elt F)) : val1_3 V0 (no_index (Proc.devRef .tc main_v99)) = select (broadcastInDim S8x49104x80 ![0, 1, 2] bcast_S8x49104x1_S8x49104x80_0_1_2 (broadcastInDim S8x49104x1 ![0, 1] bcast_S8x49104_S8x49104x1_0_1 (res_main_v88 V0))) (broadcastInDim S8x49104x80 ![] bcast_S_S8x49104x80 (id (constant S_ .f32 0x00000000#32))) (select (broadcastInDim S8x49104x80 ![0, 1, 2] bcast_S8x49104x1_S8x49104x80_0_1_2 (broadcastInDim S8x49104x1 ![0, 1] bcast_S8x49104_S8x49104x1_0_1 (cmpf .olt (res_main_v85 V0) (broadcastInDim S8x49104 ![] bcast_S_S8x49104 (constant S_ .f32 0x3ECCCCCD#32))))) (broadcastInDim S8x49104x80 ![] bcast_S_S8x49104x80 (id (constant S_ .f32 0x00000000#32))) (broadcastInDim S8x49104x80 ![] bcast_S_S8x49104x80 (constant S_ .f32 0xBF800000#32))) := by
  unfold val1_3
  simp only [ops_part1_2, TRef.binary, TRef.nullary, TRef.ternary, TRef.unary, TRef.toBuf, TRef.ofBuf, cast_eq]
  after_results_simp
  simp only [val1_2_main_v85, val1_2_main_v88] <;> rfl

/-- The device's buffer contents after @main's first 2 windows. -/
def val2 (V0 : Valuation τ sig (Elt F)) : Valuation τ sig (Elt F) := after ops_part1_3 (val1_3 V0)
/-- The buffers that window `ops_part1_3`'s operations write. -/
abbrev ops_part1_3_W : List (Ref sig .tc) := [main_v100, main_v101, main_v102, main_call7_v0, main_call7_v1, main_call7_v2, main_call7_v3, main_call7_v4, main_v103, main_v104]
set_option maxRecDepth 8192 in
theorem ops_part1_3_writes : (ops_part1_3 : List (HloOp τ sig (Elt F))).Forall fun op => op.writes ⊆ (ops_part1_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_3` does not write keeps its contents through it. -/
theorem val2_keep (V0 : Valuation τ sig (Elt F)) (r : Ref sig .tc) (h : r ∉ ops_part1_3_W) :
    val2 V0 (Proc.devRef .tc r) = val1_3 V0 (Proc.devRef .tc r) :=
  after_of_writes_sub ops_part1_3 _ ops_part1_3_writes h
theorem val2_main_arg0 (V0 : Valuation τ sig (Elt F)) : val2 V0 (no_index (Proc.devRef .tc main_arg0)) = V0 (Proc.devRef .tc main_arg0) :=
  (val2_keep V0 main_arg0 (by decide)).trans (val1_3_main_arg0 V0)
theorem val2_main_arg1 (V0 : Valuation τ sig (Elt F)) : val2 V0 (no_index (Proc.devRef .tc main_arg1)) = V0 (Proc.devRef .tc main_arg1) :=
  (val2_keep V0 main_arg1 (by decide)).trans (val1_3_main_arg1 V0)
theorem val2_main_arg2 (V0 : Valuation τ sig (Elt F)) : val2 V0 (no_index (Proc.devRef .tc main_arg2)) = V0 (Proc.devRef .tc main_arg2) :=
  (val2_keep V0 main_arg2 (by decide)).trans (val1_3_main_arg2 V0)
theorem val2_main_arg3 (V0 : Valuation τ sig (Elt F)) : val2 V0 (no_index (Proc.devRef .tc main_arg3)) = V0 (Proc.devRef .tc main_arg3) :=
  (val2_keep V0 main_arg3 (by decide)).trans (val1_3_main_arg3 V0)
theorem val2_main_arg4 (V0 : Valuation τ sig (Elt F)) : val2 V0 (no_index (Proc.devRef .tc main_arg4)) = V0 (Proc.devRef .tc main_arg4) :=
  (val2_keep V0 main_arg4 (by decide)).trans (val1_3_main_arg4 V0)
theorem val2_main_cst (V0 : Valuation τ sig (Elt F)) : val2 V0 (no_index (Proc.devRef .tc main_cst)) = (fun i => FloatOps.ofBits .f32 (lit0 (S1x1x4.rowMajor i))) :=
  (val2_keep V0 main_cst (by decide)).trans (val1_3_main_cst V0)
theorem val2_main_v5 (V0 : Valuation τ sig (Elt F)) : val2 V0 (no_index (Proc.devRef .tc main_v5)) = res_main_v5 V0 :=
  (val2_keep V0 main_v5 (by decide)).trans (val1_3_main_v5 V0)
theorem val2_main_v10 (V0 : Valuation τ sig (Elt F)) : val2 V0 (no_index (Proc.devRef .tc main_v10)) = res_main_v10 V0 :=
  (val2_keep V0 main_v10 (by decide)).trans (val1_3_main_v10 V0)
theorem val2_main_v15 (V0 : Valuation τ sig (Elt F)) : val2 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) :=
  (val2_keep V0 main_v15 (by decide)).trans (val1_3_main_v15 V0)
theorem val2_main_v20 (V0 : Valuation τ sig (Elt F)) : val2 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) :=
  (val2_keep V0 main_v20 (by decide)).trans (val1_3_main_v20 V0)
theorem val2_main_v21 (V0 : Valuation τ sig (Elt F)) : val2 V0 (no_index (Proc.devRef .tc main_v21)) = res_main_v21 V0 :=
  (val2_keep V0 main_v21 (by decide)).trans (val1_3_main_v21 V0)
theorem val2_main_v88 (V0 : Valuation τ sig (Elt F)) : val2 V0 (no_index (Proc.devRef .tc main_v88)) = res_main_v88 V0 :=
  (val2_keep V0 main_v88 (by decide)).trans (val1_3_main_v88 V0)
theorem val2_main_v90 (V0 : Valuation τ sig (Elt F)) : val2 V0 (no_index (Proc.devRef .tc main_v90)) = res_main_v90 V0 :=
  (val2_keep V0 main_v90 (by decide)).trans (val1_3_main_v90 V0)
theorem val2_main_v92 (V0 : Valuation τ sig (Elt F)) : val2 V0 (no_index (Proc.devRef .tc main_v92)) = res_main_v92 V0 :=
  (val2_keep V0 main_v92 (by decide)).trans (val1_3_main_v92 V0)
theorem val2_main_v99 (V0 : Valuation τ sig (Elt F)) : val2 V0 (no_index (Proc.devRef .tc main_v99)) = select (broadcastInDim S8x49104x80 ![0, 1, 2] bcast_S8x49104x1_S8x49104x80_0_1_2 (broadcastInDim S8x49104x1 ![0, 1] bcast_S8x49104_S8x49104x1_0_1 (res_main_v88 V0))) (broadcastInDim S8x49104x80 ![] bcast_S_S8x49104x80 (id (constant S_ .f32 0x00000000#32))) (select (broadcastInDim S8x49104x80 ![0, 1, 2] bcast_S8x49104x1_S8x49104x80_0_1_2 (broadcastInDim S8x49104x1 ![0, 1] bcast_S8x49104_S8x49104x1_0_1 (cmpf .olt (res_main_v85 V0) (broadcastInDim S8x49104 ![] bcast_S_S8x49104 (constant S_ .f32 0x3ECCCCCD#32))))) (broadcastInDim S8x49104x80 ![] bcast_S_S8x49104x80 (id (constant S_ .f32 0x00000000#32))) (broadcastInDim S8x49104x80 ![] bcast_S_S8x49104x80 (constant S_ .f32 0xBF800000#32))) :=
  (val2_keep V0 main_v99 (by decide)).trans (val1_3_main_v99 V0)
set_option maxRecDepth 8192 in
set_option maxHeartbeats 1000000 in
theorem val2_main_v103 (V0 : Valuation τ sig (Elt F)) : val2 V0 (no_index (Proc.devRef .tc main_v103)) = uitofp .f32 (cmpi .eq (broadcastInDim S8x49104x80 ![0, 1, 2] bcast_S8x49104x1_S8x49104x80_0_1_2 (broadcastInDim S8x49104x1 ![0, 1] bcast_S8x49104_S8x49104x1_0_1 (fptosi 32 (shapeCast _ (extractStridedSlice S8x49104x1 ![0, 0, 4] (res_main_v92 V0) slices_S8x49104x5_S8x49104x1_0_0_4) shapeCasts_S8x49104x1_S8x49104)))) (broadcastInDim S8x49104x80 ![0, 1, 2] bcast_S1x1x80_S8x49104x80_0_1_2 (iotaInDim S1x1x80 32 2))) := by
  unfold val2
  simp only [ops_part1_3, TRef.binary, TRef.nullary, TRef.unary, TRef.toBuf, TRef.ofBuf, cast_eq]
  after_results_simp
  simp only [val1_3_main_v92] <;> rfl
set_option maxRecDepth 8192 in
set_option maxHeartbeats 1000000 in
theorem val2_main_v104 (V0 : Valuation τ sig (Elt F)) : val2 V0 (no_index (Proc.devRef .tc main_v104)) = broadcastInDim S8x49104x1 ![0, 1] bcast_S8x49104_S8x49104x1_0_1 (res_main_v88 V0) := by
  unfold val2
  simp only [ops_part1_3, TRef.binary, TRef.nullary, TRef.unary, TRef.toBuf, TRef.ofBuf, cast_eq]
  after_results_simp
  simp only [val1_3_main_v88] <;> rfl

/-- The device's buffer contents after @main's first 195 operations. -/
def val2_1 (V0 : Valuation τ sig (Elt F)) : Valuation τ sig (Elt F) := after ops_part2_0 (val2 V0)
/-- The buffers that window `ops_part2_0`'s operations write. -/
abbrev ops_part2_0_W : List (Ref sig .tc) := [main_cst_13, main_v105, main_v106, main_v107, main_v108, main_cst_14, main_call8_v0, main_call8_v1, main_v109, main_cst_15, main_v110, main_v111, main_cst_16, main_v112, main_v113, main_v114, main_cst_17, main_v115, main_v116, main_cst_18, main_v117, main_v118, main_v119, main_v120, main_cst_19, main_v121, main_v122, main_cst_20, main_v123, main_v124]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_cst (V0 : Valuation τ sig (Elt F)) : val2_1 V0 (no_index (Proc.devRef .tc main_cst)) = (fun i => FloatOps.ofBits .f32 (lit0 (S1x1x4.rowMajor i))) :=
  (val2_1_keep V0 main_cst (by decide)).trans (val2_main_cst V0)
theorem val2_1_main_v5 (V0 : Valuation τ sig (Elt F)) : val2_1 V0 (no_index (Proc.devRef .tc main_v5)) = res_main_v5 V0 :=
  (val2_1_keep V0 main_v5 (by decide)).trans (val2_main_v5 V0)
theorem val2_1_main_v10 (V0 : Valuation τ sig (Elt F)) : val2_1 V0 (no_index (Proc.devRef .tc main_v10)) = res_main_v10 V0 :=
  (val2_1_keep V0 main_v10 (by decide)).trans (val2_main_v10 V0)
theorem val2_1_main_v15 (V0 : Valuation τ sig (Elt F)) : val2_1 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) :=
  (val2_1_keep V0 main_v15 (by decide)).trans (val2_main_v15 V0)
theorem val2_1_main_v20 (V0 : Valuation τ sig (Elt F)) : val2_1 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) :=
  (val2_1_keep V0 main_v20 (by decide)).trans (val2_main_v20 V0)
theorem val2_1_main_v88 (V0 : Valuation τ sig (Elt F)) : val2_1 V0 (no_index (Proc.devRef .tc main_v88)) = res_main_v88 V0 :=
  (val2_1_keep V0 main_v88 (by decide)).trans (val2_main_v88 V0)
theorem val2_1_main_v90 (V0 : Valuation τ sig (Elt F)) : val2_1 V0 (no_index (Proc.devRef .tc main_v90)) = res_main_v90 V0 :=
  (val2_1_keep V0 main_v90 (by decide)).trans (val2_main_v90 V0)
theorem val2_1_main_v92 (V0 : Valuation τ sig (Elt F)) : val2_1 V0 (no_index (Proc.devRef .tc main_v92)) = res_main_v92 V0 :=
  (val2_1_keep V0 main_v92 (by decide)).trans (val2_main_v92 V0)
set_option maxRecDepth 8192 in
set_option maxHeartbeats 2000000 in
theorem val2_1_main_v109 (V0 : Valuation τ sig (Elt F)) : val2_1 V0 (no_index (Proc.devRef .tc main_v109)) = res_main_v109 V0 := by
  unfold val2_1
  simp only [ops_part2_0, TRef.ternary, TRef.unary, TRef.toBuf, TRef.ofBuf, cast_eq]
  after_results_simp
  simp only [val2_main_v99, val2_main_v103, val2_main_v104] <;> rfl
set_option maxRecDepth 8192 in
set_option maxHeartbeats 2000000 in
theorem val2_1_main_v118 (V0 : Valuation τ sig (Elt F)) : val2_1 V0 (no_index (Proc.devRef .tc main_v118)) = mulf (broadcastInDim S8x49104x80 ![] bcast_S_S8x49104x80 (constant S_ .f32 0x3E800000#32)) (Host.powf (select (cmpf .oeq (res_main_v109 V0) (broadcastInDim S8x49104x80 ![] bcast_S_S8x49104x80 (constant S_ .f32 0x3F800000#32))) (subf (broadcastInDim S8x49104x80 ![] bcast_S_S8x49104x80 (constant S_ .f32 0x3F800000#32)) (res_main_v21 V0)) (res_main_v21 V0)) (broadcastInDim S8x49104x80 ![] bcast_S_S8x49104x80 (constant S_ .f32 0x40000000#32))) := by
  unfold val2_1
  simp only [ops_part2_0, TRef.ternary, TRef.unary, TRef.toBuf, TRef.ofBuf, cast_eq]
  after_results_simp
  simp only [val2_main_v21, val2_main_v99, val2_main_v103, val2_main_v104] <;> rfl
set_option maxRecDepth 8192 in
set_option maxHeartbeats 2000000 in
theorem val2_1_main_v120 (V0 : Valuation τ sig (Elt F)) : val2_1 V0 (no_index (Proc.devRef .tc main_v120)) = mulf (res_main_v109 V0) (Host.log (res_main_v21 V0)) := by
  unfold val2_1
  simp only [ops_part2_0, TRef.ternary, TRef.unary, TRef.toBuf, TRef.ofBuf, cast_eq]
  after_results_simp
  simp only [val2_main_v21, val2_main_v99, val2_main_v103, val2_main_v104] <;> rfl
set_option maxRecDepth 8192 in
set_option maxHeartbeats 2000000 in
theorem val2_1_main_v122 (V0 : Valuation τ sig (Elt F)) : val2_1 V0 (no_index (Proc.devRef .tc main_v122)) = subf (broadcastInDim S8x49104x80 ![] bcast_S_S8x49104x80 (constant S_ .f32 0x3F800000#32)) (res_main_v109 V0) := by
  unfold val2_1
  simp only [ops_part2_0, TRef.ternary, TRef.unary, TRef.toBuf, TRef.ofBuf, cast_eq]
  after_results_simp
  simp only [val2_main_v99, val2_main_v103, val2_main_v104] <;> rfl
set_option maxRecDepth 8192 in
set_option maxHeartbeats 2000000 in
theorem val2_1_main_v124 (V0 : Valuation τ sig (Elt F)) : val2_1 V0 (no_index (Proc.devRef .tc main_v124)) = subf (broadcastInDim S8x49104x80 ![] bcast_S_S8x49104x80 (constant S_ .f32 0x3F800000#32)) (res_main_v21 V0) := by
  unfold val2_1
  simp only [ops_part2_0, TRef.ternary, TRef.unary, TRef.toBuf, TRef.ofBuf, cast_eq]
  after_results_simp
  simp only [val2_main_v21] <;> rfl

/-- The device's buffer contents after @main's first 225 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v125, main_v126, main_v127, main_v128, main_v129, main_cst_21, main_v130, main_v131, main_cst_22, main_call10_v0, main_call10_v1, main_v132, main_cst_23, main_v133, main_v134, main_cst_24, main_v135, main_v136, main_v137, main_v138, main_v139, main_v140, main_v141, main_v142, main_v143, main_v144, main_v145, main_v146, main_v147, main_v148]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_cst (V0 : Valuation τ sig (Elt F)) : val2_2 V0 (no_index (Proc.devRef .tc main_cst)) = (fun i => FloatOps.ofBits .f32 (lit0 (S1x1x4.rowMajor i))) :=
  (val2_2_keep V0 main_cst (by decide)).trans (val2_1_main_cst V0)
theorem val2_2_main_v5 (V0 : Valuation τ sig (Elt F)) : val2_2 V0 (no_index (Proc.devRef .tc main_v5)) = res_main_v5 V0 :=
  (val2_2_keep V0 main_v5 (by decide)).trans (val2_1_main_v5 V0)
theorem val2_2_main_v10 (V0 : Valuation τ sig (Elt F)) : val2_2 V0 (no_index (Proc.devRef .tc main_v10)) = res_main_v10 V0 :=
  (val2_2_keep V0 main_v10 (by decide)).trans (val2_1_main_v10 V0)
theorem val2_2_main_v15 (V0 : Valuation τ sig (Elt F)) : val2_2 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) :=
  (val2_2_keep V0 main_v15 (by decide)).trans (val2_1_main_v15 V0)
theorem val2_2_main_v20 (V0 : Valuation τ sig (Elt F)) : val2_2 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) :=
  (val2_2_keep V0 main_v20 (by decide)).trans (val2_1_main_v20 V0)
theorem val2_2_main_v88 (V0 : Valuation τ sig (Elt F)) : val2_2 V0 (no_index (Proc.devRef .tc main_v88)) = res_main_v88 V0 :=
  (val2_2_keep V0 main_v88 (by decide)).trans (val2_1_main_v88 V0)
theorem val2_2_main_v90 (V0 : Valuation τ sig (Elt F)) : val2_2 V0 (no_index (Proc.devRef .tc main_v90)) = res_main_v90 V0 :=
  (val2_2_keep V0 main_v90 (by decide)).trans (val2_1_main_v90 V0)
theorem val2_2_main_v92 (V0 : Valuation τ sig (Elt F)) : val2_2 V0 (no_index (Proc.devRef .tc main_v92)) = res_main_v92 V0 :=
  (val2_2_keep V0 main_v92 (by decide)).trans (val2_1_main_v92 V0)
set_option maxRecDepth 8192 in
set_option maxHeartbeats 2000000 in
theorem val2_2_main_v137 (V0 : Valuation τ sig (Elt F)) : val2_2 V0 (no_index (Proc.devRef .tc main_v137)) = Host.divf (Host.reduceAdd (select (cmpf .une (res_main_v109 V0) (broadcastInDim S8x49104x80 ![] bcast_S_S8x49104x80 (constant S_ .f32 0xBF800000#32))) (mulf (mulf (broadcastInDim S8x49104x80 ![] bcast_S_S8x49104x80 (constant S_ .f32 0x3E800000#32)) (Host.powf (select (cmpf .oeq (res_main_v109 V0) (broadcastInDim S8x49104x80 ![] bcast_S_S8x49104x80 (constant S_ .f32 0x3F800000#32))) (subf (broadcastInDim S8x49104x80 ![] bcast_S_S8x49104x80 (constant S_ .f32 0x3F800000#32)) (res_main_v21 V0)) (res_main_v21 V0)) (broadcastInDim S8x49104x80 ![] bcast_S_S8x49104x80 (constant S_ .f32 0x40000000#32)))) (Host.negf (addf (mulf (res_main_v109 V0) (Host.log (res_main_v21 V0))) (mulf (subf (broadcastInDim S8x49104x80 ![] bcast_S_S8x49104x80 (constant S_ .f32 0x3F800000#32)) (res_main_v109 V0)) (Host.log (subf (broadcastInDim S8x49104x80 ![] bcast_S_S8x49104x80 (constant S_ .f32 0x3F800000#32)) (res_main_v21 V0))))))) (broadcastInDim S8x49104x80 ![] bcast_S_S8x49104x80 (id (constant S_ .f32 0x00000000#32)))) (constant S_ .f32 0x00000000#32) reducesTo_S8x49104x80_S8_d1_2 h_S_) (maximumf (sitofp .f32 (res_main_v90 V0)) (broadcastInDim S8 ![] bcast_S_S8 (constant S_ .f32 0x3F800000#32))) := by
  unfold val2_2
  simp only [ops_part2_1, TRef.ternary, TRef.unary, TRef.toBuf, TRef.ofBuf, cast_eq]
  after_results_simp
  simp only [val2_1_main_v90, val2_1_main_v124, val2_1_main_v122, val2_1_main_v120, val2_1_main_v118, val2_1_main_v109] <;> rfl
set_option maxRecDepth 8192 in
set_option maxHeartbeats 2000000 in
theorem val2_2_main_v142 (V0 : Valuation τ sig (Elt F)) : val2_2 V0 (no_index (Proc.devRef .tc main_v142)) = res_main_v142 V0 := by
  unfold val2_2
  simp only [ops_part2_1, TRef.ternary, TRef.unary, TRef.toBuf, TRef.ofBuf, cast_eq]
  after_results_simp
  simp only [val2_1_main_v92] <;> rfl
set_option maxRecDepth 8192 in
set_option maxHeartbeats 2000000 in
theorem val2_2_main_v147 (V0 : Valuation τ sig (Elt F)) : val2_2 V0 (no_index (Proc.devRef .tc main_v147)) = res_main_v147 V0 := by
  unfold val2_2
  simp only [ops_part2_1, TRef.ternary, TRef.unary, TRef.toBuf, TRef.ofBuf, cast_eq]
  after_results_simp
  simp only [val2_1_main_v92] <;> rfl
set_option maxRecDepth 8192 in
set_option maxHeartbeats 2000000 in
theorem val2_2_main_v148 (V0 : Valuation τ sig (Elt F)) : val2_2 V0 (no_index (Proc.devRef .tc main_v148)) = extractStridedSlice S8x49104x1 ![0, 0, 0] (res_main_v92 V0) slices_S8x49104x5_S8x49104x1_0_0_0 := by
  unfold val2_2
  simp only [ops_part2_1, TRef.ternary, TRef.unary, TRef.toBuf, TRef.ofBuf, cast_eq]
  after_results_simp
  simp only [val2_1_main_v92] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v149, main_cst_25, main_v150, main_v151]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_cst (V0 : Valuation τ sig (Elt F)) : val3 V0 (no_index (Proc.devRef .tc main_cst)) = (fun i => FloatOps.ofBits .f32 (lit0 (S1x1x4.rowMajor i))) :=
  (val3_keep V0 main_cst (by decide)).trans (val2_2_main_cst V0)
theorem val3_main_v5 (V0 : Valuation τ sig (Elt F)) : val3 V0 (no_index (Proc.devRef .tc main_v5)) = res_main_v5 V0 :=
  (val3_keep V0 main_v5 (by decide)).trans (val2_2_main_v5 V0)
theorem val3_main_v10 (V0 : Valuation τ sig (Elt F)) : val3 V0 (no_index (Proc.devRef .tc main_v10)) = res_main_v10 V0 :=
  (val3_keep V0 main_v10 (by decide)).trans (val2_2_main_v10 V0)
theorem val3_main_v15 (V0 : Valuation τ sig (Elt F)) : val3 V0 (no_index (Proc.devRef .tc main_v15)) = addf (shapeCast _ (extractStridedSlice S49104x1 ![0, 0] (res_main_v0 V0) slices_S49104x4_S49104x1_0_0) shapeCasts_S49104x1_S49104) (mulf (broadcastInDim S49104 ![] bcast_S_S49104 (constant S_ .f32 0x3F000000#32)) (res_main_v5 V0)) :=
  (val3_keep V0 main_v15 (by decide)).trans (val2_2_main_v15 V0)
theorem val3_main_v20 (V0 : Valuation τ sig (Elt F)) : val3 V0 (no_index (Proc.devRef .tc main_v20)) = addf (shapeCast _ (extractStridedSlice S49104x1 ![0, 1] (res_main_v0 V0) slices_S49104x4_S49104x1_0_1) shapeCasts_S49104x1_S49104) (mulf (broadcastInDim S49104 ![] bcast_S_S49104 (constant S_ .f32 0x3F000000#32)) (res_main_v10 V0)) :=
  (val3_keep V0 main_v20 (by decide)).trans (val2_2_main_v20 V0)
theorem val3_main_v88 (V0 : Valuation τ sig (Elt F)) : val3 V0 (no_index (Proc.devRef .tc main_v88)) = res_main_v88 V0 :=
  (val3_keep V0 main_v88 (by decide)).trans (val2_2_main_v88 V0)
theorem val3_main_v90 (V0 : Valuation τ sig (Elt F)) : val3 V0 (no_index (Proc.devRef .tc main_v90)) = res_main_v90 V0 :=
  (val3_keep V0 main_v90 (by decide)).trans (val2_2_main_v90 V0)
theorem val3_main_v92 (V0 : Valuation τ sig (Elt F)) : val3 V0 (no_index (Proc.devRef .tc main_v92)) = res_main_v92 V0 :=
  (val3_keep V0 main_v92 (by decide)).trans (val2_2_main_v92 V0)
theorem val3_main_v137 (V0 : Valuation τ sig (Elt F)) : val3 V0 (no_index (Proc.devRef .tc main_v137)) = Host.divf (Host.reduceAdd (select (cmpf .une (res_main_v109 V0) (broadcastInDim S8x49104x80 ![] bcast_S_S8x49104x80 (constant S_ .f32 0xBF800000#32))) (mulf (mulf (broadcastInDim S8x49104x80 ![] bcast_S_S8x49104x80 (constant S_ .f32 0x3E800000#32)) (Host.powf (select (cmpf .oeq (res_main_v109 V0) (broadcastInDim S8x49104x80 ![] bcast_S_S8x49104x80 (constant S_ .f32 0x3F800000#32))) (subf (broadcastInDim S8x49104x80 ![] bcast_S_S8x49104x80 (constant S_ .f32 0x3F800000#32)) (res_main_v21 V0)) (res_main_v21 V0)) (broadcastInDim S8x49104x80 ![] bcast_S_S8x49104x80 (constant S_ .f32 0x40000000#32)))) (Host.negf (addf (mulf (res_main_v109 V0) (Host.log (res_main_v21 V0))) (mulf (subf (broadcastInDim S8x49104x80 ![] bcast_S_S8x49104x80 (constant S_ .f32 0x3F800000#32)) (res_main_v109 V0)) (Host.log (subf (broadcastInDim S8x49104x80 ![] bcast_S_S8x49104x80 (constant S_ .f32 0x3F800000#32)) (res_main_v21 V0))))))) (broadcastInDim S8x49104x80 ![] bcast_S_S8x49104x80 (id (constant S_ .f32 0x00000000#32)))) (constant S_ .f32 0x00000000#32) reducesTo_S8x49104x80_S8_d1_2 h_S_) (maximumf (sitofp .f32 (res_main_v90 V0)) (broadcastInDim S8 ![] bcast_S_S8 (constant S_ .f32 0x3F800000#32))) :=
  (val3_keep V0 main_v137 (by decide)).trans (val2_2_main_v137 V0)
theorem val3_main_v142 (V0 : Valuation τ sig (Elt F)) : val3 V0 (no_index (Proc.devRef .tc main_v142)) = res_main_v142 V0 :=
  (val3_keep V0 main_v142 (by decide)).trans (val2_2_main_v142 V0)
theorem val3_main_v147 (V0 : Valuation τ sig (Elt F)) : val3 V0 (no_index (Proc.devRef .tc main_v147)) = res_main_v147 V0 :=
  (val3_keep V0 main_v147 (by decide)).trans (val2_2_main_v147 V0)
set_option maxRecDepth 8192 in
theorem val3_main_v149 (V0 : Valuation τ sig (Elt F)) : val3 V0 (no_index (Proc.devRef .tc main_v149)) = shapeCast _ (extractStridedSlice S8x49104x1 ![0, 0, 0] (res_main_v92 V0) slices_S8x49104x5_S8x49104x1_0_0_0) shapeCasts_S8x49104x1_S8x49104 := by
  unfold val3
  simp only [ops_part2_2]
  after_results_simp
  simp only [val2_2_main_v148] <;> rfl
set_option maxRecDepth 8192 in
theorem val3_main_v151 (V0 : Valuation τ sig (Elt F)) : val3 V0 (no_index (Proc.devRef .tc main_v151)) = mulf (broadcastInDim S8x49104 ![] bcast_S_S8x49104 (constant S_ .f32 0x3F000000#32)) (res_main_v142 V0) := by
  unfold val3
  simp only [ops_part2_2]
  after_results_simp
  simp only [val2_2_main_v142] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v152, main_v153, main_v154, main_cst_26, main_v155, main_v156, main_v157, main_cst_27, main_v158, main_v159, main_cst_28, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_cst_29, main_v191, main_v192, main_v193, main_cst_30, main_v194, main_v195, main_cst_31, main_v196, main_v197, main_v198, main_v199, main_v200, main_v201, main_v202, main_cst_32, main_v203, main_c_33]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_v90 (V0 : Valuation τ sig (Elt F)) : val4 V0 (no_index (Proc.devRef .tc main_v90)) = res_main_v90 V0 :=
  (val4_keep V0 main_v90 (by decide)).trans (val3_main_v90 V0)
theorem val4_main_v137 (V0 : Valuation τ sig (Elt F)) : val4 V0 (no_index (Proc.devRef .tc main_v137)) = Host.divf (Host.reduceAdd (select (cmpf .une (res_main_v109 V0) (broadcastInDim S8x49104x80 ![] bcast_S_S8x49104x80 (constant S_ .f32 0xBF800000#32))) (mulf (mulf (broadcastInDim S8x49104x80 ![] bcast_S_S8x49104x80 (constant S_ .f32 0x3E800000#32)) (Host.powf (select (cmpf .oeq (res_main_v109 V0) (broadcastInDim S8x49104x80 ![] bcast_S_S8x49104x80 (constant S_ .f32 0x3F800000#32))) (subf (broadcastInDim S8x49104x80 ![] bcast_S_S8x49104x80 (constant S_ .f32 0x3F800000#32)) (res_main_v21 V0)) (res_main_v21 V0)) (broadcastInDim S8x49104x80 ![] bcast_S_S8x49104x80 (constant S_ .f32 0x40000000#32)))) (Host.negf (addf (mulf (res_main_v109 V0) (Host.log (res_main_v21 V0))) (mulf (subf (broadcastInDim S8x49104x80 ![] bcast_S_S8x49104x80 (constant S_ .f32 0x3F800000#32)) (res_main_v109 V0)) (Host.log (subf (broadcastInDim S8x49104x80 ![] bcast_S_S8x49104x80 (constant S_ .f32 0x3F800000#32)) (res_main_v21 V0))))))) (broadcastInDim S8x49104x80 ![] bcast_S_S8x49104x80 (id (constant S_ .f32 0x00000000#32)))) (constant S_ .f32 0x00000000#32) reducesTo_S8x49104x80_S8_d1_2 h_S_) (maximumf (sitofp .f32 (res_main_v90 V0)) (broadcastInDim S8 ![] bcast_S_S8 (constant S_ .f32 0x3F800000#32))) :=
  (val4_keep V0 main_v137 (by decide)).trans (val3_main_v137 V0)
set_option maxRecDepth 8192 in
set_option maxHeartbeats 2000000 in
theorem val4_main_v203 (V0 : Valuation τ sig (Elt F)) : val4 V0 (no_index (Proc.devRef .tc main_v203)) = Host.reduceAdd (mulf (select (cmpf .ole (res_main_v190 V0) (broadcastInDim S8x49104x4 ![] bcast_S_S8x49104x4 (constant S_ .f32 0x3DE38E39#32))) (mulf (broadcastInDim S8x49104x4 ![] bcast_S_S8x49104x4 (constant S_ .f32 0x40900000#32)) (mulf (res_main_v190 V0) (res_main_v190 V0))) (subf (res_main_v190 V0) (broadcastInDim S8x49104x4 ![] bcast_S_S8x49104x4 (constant S_ .f32 0x3D638E39#32)))) (broadcastInDim S8x49104x4 ![0, 1, 2] bcast_S8x49104x1_S8x49104x4_0_1_2 (uitofp .f32 (broadcastInDim S8x49104x1 ![0, 1] bcast_S8x49104_S8x49104x1_0_1 (res_main_v88 V0))))) (constant S_ .f32 0x00000000#32) reducesTo_S8x49104x4_S8_d1_2 h_S_ := by
  unfold val4
  simp only [ops_part3, TRef.ternary, TRef.toBuf, TRef.ofBuf, cast_eq]
  after_results_simp
  try dsimp only [Matrix.cons_val]
  try after_results_simp
  simp only [val3_main_v88, val3_main_arg1, val3_main_cst, val3_main_v10, val3_main_v147, val3_main_v5, val3_main_v142, val3_main_v20, val3_main_v92, val3_main_v15, val3_main_v151, val3_main_v149] <;> rfl
set_option maxRecDepth 8192 in
set_option maxHeartbeats 2000000 in
theorem val4_main_c_33 (V0 : Valuation τ sig (Elt F)) : val4 V0 (no_index (Proc.devRef .tc main_c_33)) = constantI S_ 32 0#32 := by
  unfold val4
  simp only [ops_part3, TRef.ternary, TRef.toBuf, TRef.ofBuf, cast_eq]
  after_results_simp
  try dsimp only [Matrix.cons_val]
  try after_results_simp
  all_goals rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v204, main_v205, main_c_34, main_v206, main_v207, main_v208, main_cst_35, main_v209, main_v210, main_v211, main_cst_36, main_call12_v0, main_call12_v1, main_v212, main_cst_37, main_v213, main_v214, main_cst_38, main_v215, main_v216, main_cst_39, main_v217, main_v218, main_cst_40, main_v219, main_v220]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
set_option maxRecDepth 8192 in
set_option maxHeartbeats 2000000 in
theorem val5_main_v216 (V0 : Valuation τ sig (Elt F)) : val5 V0 (no_index (Proc.devRef .tc main_v216)) = Host.divf (broadcastInDim S1 ![] bcast_S_S1 (Host.reduceAdd (Host.divf (Host.reduceAdd (select (cmpf .une (res_main_v109 V0) (broadcastInDim S8x49104x80 ![] bcast_S_S8x49104x80 (constant S_ .f32 0xBF800000#32))) (mulf (mulf (broadcastInDim S8x49104x80 ![] bcast_S_S8x49104x80 (constant S_ .f32 0x3E800000#32)) (Host.powf (select (cmpf .oeq (res_main_v109 V0) (broadcastInDim S8x49104x80 ![] bcast_S_S8x49104x80 (constant S_ .f32 0x3F800000#32))) (subf (broadcastInDim S8x49104x80 ![] bcast_S_S8x49104x80 (constant S_ .f32 0x3F800000#32)) (res_main_v21 V0)) (res_main_v21 V0)) (broadcastInDim S8x49104x80 ![] bcast_S_S8x49104x80 (constant S_ .f32 0x40000000#32)))) (Host.negf (addf (mulf (res_main_v109 V0) (Host.log (res_main_v21 V0))) (mulf (subf (broadcastInDim S8x49104x80 ![] bcast_S_S8x49104x80 (constant S_ .f32 0x3F800000#32)) (res_main_v109 V0)) (Host.log (subf (broadcastInDim S8x49104x80 ![] bcast_S_S8x49104x80 (constant S_ .f32 0x3F800000#32)) (res_main_v21 V0))))))) (broadcastInDim S8x49104x80 ![] bcast_S_S8x49104x80 (id (constant S_ .f32 0x00000000#32)))) (constant S_ .f32 0x00000000#32) reducesTo_S8x49104x80_S8_d1_2 h_S_) (maximumf (sitofp .f32 (res_main_v90 V0)) (broadcastInDim S8 ![] bcast_S_S8 (constant S_ .f32 0x3F800000#32)))) (constant S_ .f32 0x00000000#32) reducesTo_S8_S_d0 h_S_)) (broadcastInDim S1 ![] bcast_S_S1 (constant S_ .f32 0x41000000#32)) := by
  unfold val5
  simp only [ops_part4, TRef.ternary, TRef.unary, TRef.toBuf, TRef.ofBuf, cast_eq]
  after_results_simp
  simp only [val4_main_v137] <;> rfl
set_option maxRecDepth 8192 in
set_option maxHeartbeats 2000000 in
theorem val5_main_v220 (V0 : Valuation τ sig (Elt F)) : val5 V0 (no_index (Proc.devRef .tc main_v220)) = Host.divf (broadcastInDim S1 ![] bcast_S_S1 (Host.reduceAdd (select (cmpi .sgt (res_main_v90 V0) (broadcastInDim S8 ![] bcast_S_S8 (constantI S_ 32 0#32))) (Host.divf (Host.reduceAdd (mulf (select (cmpf .ole (res_main_v190 V0) (broadcastInDim S8x49104x4 ![] bcast_S_S8x49104x4 (constant S_ .f32 0x3DE38E39#32))) (mulf (broadcastInDim S8x49104x4 ![] bcast_S_S8x49104x4 (constant S_ .f32 0x40900000#32)) (mulf (res_main_v190 V0) (res_main_v190 V0))) (subf (res_main_v190 V0) (broadcastInDim S8x49104x4 ![] bcast_S_S8x49104x4 (constant S_ .f32 0x3D638E39#32)))) (broadcastInDim S8x49104x4 ![0, 1, 2] bcast_S8x49104x1_S8x49104x4_0_1_2 (uitofp .f32 (broadcastInDim S8x49104x1 ![0, 1] bcast_S8x49104_S8x49104x1_0_1 (res_main_v88 V0))))) (constant S_ .f32 0x00000000#32) reducesTo_S8x49104x4_S8_d1_2 h_S_) (mulf (sitofp .f32 (maxsi (res_main_v90 V0) (broadcastInDim S8 ![] bcast_S_S8 (constantI S_ 32 1#32)))) (broadcastInDim S8 ![] bcast_S_S8 (constant S_ .f32 0x40800000#32)))) (broadcastInDim S8 ![] bcast_S_S8 (id (constant S_ .f32 0x00000000#32)))) (constant S_ .f32 0x00000000#32) reducesTo_S8_S_d0 h_S_)) (broadcastInDim S1 ![] bcast_S_S1 (constant S_ .f32 0x41000000#32)) := by
  unfold val5
  simp only [ops_part4, TRef.ternary, TRef.unary, TRef.toBuf, TRef.ofBuf, cast_eq]
  after_results_simp
  simp only [val4_main_v90, val4_main_v203, val4_main_c_33] <;> rfl

theorem after_ops (V0 : Valuation τ sig (Elt F)) : after ops V0 = val5 V0 := by
  simp only [ops, ops_part0, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v216) = Host.divf (broadcastInDim S1 ![] bcast_S_S1 (Host.reduceAdd (Host.divf (Host.reduceAdd (select (cmpf .une (res_main_v109 (launchContents m c)) (broadcastInDim S8x49104x80 ![] bcast_S_S8x49104x80 (constant S_ .f32 0xBF800000#32))) (mulf (mulf (broadcastInDim S8x49104x80 ![] bcast_S_S8x49104x80 (constant S_ .f32 0x3E800000#32)) (Host.powf (select (cmpf .oeq (res_main_v109 (launchContents m c)) (broadcastInDim S8x49104x80 ![] bcast_S_S8x49104x80 (constant S_ .f32 0x3F800000#32))) (subf (broadcastInDim S8x49104x80 ![] bcast_S_S8x49104x80 (constant S_ .f32 0x3F800000#32)) (res_main_v21 (launchContents m c))) (res_main_v21 (launchContents m c))) (broadcastInDim S8x49104x80 ![] bcast_S_S8x49104x80 (constant S_ .f32 0x40000000#32)))) (Host.negf (addf (mulf (res_main_v109 (launchContents m c)) (Host.log (res_main_v21 (launchContents m c)))) (mulf (subf (broadcastInDim S8x49104x80 ![] bcast_S_S8x49104x80 (constant S_ .f32 0x3F800000#32)) (res_main_v109 (launchContents m c))) (Host.log (subf (broadcastInDim S8x49104x80 ![] bcast_S_S8x49104x80 (constant S_ .f32 0x3F800000#32)) (res_main_v21 (launchContents m c)))))))) (broadcastInDim S8x49104x80 ![] bcast_S_S8x49104x80 (id (constant S_ .f32 0x00000000#32)))) (constant S_ .f32 0x00000000#32) reducesTo_S8x49104x80_S8_d1_2 h_S_) (maximumf (sitofp .f32 (res_main_v90 (launchContents m c))) (broadcastInDim S8 ![] bcast_S_S8 (constant S_ .f32 0x3F800000#32)))) (constant S_ .f32 0x00000000#32) reducesTo_S8_S_d0 h_S_)) (broadcastInDim S1 ![] bcast_S_S1 (constant S_ .f32 0x41000000#32))
      ∧ r.2.mem ((c.tc : Thread nD τ).loc main_v220) = Host.divf (broadcastInDim S1 ![] bcast_S_S1 (Host.reduceAdd (select (cmpi .sgt (res_main_v90 (launchContents m c)) (broadcastInDim S8 ![] bcast_S_S8 (constantI S_ 32 0#32))) (Host.divf (Host.reduceAdd (mulf (select (cmpf .ole (res_main_v190 (launchContents m c)) (broadcastInDim S8x49104x4 ![] bcast_S_S8x49104x4 (constant S_ .f32 0x3DE38E39#32))) (mulf (broadcastInDim S8x49104x4 ![] bcast_S_S8x49104x4 (constant S_ .f32 0x40900000#32)) (mulf (res_main_v190 (launchContents m c)) (res_main_v190 (launchContents m c)))) (subf (res_main_v190 (launchContents m c)) (broadcastInDim S8x49104x4 ![] bcast_S_S8x49104x4 (constant S_ .f32 0x3D638E39#32)))) (broadcastInDim S8x49104x4 ![0, 1, 2] bcast_S8x49104x1_S8x49104x4_0_1_2 (uitofp .f32 (broadcastInDim S8x49104x1 ![0, 1] bcast_S8x49104_S8x49104x1_0_1 (res_main_v88 (launchContents m c)))))) (constant S_ .f32 0x00000000#32) reducesTo_S8x49104x4_S8_d1_2 h_S_) (mulf (sitofp .f32 (maxsi (res_main_v90 (launchContents m c)) (broadcastInDim S8 ![] bcast_S_S8 (constantI S_ 32 1#32)))) (broadcastInDim S8 ![] bcast_S_S8 (constant S_ .f32 0x40800000#32)))) (broadcastInDim S8 ![] bcast_S_S8 (id (constant S_ .f32 0x00000000#32)))) (constant S_ .f32 0x00000000#32) reducesTo_S8_S_d0 h_S_)) (broadcastInDim S1 ![] bcast_S_S1 (constant S_ .f32 0x41000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v216).trans ((congrFun (after_ops (launchContents m c)) (Proc.devRef .tc main_v216)).trans (val5_main_v216 (launchContents m c))),
      (h c main_v220).trans ((congrFun (after_ops (launchContents m c)) (Proc.devRef .tc main_v220)).trans (val5_main_v220 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c))),
      (h c main_arg3).trans ((congrFun (after_ops (launchContents m c)) (Proc.devRef .tc main_arg3)).trans (val5_main_arg3 (launchContents m c))),
      (h c main_arg4).trans ((congrFun (after_ops (launchContents m c)) (Proc.devRef .tc main_arg4)).trans (val5_main_arg4 (launchContents m c)))⟩)
    (run_seq scopedRefs_eq scopedSems_eq defs main (fun _ => ops) main_eq (fun _ => ops_sub) m ρ fun _ => ops_fresh)

end Cert.ReferenceIdeal.Value
-- ==== Proof.RefFrame.lean ====
/- The reference's frame: its run read at the arguments, with no semaphore to leave behind. -/
module

public import proofs.«01_k».proof.Proof.RefRunB
public import proofs.«01_k».proof.Defs

@[expose] public section

noncomputable section

namespace Cert.ReferenceIdeal.Value

open Idealize.ShloMosaic Idealize.ShloMosaic.TcCoe Idealize.SL.Sem

variable {F : FTy → Type} [FloatOps F]

/-- The reference terminates from any memory with zero counters, leaving its arguments unchanged and the counters at zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems (by decide) r.2⟩) (run m ρ)

end Cert.ReferenceIdeal.Value

end
-- ==== Proof.Focal.lean ====
/- The scalar formulas of the focal loss: one anchor against its image's annotations. -/
module

public import Idealize.ShloMosaic.Lib.Pointwise
public import Idealize.ShloMosaic.Lib.IdealHost

@[expose] public section

noncomputable section

namespace Cert.Focal

open Idealize.ShloMosaic

/-- The length two intervals share, zero if they are apart. -/
def overlap (lo hi lo' hi' : EReal) : EReal := max 0 (min hi hi' - max lo lo')

/-- The area a box shares with an annotation. -/
def inter (a : Fin 4 → EReal) (g : Fin 5 → EReal) : EReal := overlap (a 0) (a 2) (g 0) (g 2) * overlap (a 1) (a 3) (g 1) (g 3)

/-- Intersection over union, the union kept off zero. -/
def iou (a : Fin 4 → EReal) (g : Fin 5 → EReal) : EReal :=
  Ideal.div (inter a g) (max ((a 2 - a 0) * (a 3 - a 1) + (g 2 - g 0) * (g 3 - g 1) - inter a g) (Ideal.ofBits .f32 0x322BCC77#32))

/-- The greatest entry of a row. -/
def best (f : Fin 24 → EReal) : EReal := Finset.univ.fold max ⊥ f

/-- `k` is the first place at which the row is greatest. -/
def IsPick (f : Fin 24 → EReal) (k : Fin 24) : Prop := f k = best f ∧ ∀ k' < k, f k' ≠ best f

/-- The greatest value of a row is its supremum. -/
theorem best_eq_sup (f : Fin 24 → EReal) : best f = Finset.univ.sup f := rfl

/-- A row has a first index of its greatest value. -/
theorem exists_isPick (f : Fin 24 → EReal) : ∃ k, IsPick f k := by
  obtain ⟨k, -, hk⟩ := Finset.exists_mem_eq_sup Finset.univ ⟨0, Finset.mem_univ _⟩ f
  have h : ∃ k, f k = best f := ⟨k, by rw [best_eq_sup, hk]⟩
  classical
  exact ⟨Fin.find _ h, Fin.find_spec h, fun k' hk' => Fin.find_min h hk'⟩

/-- The first place at which a row is greatest. -/
def pick (f : Fin 24 → EReal) : Fin 24 := Classical.choose (exists_isPick f)

/-- The picked index is the first one of the greatest value. -/
theorem pick_spec (f : Fin 24 → EReal) : IsPick f (pick f) := Classical.choose_spec (exists_isPick f)

/-- The first index of the greatest value is unique. -/
theorem IsPick.eq {f : Fin 24 → EReal} {k : Fin 24} (h : IsPick f k) : k = pick f := by
  rcases lt_trichotomy k (pick f) with h' | h' | h'
  · exact absurd h.1 ((pick_spec f).2 _ h')
  · exact h'
  · exact absurd (pick_spec f).1 (h.2 _ h')

/-- The row of overlaps of an anchor with its image's annotations. -/
def row (a : Fin 4 → EReal) (g : Fin 24 → Fin 5 → EReal) (k : Fin 24) : EReal := iou a (g k)

/-- The smooth absolute loss of a difference. -/
def smooth (d : EReal) : EReal := if d ≤ Ideal.ofBits .f32 0x3DE38E39#32 then Ideal.ofBits .f32 0x40900000#32 * d * d else d - Ideal.ofBits .f32 0x3D638E39#32

/-- A centre's offset from the anchor's, in units of the anchor's length and of a tenth. -/
def shift (lo hi lo' hi' : EReal) : EReal :=
  Ideal.div (lo' + Ideal.ofBits .f32 0x3F000000#32 * (hi' - lo') - (lo + Ideal.ofBits .f32 0x3F000000#32 * (hi - lo))) (hi - lo)

/-- A length's logarithm in units of the anchor's. -/
def stretch (lo hi lo' hi' : EReal) : EReal := Ideal.log (Ideal.div (max (hi' - lo') 1) (hi - lo))

/-- The four box targets before their scales. -/
def offsets (a : Fin 4 → EReal) (g : Fin 5 → EReal) : Fin 4 → EReal :=
  ![shift (a 0) (a 2) (g 0) (g 2), shift (a 1) (a 3) (g 1) (g 3), stretch (a 0) (a 2) (g 0) (g 2), stretch (a 1) (a 3) (g 1) (g 3)]

/-- The four scales. -/
def scales : Fin 4 → EReal := ![((134217728 / 13421773 : ℝ) : EReal), ((134217728 / 13421773 : ℝ) : EReal), ((67108864 / 13421773 : ℝ) : EReal), ((67108864 / 13421773 : ℝ) : EReal)]

/-- The box loss of one anchor, whichever its overlap. -/
def boxLoss (a r : Fin 4 → EReal) (g : Fin 5 → EReal) : EReal := ∑ j : Fin 4, smooth (FloatOps.absf (F := Ideal) (φ := .f32) (offsets a g j * scales j - r j))

/-- The score loss of one anchor against the background, up to its factor. -/
def background (p : Fin 80 → EReal) : EReal := ∑ c : Fin 80, p c * p c * Ideal.log (1 - p c)

/-- What the class the anchor is given adds to it. -/
def foreground (q : EReal) : EReal := (1 - q) * (1 - q) * Ideal.log q - q * q * Ideal.log (1 - q)

/-- The score of the class named by a word, zero if it names none. -/
def score (p : Fin 80 → EReal) (lab : BitVec 32) : EReal := ∑ c : Fin 80, if BitVec.ofNat 32 c.val = lab then p c else 0

/-- An anchor whose greatest overlap is at least a half is positive. -/
abbrev positive (b : EReal) : Prop := Ideal.ofBits .f32 0x3F000000#32 ≤ b
/-- An anchor whose greatest overlap is below two fifths is background. -/
abbrev negative (b : EReal) : Prop := b < Ideal.ofBits .f32 0x3ECCCCCD#32

end Cert.Focal
-- ==== Proof.KernPick.lean ====
/- The annotation a block of the kernel gives each of its anchors, lane by lane. -/
module

public import proofs.«01_k».proof.Proof.Focal
public import Idealize.ShloMosaic.Lib.WordCmp
public import proofs.«01_k».proof.Proof.Gen.KernelIdeal.Skeleton

@[expose] public section

set_option maxRecDepth 16384

noncomputable section

namespace Cert.Focal

open Idealize.ShloMosaic

/-- A word below 2³¹ reads as itself. -/
theorem toInt_small (n : ℕ) (h : n < 2 ^ 31) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

/-- The least of the places at which the row is greatest, as a word, is the first of them. -/
theorem fold_first (f : Fin 24 → EReal) :
    Finset.univ.fold IntOp.minsi 2147483647#32 (fun k : Fin 24 => if f k = best f then BitVec.ofNat 32 k.val else 24#32) = BitVec.ofNat 32 (pick f).val := by
  obtain ⟨h1, h2⟩ := pick_spec f
  apply BitVec.eq_of_toInt_eq
  have hm : ∀ x y : BitVec 32, (IntOp.minsi x y).toInt = min x.toInt y.toInt := by
    intro x y
    simp only [IntOp.minsi, BitVec.slt_iff_toInt_lt, BitVec.sle_iff_toInt_le]
    split <;> omega
  rw [← Finset.fold_hom (op := IntOp.minsi) (op' := min) hm, toInt_small _ (by have := (pick f).isLt; omega)]
  have hp := (pick f).isLt
  have e1 : (2147483647#32).toInt = 2147483647 := by decide
  have e2 : (24#32).toInt = 24 := by decide
  rw [toInt_small (pick f).val (by omega)]
  try rw [e1]
  apply le_antisymm
  · refine (Finset.fold_min_le _).mpr (Or.inr ⟨pick f, Finset.mem_univ _, ?_⟩)
    rw [if_pos h1, toInt_small _ (by omega)]
  · refine (Finset.le_fold_min _).mpr ⟨by push_cast; omega, fun k _ => ?_⟩
    by_cases hk : f k = best f
    · rw [if_pos hk, toInt_small _ (by have := k.isLt; omega)]
      have : ¬ k < pick f := fun h => h2 k h hk
      have : pick f ≤ k := not_lt.mp this
      exact_mod_cast this
    · rw [if_neg hk, e2]; omega

/-- A place's own mark is one. -/
theorem sel_self (n : ℕ) : FloatOps.sitofp (F := Ideal) .f32 (BitVec.setWidth 32 (IntOp.cmpi .eq (BitVec.ofNat 32 n) (BitVec.ofNat 32 n))) = (1 : EReal) := by
  simp only [IntOp.cmpi, beq_self_eq_true]
  show (((BitVec.setWidth 32 (BitVec.ofBool true)).toInt : ℝ) : EReal) = 1
  rw [show (BitVec.setWidth 32 (BitVec.ofBool true)).toInt = 1 from by decide]; norm_num

/-- Every other place's mark is zero. -/
theorem sel_other (n k : ℕ) (hn : n < 24) (hk : k < 24) (h : n ≠ k) :
    FloatOps.sitofp (F := Ideal) .f32 (BitVec.setWidth 32 (IntOp.cmpi .eq (BitVec.ofNat 32 n) (BitVec.ofNat 32 k))) = (0 : EReal) := by
  have : (BitVec.ofNat 32 n == BitVec.ofNat 32 k) = false := by
    rw [beq_eq_false_iff_ne]; intro e
    have := congrArg BitVec.toInt e
    rw [toInt_small _ (by omega), toInt_small _ (by omega)] at this
    omega
  simp only [IntOp.cmpi, this]
  show (((BitVec.setWidth 32 (BitVec.ofBool false)).toInt : ℝ) : EReal) = 0
  rw [show (BitVec.setWidth 32 (BitVec.ofBool false)).toInt = 0 from by decide]; norm_num

end Cert.Focal

namespace Cert.KernelIdeal.Hand

open Idealize.ShloMosaic Cert.KernelIdeal Cert.KernelIdeal.Gen Cert.Focal

section
variable (i : grid0.Coords) (x0 : Vec Ideal S1x80x8192 .f32) (x1 : Vec Ideal S1x4x8192 .f32) (x2 : Vec Ideal S4x8192 .f32) (x3 : Vec Ideal S1x24x5 .f32) (x4 : Vec Ideal S1x5x24 .f32)

/-- The anchor in a lane of the block. -/
def box (l : Fin 8192) : Fin 4 → EReal := fun j => x2 (ix2 j l)
/-- The annotations of the block's image. -/
def notes (k : Fin 24) : Fin 5 → EReal := fun j => x3 (ix3 0 k j)

/-- The block's table of intersections over union. -/
def kIou : FVec Ideal S24x8192 .f32 :=
  k0_pay26 (k0_pay11 x2) (k0_pay13 x2) (k0_pay18 x2) (k0_pay19 x3) (k0_pay20 x3) (k0_pay22 x3) (k0_pay23 x3) (k0_pay24 x2 x3) (k0_pay25 x2)

/-- The kernel's overlap of a lane with an annotation. -/
theorem kIou_apply (k : Fin 24) (l : Fin 8192) : kIou x2 x3 (ix2 k l) = row (box x2 l) (notes x3) k := by
  pointwise [kIou, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7, k0_pay6, row, box, notes, iou, inter, overlap]

/-- The greatest of them for each anchor. -/
def kBest : FVec Ideal S1x8192 .f32 :=
  k0_pay27 (k0_pay11 x2) (k0_pay13 x2) (k0_pay18 x2) (k0_pay19 x3) (k0_pay20 x3) (k0_pay22 x3) (k0_pay23 x3) (k0_pay24 x2 x3) (k0_pay25 x2)

/-- The printed overlap is the named one. -/
theorem kIou_fold : k0_pay26 (k0_pay11 x2) (k0_pay13 x2) (k0_pay18 x2) (k0_pay19 x3) (k0_pay20 x3) (k0_pay22 x3) (k0_pay23 x3) (k0_pay24 x2 x3) (k0_pay25 x2) = kIou x2 x3 := rfl
/-- The printed greatest overlap is the named one. -/
theorem kBest_fold : k0_pay27 (k0_pay11 x2) (k0_pay13 x2) (k0_pay18 x2) (k0_pay19 x3) (k0_pay20 x3) (k0_pay22 x3) (k0_pay23 x3) (k0_pay24 x2 x3) (k0_pay25 x2) = kBest x2 x3 := rfl

/-- A lane's greatest overlap. -/
theorem kBest_apply (l : Fin 8192) : kBest x2 x3 (ix2 0 l) = best (row (box x2 l) (notes x3)) := by
  simp only [kBest, k0_pay27, kIou_fold]
  pointwise
  simp only [kIou_apply]
  rfl

/-- The annotation each anchor is given. -/
def kRow : FVec Ideal S5x8192 .f32 :=
  k0_pay28 (k0_pay8 x4) (k0_pay11 x2) (k0_pay13 x2) (k0_pay18 x2) (k0_pay19 x3) (k0_pay20 x3) (k0_pay22 x3) (k0_pay23 x3) (k0_pay24 x2 x3) (k0_pay25 x2)

/-- The printed matched annotation is the named one. -/
theorem kRow_fold : k0_pay28 (k0_pay8 x4) (k0_pay11 x2) (k0_pay13 x2) (k0_pay18 x2) (k0_pay19 x3) (k0_pay20 x3) (k0_pay22 x3) (k0_pay23 x3) (k0_pay24 x2 x3) (k0_pay25 x2) = kRow x2 x3 x4 := rfl

/-- It is the first of those it overlaps most. -/
theorem kRow_apply (j : Fin 5) (l : Fin 8192) :
    kRow x2 x3 x4 (ix2 j l) = x4 (ix3 0 j (pick (row (box x2 l) (notes x3)))) := by
  simp only [kRow, k0_pay28, kIou_fold, kBest_fold]
  pointwise [k0_pay8]
  simp only [kIou_apply, kBest_apply]
  rw [fold_first]
  rw [Finset.sum_eq_single (pick (row (box x2 l) (notes x3)))]
  · rw [sel_self, mul_one]
  · intro k _ hk
    rw [sel_other _ _ k.isLt (pick _).isLt (fun h => hk (Fin.ext h)), mul_zero]
  · intro h; exact absurd (Finset.mem_univ _) h

/-- Whether an anchor is positive. -/
def kPos : IVec S1x8192 1 :=
  k0_pay34 (k0_pay9 i) (k0_pay11 x2) (k0_pay13 x2) (k0_pay18 x2) (k0_pay19 x3) (k0_pay20 x3) (k0_pay22 x3) (k0_pay23 x3) (k0_pay24 x2 x3) (k0_pay25 x2)

/-- The printed mask of the matched lanes is the named one. -/
theorem kPos_fold : k0_pay34 (k0_pay9 i) (k0_pay11 x2) (k0_pay13 x2) (k0_pay18 x2) (k0_pay19 x3) (k0_pay20 x3) (k0_pay22 x3) (k0_pay23 x3) (k0_pay24 x2 x3) (k0_pay25 x2) = kPos i x2 x3 := rfl

/-- Whether a lane of the block holds an anchor. -/
abbrev live (l : Fin 8192) : Prop := (i 1).val * 8192 + l.val < 49104

/-- A lane is live when its anchor exists. -/
theorem kLive_apply (l : Fin 8192) : k0_pay9 i (ix2 0 l) = BitVec.ofBool (decide (live i l)) := by
  pointwise [k0_pay9]
  have h1 := (i 1).isLt; have h2 := l.isLt
  have h1 : (i 1).val < 6 := h1
  unfold live
  generalize (i 1).val = a at *
  generalize l.val = b at *
  rw [show IntOp.addi (BitVec.ofNat 32 b) (Scalar.muli (BitVec.ofNat 32 a) 8192#32) = BitVec.ofNat 32 (b + a * 8192) from by
    show BitVec.ofNat 32 b + BitVec.ofNat 32 a * BitVec.ofNat 32 8192 = _
    rw [← BitVec.ofNat_mul, ← BitVec.ofNat_add], Nat.add_comm (a * 8192) b]
  word_cmp

/-- A lane is matched when it is live and its greatest overlap is at least a half. -/
theorem kPos_apply (l : Fin 8192) : kPos i x2 x3 (ix2 0 l) = BitVec.ofBool (decide (Ideal.ofBits .f32 0x3F000000#32 ≤ best (row (box x2 l) (notes x3)) ∧ live i l)) := by
  simp only [kPos, k0_pay34, kBest_fold]
  pointwise
  simp only [kBest_apply, kLive_apply]
  by_cases h1 : Ideal.ofBits .f32 0x3F000000#32 ≤ best (row (box x2 l) (notes x3)) <;> by_cases h2 : live i l <;> simp only [h1, h2] <;> rfl

end

end Cert.KernelIdeal.Hand
-- ==== Proof.IdealRun.lean ====
module

public import proofs.«01_k».proof.Proof.Gen.KernelIdeal.Frame
public import proofs.«01_k».proof.Proof.Gen.KernelIdeal.Points
public import proofs.«01_k».proof.Proof.Gen.KernelIdeal.Skeleton
public import proofs.«01_k».proof.Proof.IdealFrame
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The class loss a block adds: of the block's number, its scores, anchors and annotations (in both layouts). -/
def clsPart (i : grid0.Coords) (x0 : Vec F S1x80x8192 .f32) (x2 : Vec F S4x8192 .f32) (x3 : Vec F S1x24x5 .f32) (x4 : Vec F S1x5x24 .f32) : F .f32 :=
  k0_pay38 (k0_pay4 x0) (k0_pay9 i) (k0_pay27 (k0_pay11 x2) (k0_pay13 x2) (k0_pay18 x2) (k0_pay19 x3) (k0_pay20 x3) (k0_pay22 x3) (k0_pay23 x3) (k0_pay24 x2 x3) (k0_pay25 x2)) (k0_pay33 (k0_pay8 x4) (k0_pay11 x2) (k0_pay13 x2) (k0_pay18 x2) (k0_pay19 x3) (k0_pay20 x3) (k0_pay22 x3) (k0_pay23 x3) (k0_pay24 x2 x3) (k0_pay25 x2)) (k0_pay34 (k0_pay9 i) (k0_pay11 x2) (k0_pay13 x2) (k0_pay18 x2) (k0_pay19 x3) (k0_pay20 x3) (k0_pay22 x3) (k0_pay23 x3) (k0_pay24 x2 x3) (k0_pay25 x2))

/-- The box loss a block adds: of the block's number, its regressions, anchors and annotations. -/
def regPart (i : grid0.Coords) (x1 : Vec F S1x4x8192 .f32) (x2 : Vec F S4x8192 .f32) (x3 : Vec F S1x24x5 .f32) (x4 : Vec F S1x5x24 .f32) : F .f32 :=
  k0_pay37 (k0_pay36 (k0_pay5 x1) (k0_pay14 x2) (k0_pay15 x2) (k0_pay16 x2) (k0_pay17 x2) (k0_pay29 (k0_pay8 x4) (k0_pay11 x2) (k0_pay13 x2) (k0_pay18 x2) (k0_pay19 x3) (k0_pay20 x3) (k0_pay22 x3) (k0_pay23 x3) (k0_pay24 x2 x3) (k0_pay25 x2)) (k0_pay30 (k0_pay8 x4) (k0_pay11 x2) (k0_pay13 x2) (k0_pay18 x2) (k0_pay19 x3) (k0_pay20 x3) (k0_pay22 x3) (k0_pay23 x3) (k0_pay24 x2 x3) (k0_pay25 x2)) (k0_pay31 (k0_pay8 x4) (k0_pay11 x2) (k0_pay13 x2) (k0_pay18 x2) (k0_pay19 x3) (k0_pay20 x3) (k0_pay22 x3) (k0_pay23 x3) (k0_pay24 x2 x3) (k0_pay25 x2)) (k0_pay32 (k0_pay8 x4) (k0_pay11 x2) (k0_pay13 x2) (k0_pay18 x2) (k0_pay19 x3) (k0_pay20 x3) (k0_pay22 x3) (k0_pay23 x3) (k0_pay24 x2 x3) (k0_pay25 x2)) (k0_pay34 (k0_pay9 i) (k0_pay11 x2) (k0_pay13 x2) (k0_pay18 x2) (k0_pay19 x3) (k0_pay20 x3) (k0_pay22 x3) (k0_pay23 x3) (k0_pay24 x2 x3) (k0_pay25 x2)))

/-- The number of positive anchors a block adds. -/
def posPart (i : grid0.Coords) (x2 : Vec F S4x8192 .f32) (x3 : Vec F S1x24x5 .f32) : F .f32 :=
  k0_pay35 (k0_pay9 i) (k0_pay11 x2) (k0_pay13 x2) (k0_pay18 x2) (k0_pay19 x3) (k0_pay20 x3) (k0_pay22 x3) (k0_pay23 x3) (k0_pay24 x2 x3) (k0_pay25 x2)

/-- What an accumulator holds before a block's sum is added: zero at an image's first block, what it held at the others. -/
def start (i : grid0.Coords) (y : Vec F S1x1x1 .f32) : Vec F S1x1x1 .f32 := if isFirst i then k0_pay39 else y

/-- Reading back after a store over a whole accumulator gives the value stored, whatever was there before. -/
theorem read_store {off : Fin S1x1x1.rank → ℕ} (h : off = fun _ => 0) (inb : ∀ a, off a + S1x1x1.size a ≤ S1x1x1.size a)
    (v : View sig .tc .vmem S1x1x1 .f32) (f : v.ty.Contents (Elt F)) (w : Vec F S1x1x1 .f32) (L : List (View.Piece (Elt F) S1x1x1 .f32)) :
    v.read (Elt F) (v.writes (Elt F) f (⟨Rect.unit off S1x1x1.size inb, w⟩ :: L)) = w := by
  subst h; funext y
  have := View.read_writes_cons_emb v f (Rect.whole S1x1x1) w L y
  rwa [Rect.emb_whole_apply] at this

/-- A load of a whole staging memref gives its contents. -/
theorem load_whole {s : Shape} (arg : Memref sig .tc .vmem s .f32) (harg : arg.IsWhole) {off : Fin s.rank → ℕ} (h : off = fun _ => 0)
    (inb : ∀ a, off a + s.size a ≤ s.size a) (x : Vec F s .f32) :
    View.readAt (Elt F) arg.view (Rect.unit off s.size inb).toLoadRect (harg.unread x) = x := by
  rw [View.readAt_eq_ld, harg.read_unread, View.ld_unit_zero h]

/-- The zero offsets on three axes. -/
theorem zero3 : (![0, 0, 0] : Fin 3 → ℕ) = fun _ => 0 := by funext a; fin_cases a <;> rfl
/-- The zero offsets on two axes. -/
theorem zero2 : (![0, 0] : Fin 2 → ℕ) = fun _ => 0 := by funext a; fin_cases a <;> rfl

set_option maxHeartbeats 4000000 in
/-- On whole staging memrefs the body runs to its return, leaves the inputs as they were and adds the block's three
    sums to the three accumulators. -/
theorem body_value (c : Dev nD) (i : grid0.Coords) (arg2 : Memref sig .tc .vmem S1x80x8192 .f32) (harg2 : arg2.IsWhole) (arg3 : Memref sig .tc .vmem S1x4x8192 .f32) (harg3 : arg3.IsWhole) (arg4 : Memref sig .tc .vmem S4x8192 .f32) (harg4 : arg4.IsWhole) (arg5 : Memref sig .tc .vmem S1x24x5 .f32) (harg5 : arg5.IsWhole) (arg6 : Memref sig .tc .vmem S1x5x24 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole)
    (x0 : Vec F S1x80x8192 .f32) (x1 : Vec F S1x4x8192 .f32) (x2 : Vec F S4x8192 .f32) (x3 : Vec F S1x24x5 .f32) (x4 : Vec F S1x5x24 .f32) (y5 y6 y7 : Vec F S1x1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay1 (clsPart i x0 x2 x3 x4) (start i y5)) ∗ owns (c : Thread nD τ) arg8 fullShare (k0_pay2 (regPart i x1 x2 x3 x4) (start i y6)) ∗ owns (c : Thread nD τ) arg9 fullShare (k0_pay3 (posPart i x2 x3) (start i y7))) -∗ K ⟨⟩))
      ⊢ wp frame (wpE (defs₀ (F := F)) Variants.none c none) Set.univ (cc0__focal_kernel i arg2 harg2 arg3 harg3 arg4 harg4 arg5 harg5 arg6 harg6 arg7 harg7 arg8 harg8 arg9 harg9) K := by
  simp only [cc0__focal_kernel_eq_skeleton]; unfold cc0__focal_kernel_skel
  simp only [k0_part1_eq_skeleton, k0_part2_eq_skeleton, k0_part3_eq_skeleton, k0_part4_eq_skeleton]
  unfold owns
  by_cases hc0 : isFirst i
  · iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; refine (read_store zero3 _ _ _ _ _).trans ?_
      show k0_pay1 (clsPart i (View.readAt (Elt F) arg2.view (Rect.unit ![0, 0, 0] S1x80x8192.size inb_S1x80x8192_S1x80x8192_0_0_0).toLoadRect (harg2.unread x0)) (View.readAt (Elt F) arg4.view (Rect.unit ![0, 0] S4x8192.size inb_S4x8192_S4x8192_0_0).toLoadRect (harg4.unread x2)) (View.readAt (Elt F) arg5.view (Rect.unit ![0, 0, 0] S1x24x5.size inb_S1x24x5_S1x24x5_0_0_0).toLoadRect (harg5.unread x3)) (View.readAt (Elt F) arg6.view (Rect.unit ![0, 0, 0] S1x5x24.size inb_S1x5x24_S1x5x24_0_0_0).toLoadRect (harg6.unread x4))) (View.readCov arg7.view [(⟨Rect.unit ![0, 0, 0] S1x1x1.size inb_S1x1x1_S1x1x1_0_0_0, k0_pay39⟩ : View.Piece (Elt F) S1x1x1 .f32)] (Rect.unit ![0, 0, 0] S1x1x1.size inb_S1x1x1_S1x1x1_0_0_0).toLoadRect) = _
      rw [load_whole arg2 harg2 zero3, load_whole arg4 harg4 zero2, load_whole arg5 harg5 zero3, load_whole arg6 harg6 zero3, View.readCov_unit_zero _ zero3, start, if_pos hc0]
    isplitl [H6]
    · iexists _; isplitr; swap; · iexact H6
      ipureintro; refine (read_store zero3 _ _ _ _ _).trans ?_
      show k0_pay2 (regPart i (View.readAt (Elt F) arg3.view (Rect.unit ![0, 0, 0] S1x4x8192.size inb_S1x4x8192_S1x4x8192_0_0_0).toLoadRect (harg3.unread x1)) (View.readAt (Elt F) arg4.view (Rect.unit ![0, 0] S4x8192.size inb_S4x8192_S4x8192_0_0).toLoadRect (harg4.unread x2)) (View.readAt (Elt F) arg5.view (Rect.unit ![0, 0, 0] S1x24x5.size inb_S1x24x5_S1x24x5_0_0_0).toLoadRect (harg5.unread x3)) (View.readAt (Elt F) arg6.view (Rect.unit ![0, 0, 0] S1x5x24.size inb_S1x5x24_S1x5x24_0_0_0).toLoadRect (harg6.unread x4))) (View.readCov arg8.view [(⟨Rect.unit ![0, 0, 0] S1x1x1.size inb_S1x1x1_S1x1x1_0_0_0, k0_pay39⟩ : View.Piece (Elt F) S1x1x1 .f32)] (Rect.unit ![0, 0, 0] S1x1x1.size inb_S1x1x1_S1x1x1_0_0_0).toLoadRect) = _
      rw [load_whole arg3 harg3 zero3, load_whole arg4 harg4 zero2, load_whole arg5 harg5 zero3, load_whole arg6 harg6 zero3, View.readCov_unit_zero _ zero3, start, if_pos hc0]
    iexists _; isplitr; swap; · iexact H7
    ipureintro; refine (read_store zero3 _ _ _ _ _).trans ?_
    show k0_pay3 (posPart i (View.readAt (Elt F) arg4.view (Rect.unit ![0, 0] S4x8192.size inb_S4x8192_S4x8192_0_0).toLoadRect (harg4.unread x2)) (View.readAt (Elt F) arg5.view (Rect.unit ![0, 0, 0] S1x24x5.size inb_S1x24x5_S1x24x5_0_0_0).toLoadRect (harg5.unread x3))) (View.readCov arg9.view [(⟨Rect.unit ![0, 0, 0] S1x1x1.size inb_S1x1x1_S1x1x1_0_0_0, k0_pay39⟩ : View.Piece (Elt F) S1x1x1 .f32)] (Rect.unit ![0, 0, 0] S1x1x1.size inb_S1x1x1_S1x1x1_0_0_0).toLoadRect) = _
    rw [load_whole arg4 harg4 zero2, load_whole arg5 harg5 zero3, View.readCov_unit_zero _ zero3, start, if_pos hc0]
  · iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; refine (read_store zero3 _ _ _ _ _).trans ?_
      show k0_pay1 (clsPart i (View.readAt (Elt F) arg2.view (Rect.unit ![0, 0, 0] S1x80x8192.size inb_S1x80x8192_S1x80x8192_0_0_0).toLoadRect (harg2.unread x0)) (View.readAt (Elt F) arg4.view (Rect.unit ![0, 0] S4x8192.size inb_S4x8192_S4x8192_0_0).toLoadRect (harg4.unread x2)) (View.readAt (Elt F) arg5.view (Rect.unit ![0, 0, 0] S1x24x5.size inb_S1x24x5_S1x24x5_0_0_0).toLoadRect (harg5.unread x3)) (View.readAt (Elt F) arg6.view (Rect.unit ![0, 0, 0] S1x5x24.size inb_S1x5x24_S1x5x24_0_0_0).toLoadRect (harg6.unread x4))) (View.readAt (Elt F) arg7.view (Rect.unit ![0, 0, 0] S1x1x1.size inb_S1x1x1_S1x1x1_0_0_0).toLoadRect (harg7.unread y5)) = _
      rw [load_whole arg2 harg2 zero3, load_whole arg4 harg4 zero2, load_whole arg5 harg5 zero3, load_whole arg6 harg6 zero3, load_whole arg7 harg7 zero3, start, if_neg hc0]
    isplitl [H6]
    · iexists _; isplitr; swap; · iexact H6
      ipureintro; refine (read_store zero3 _ _ _ _ _).trans ?_
      show k0_pay2 (regPart i (View.readAt (Elt F) arg3.view (Rect.unit ![0, 0, 0] S1x4x8192.size inb_S1x4x8192_S1x4x8192_0_0_0).toLoadRect (harg3.unread x1)) (View.readAt (Elt F) arg4.view (Rect.unit ![0, 0] S4x8192.size inb_S4x8192_S4x8192_0_0).toLoadRect (harg4.unread x2)) (View.readAt (Elt F) arg5.view (Rect.unit ![0, 0, 0] S1x24x5.size inb_S1x24x5_S1x24x5_0_0_0).toLoadRect (harg5.unread x3)) (View.readAt (Elt F) arg6.view (Rect.unit ![0, 0, 0] S1x5x24.size inb_S1x5x24_S1x5x24_0_0_0).toLoadRect (harg6.unread x4))) (View.readAt (Elt F) arg8.view (Rect.unit ![0, 0, 0] S1x1x1.size inb_S1x1x1_S1x1x1_0_0_0).toLoadRect (harg8.unread y6)) = _
      rw [load_whole arg3 harg3 zero3, load_whole arg4 harg4 zero2, load_whole arg5 harg5 zero3, load_whole arg6 harg6 zero3, load_whole arg8 harg8 zero3, start, if_neg hc0]
    iexists _; isplitr; swap; · iexact H7
    ipureintro; refine (read_store zero3 _ _ _ _ _).trans ?_
    show k0_pay3 (posPart i (View.readAt (Elt F) arg4.view (Rect.unit ![0, 0] S4x8192.size inb_S4x8192_S4x8192_0_0).toLoadRect (harg4.unread x2)) (View.readAt (Elt F) arg5.view (Rect.unit ![0, 0, 0] S1x24x5.size inb_S1x24x5_S1x24x5_0_0_0).toLoadRect (harg5.unread x3))) (View.readAt (Elt F) arg9.view (Rect.unit ![0, 0, 0] S1x1x1.size inb_S1x1x1_S1x1x1_0_0_0).toLoadRect (harg9.unread y7)) = _
    rw [load_whole arg4 harg4 zero2, load_whole arg5 harg5 zero3, load_whole arg9 harg9 zero3, start, if_neg hc0]

end Cert.KernelIdeal.Hand

end
-- ==== Proof.KernPoint.lean ====
/- What one block of the kernel adds to the three sums, lane by lane. -/
module

public import proofs.«01_k».proof.Proof.KernPick
public import proofs.«01_k».proof.Proof.IdealRun

@[expose] public section

set_option maxRecDepth 16384

noncomputable section

namespace Cert.KernelIdeal.Hand

open Idealize.ShloMosaic Cert.KernelIdeal Cert.KernelIdeal.Gen Cert.Focal

/-- The sum of a row of lanes, as the body takes it. -/
def laneSum (v : FVec Ideal S1x8192 .f32) : Ideal .f32 :=
  extractAt ![0, 0, 0] (shapeCast S1x1x1 (multiReduction .add [1, 2] S1 (shapeCast S1x1x8192 v shapeCasts_S1x8192_S1x1x8192) 0x00000000#32 reduces_S1x1x8192_S1 (.inl rfl) rfl) shapeCasts_S1_S1x1x1) inpos_S1x1x1_p0_0_0

/-- The sum over the lanes. -/
theorem laneSum_eq (v : FVec Ideal S1x8192 .f32) : laneSum v = ∑ l : Fin 8192, v (ix2 0 l) := by
  pointwise [laneSum]
  simp

/-- The four scaled box targets of the block's anchors. -/
def kTarget (v20 v21 v24 v27 v76 v77 v78 v79 : FVec Ideal S1x8192 .f32) : FVec Ideal S4x8192 .f32 :=
  have half : Ideal .f32 := Scalar.ofBits .f32 0x3F000000#32
  have one : Ideal .f32 := Scalar.ofBits .f32 0x3F800000#32
  have tenth : Ideal .f32 := Named.named κ "inv_tenth" 0x41200000#32
  have fifth : Ideal .f32 := Named.named κ "inv_fifth" 0x40A00000#32
  concatenate S4x8192 0
    [⟨S1x8192, mulf (divf (subf (addf v76 (mulf (broadcast S1x8192 half) (subf v78 v76))) v24) v20) (broadcast S1x8192 tenth)⟩,
      ⟨S1x8192, mulf (divf (subf (addf v77 (mulf (broadcast S1x8192 half) (subf v79 v77))) v27) v21) (broadcast S1x8192 tenth)⟩,
      ⟨S1x8192, mulf (log (divf (maximumf (subf v78 v76) (broadcast S1x8192 one)) v20)) (broadcast S1x8192 fifth)⟩,
      ⟨S1x8192, mulf (log (divf (maximumf (subf v79 v77) (broadcast S1x8192 one)) v21)) (broadcast S1x8192 fifth)⟩]
    concatenates_S1x8192_S1x8192_S1x8192_S1x8192_S4x8192_d0

section
variable (v20 v21 v24 v27 v76 v77 v78 v79 : FVec Ideal S1x8192 .f32) (l : Fin 8192)

/-- A lane's first box target. -/
theorem kTarget_0 : kTarget v20 v21 v24 v27 v76 v77 v78 v79 (ix2 0 l) =
    Ideal.div (v76 (ix2 0 l) + Ideal.ofBits .f32 0x3F000000#32 * (v78 (ix2 0 l) - v76 (ix2 0 l)) - v24 (ix2 0 l)) (v20 (ix2 0 l)) * ((134217728 / 13421773 : ℝ) : EReal) := by
  pointwise [kTarget]
  rfl
/-- A lane's second box target. -/
theorem kTarget_1 : kTarget v20 v21 v24 v27 v76 v77 v78 v79 (ix2 1 l) =
    Ideal.div (v77 (ix2 0 l) + Ideal.ofBits .f32 0x3F000000#32 * (v79 (ix2 0 l) - v77 (ix2 0 l)) - v27 (ix2 0 l)) (v21 (ix2 0 l)) * ((134217728 / 13421773 : ℝ) : EReal) := by
  pointwise [kTarget]
  rfl
/-- A lane's third box target. -/
theorem kTarget_2 : kTarget v20 v21 v24 v27 v76 v77 v78 v79 (ix2 2 l) =
    Ideal.log (Ideal.div (max (v78 (ix2 0 l) - v76 (ix2 0 l)) 1) (v20 (ix2 0 l))) * ((67108864 / 13421773 : ℝ) : EReal) := by
  pointwise [kTarget]
  rfl
/-- A lane's fourth box target. -/
theorem kTarget_3 : kTarget v20 v21 v24 v27 v76 v77 v78 v79 (ix2 3 l) =
    Ideal.log (Ideal.div (max (v79 (ix2 0 l) - v77 (ix2 0 l)) 1) (v21 (ix2 0 l))) * ((67108864 / 13421773 : ℝ) : EReal) := by
  pointwise [kTarget]
  rfl
end

/-- The box loss of the block's positive anchors. -/
def kLoss (v121 v3 : FVec Ideal S4x8192 .f32) (v84 : IVec S1x8192 1) : FVec Ideal S1x8192 .f32 :=
  have v123 : FVec Ideal S4x8192 .f32 := absf (subf v121 v3)
  select v84 (shapeCast S1x8192 (multiReduction .add [0] S8192 (select (cmpf .ole v123 (broadcast S4x8192 (Scalar.ofBits .f32 0x3DE38E39#32))) (mulf (mulf (broadcast S4x8192 (Scalar.ofBits .f32 0x40900000#32)) v123) v123) (subf v123 (broadcast S4x8192 (Scalar.ofBits .f32 0x3D638E39#32)))) 0x00000000#32 reduces_S4x8192_S8192 (.inl rfl) rfl) shapeCasts_S8192_S1x8192)
    (broadcast S1x8192 (Scalar.ofBits .f32 0x00000000#32))

/-- The box loss of a lane, zero for a lane that is not matched. -/
theorem kLoss_apply (v121 v3 : FVec Ideal S4x8192 .f32) (v84 : IVec S1x8192 1) (l : Fin 8192) :
    kLoss v121 v3 v84 (ix2 0 l) = Scalar.select (v84 (ix2 0 l)) (∑ j : Fin 4, smooth (FloatOps.absf (F := Ideal) (φ := .f32) (v121 (ix2 j l) - v3 (ix2 j l)))) 0 := by
  pointwise [kLoss, smooth]

/-- The block's share of the box loss is the sum of its lanes' losses. -/
theorem pay37_eq (v3 : FVec Ideal S4x8192 .f32) (v20 v21 v24 v27 v76 v77 v78 v79 : FVec Ideal S1x8192 .f32) (v84 : IVec S1x8192 1) :
    k0_pay37 (k0_pay36 v3 v20 v21 v24 v27 v76 v77 v78 v79 v84) = laneSum (kLoss (kTarget v20 v21 v24 v27 v76 v77 v78 v79) v3 v84) := rfl

/-- Whether each anchor is positive, as a number. -/
def kCount (v84 : IVec S1x8192 1) : FVec Ideal S1x8192 .f32 := sitofp .f32 (extui 32 v84 natLt_1_32)

/-- A matched lane counts one. -/
theorem kCount_apply (v84 : IVec S1x8192 1) (l : Fin 8192) : kCount v84 (ix2 0 l) = if v84 (ix2 0 l) = 1#1 then 1 else 0 := by
  pointwise [kCount]
  generalize v84 (ix2 0 l) = b
  show (((BitVec.setWidth 32 b).toInt : ℝ) : EReal) = _
  rcases (by decide : ∀ b : BitVec 1, b = 0#1 ∨ b = 1#1) b with rfl | rfl
  · rw [show (BitVec.setWidth 32 0#1).toInt = 0 from by decide, if_neg (by decide)]; norm_num
  · rw [show (BitVec.setWidth 32 1#1).toInt = 1 from by decide, if_pos rfl]; norm_num

/-- A choice by the bit of a proposition. -/
theorem select_ofBool {α : Type} (p : Prop) [Decidable p] (a b : α) : Scalar.select (BitVec.ofBool (decide p)) a b = if p then a else b := by
  by_cases h : p <;> simp [Scalar.select, h]

/-- A choice by the equality of two words. -/
theorem select_eq {α : Type} (a b : BitVec 32) (x y : α) : Scalar.select (IntOp.cmpi .eq a b) x y = if a = b then x else y := by
  have e : IntOp.cmpi .eq a b = BitVec.ofBool (decide (a = b)) := by
    show BitVec.ofBool (a == b) = _
    by_cases h : a = b
    · subst h; simp
    · rw [show (a == b) = false from beq_eq_false_iff_ne.mpr h]; simp [h]
  rw [e, select_ofBool]

/-- The score of the class each anchor is given. -/
def kStar (v1 : FVec Ideal S80x8192 .f32) (v81 : IVec S1x8192 32) : FVec Ideal S1x8192 .f32 :=
  shapeCast S1x8192 (multiReduction .add [0] S8192 (select (cmpi .eq (iota .tc S80x8192 32 [0] iota_S80x8192_d0_w32) (broadcastTo S80x8192 v81 broadcasts_S1x8192_S80x8192)) v1 (broadcast S80x8192 (Scalar.ofBits .f32 0x00000000#32))) 0x00000000#32 reduces_S80x8192_S8192 (.inl rfl) rfl) shapeCasts_S8192_S1x8192

/-- The score of a lane's class. -/
theorem kStar_apply (v1 : FVec Ideal S80x8192 .f32) (v81 : IVec S1x8192 32) (l : Fin 8192) :
    kStar v1 v81 (ix2 0 l) = score (fun c => v1 (ix2 c l)) (v81 (ix2 0 l)) := by
  pointwise [kStar, score]
  refine Finset.sum_congr rfl fun c _ => ?_
  exact select_eq _ _ _ _

/-- What the given classes add. -/
def kCorr (v163 : FVec Ideal S1x8192 .f32) (v84 : IVec S1x8192 1) : FVec Ideal S1x8192 .f32 :=
  have v164 : FVec Ideal S1x8192 .f32 := broadcast S1x8192 (Scalar.ofBits .f32 0x3F800000#32)
  have v165 : FVec Ideal S1x8192 .f32 := subf v164 v163
  select v84 (subf (mulf (mulf v165 v165) (log v163)) (mulf (mulf v163 v163) (log v165))) (broadcast S1x8192 (Scalar.ofBits .f32 0x00000000#32))

/-- A lane's correction, zero for a lane that is not matched. -/
theorem kCorr_apply (v163 : FVec Ideal S1x8192 .f32) (v84 : IVec S1x8192 1) (l : Fin 8192) :
    kCorr v163 v84 (ix2 0 l) = Scalar.select (v84 (ix2 0 l)) (foreground (v163 (ix2 0 l))) 0 := by
  pointwise [kCorr, foreground]

/-- The background loss of the anchors that count. -/
def kBase (v1 : FVec Ideal S80x8192 .f32) (v15 : IVec S1x8192 1) (v63 : FVec Ideal S1x8192 .f32) (v84 : IVec S1x8192 1) : FVec Ideal S1x8192 .f32 :=
  select (andi (ori v84 (cmpf .olt v63 (broadcast S1x8192 (Scalar.ofBits .f32 0x3ECCCCCD#32)))) v15)
    (shapeCast S1x8192 (multiReduction .add [0] S8192 (mulf (mulf v1 v1) (log (subf (broadcast S80x8192 (Scalar.ofBits .f32 0x3F800000#32)) v1))) 0x00000000#32 reduces_S80x8192_S8192 (.inl rfl) rfl) shapeCasts_S8192_S1x8192)
    (broadcast S1x8192 (Scalar.ofBits .f32 0x00000000#32))

/-- A lane's background loss, zero for a lane that is ignored. -/
theorem kBase_apply (v1 : FVec Ideal S80x8192 .f32) (v15 : IVec S1x8192 1) (v63 : FVec Ideal S1x8192 .f32) (v84 : IVec S1x8192 1) (l : Fin 8192) :
    kBase v1 v15 v63 v84 (ix2 0 l) = Scalar.select (IntOp.andi (IntOp.ori (v84 (ix2 0 l)) (BitVec.ofBool (decide (v63 (ix2 0 l) < Ideal.ofBits .f32 0x3ECCCCCD#32)))) (v15 (ix2 0 l)))
      (background fun c => v1 (ix2 c l)) 0 := by
  pointwise [kBase, background]

/-- The block's share of the class loss is a quarter of the sums of its lanes, negated. -/
theorem pay38_eq (v1 : FVec Ideal S80x8192 .f32) (v15 : IVec S1x8192 1) (v63 : FVec Ideal S1x8192 .f32) (v81 : IVec S1x8192 32) (v84 : IVec S1x8192 1) :
    k0_pay38 v1 v15 v63 v81 v84 = Ideal.ofBits .f32 0xBE800000#32 * (laneSum (kBase v1 v15 v63 v84) + laneSum (kCorr (kStar v1 v81) v84)) := rfl

section
variable (i : grid0.Coords) (x0 : Vec Ideal S1x80x8192 .f32) (x1 : Vec Ideal S1x4x8192 .f32) (x2 : Vec Ideal S4x8192 .f32) (x3 : Vec Ideal S1x24x5 .f32) (x4 : Vec Ideal S1x5x24 .f32)

/-- The greatest overlap of a lane's anchor. -/
def peak (l : Fin 8192) : EReal := best (row (box x2 l) (notes x3))

/-- The annotation of a lane's anchor. -/
def note (l : Fin 8192) : Fin 5 → EReal := fun j => x4 (ix3 0 j (pick (row (box x2 l) (notes x3))))

/-- The block's count of positive anchors. -/
theorem posPart_eq : posPart i x2 x3 = ∑ l : Fin 8192, if positive (peak x2 x3 l) ∧ live i l then 1 else 0 := by
  have e : posPart i x2 x3 = laneSum (kCount (kPos i x2 x3)) := rfl
  rw [e, laneSum_eq]
  refine Finset.sum_congr rfl fun l _ => ?_
  rw [kCount_apply, kPos_apply]
  unfold peak
  by_cases h : positive (best (row (box x2 l) (notes x3))) ∧ live i l <;> simp [h]

/-- The block's box loss. -/
theorem regPart_eq : regPart i x1 x2 x3 x4 = ∑ l : Fin 8192, if positive (peak x2 x3 l) ∧ live i l then boxLoss (box x2 l) (fun j => x1 (ix3 0 j l)) (note x2 x3 x4 l) else 0 := by
  unfold regPart
  rw [pay37_eq, laneSum_eq]
  refine Finset.sum_congr rfl fun l _ => ?_
  rw [kLoss_apply, kPos_fold, kPos_apply, select_ofBool]
  refine if_congr Iff.rfl ?_ rfl
  unfold boxLoss
  simp only [Fin.sum_univ_four, kTarget_0, kTarget_1, kTarget_2, kTarget_3]
  simp only [k0_pay29, k0_pay30, k0_pay31, k0_pay32, kRow_fold]
  pointwise [k0_pay5, k0_pay6, k0_pay10, k0_pay11, k0_pay12, k0_pay13, k0_pay14, k0_pay15, k0_pay16, k0_pay17]
  simp only [kRow_apply]
  rfl

/-- The block's score loss. -/
theorem clsPart_eq : clsPart i x0 x2 x3 x4 = Ideal.ofBits .f32 0xBE800000#32 *
    ((∑ l : Fin 8192, if (positive (peak x2 x3 l) ∨ negative (peak x2 x3 l)) ∧ live i l then background (fun c => x0 (ix3 0 c l)) else 0)
      + ∑ l : Fin 8192, if positive (peak x2 x3 l) ∧ live i l then foreground (score (fun c => x0 (ix3 0 c l)) (FloatOps.fptosi (F := Ideal) (φ := .f32) 32 (note x2 x3 x4 l 4))) else 0) := by
  unfold clsPart
  rw [pay38_eq, laneSum_eq, laneSum_eq, kBest_fold, kPos_fold]
  have h4 : ∀ c l, k0_pay4 x0 (ix2 c l) = x0 (ix3 0 c l) := by intro c l; pointwise [k0_pay4]
  congr 2
  · refine Finset.sum_congr rfl fun l _ => ?_
    rw [kBase_apply, kPos_apply, kLive_apply, kBest_apply]
    simp only [h4]
    unfold peak
    by_cases h1 : positive (best (row (box x2 l) (notes x3))) <;> by_cases h2 : negative (best (row (box x2 l) (notes x3))) <;> by_cases h3 : live i l <;> simp [h1, h2, h3, Scalar.select, IntOp.andi, IntOp.ori]
  · refine Finset.sum_congr rfl fun l _ => ?_
    rw [kCorr_apply, kPos_apply, kStar_apply, select_ofBool]
    simp only [h4]
    refine if_congr Iff.rfl ?_ rfl
    simp only [k0_pay33, kRow_fold]
    pointwise
    simp only [kRow_apply]
    rfl

end

end Cert.KernelIdeal.Hand
-- ==== Proof.IdealLaunch.lean ====
module

public import proofs.«01_k».proof.Proof.KernPoint
public import proofs.«01_k».proof.Proof.IdealFrame
public import Idealize.ShloMosaic.Lib.Pipeline.Value
public import Idealize.ShloMosaic.Lib.Pipeline.ValueKit
public import Idealize.ShloMosaic.Lib.WordCmp

/-! The kernel's launch over the extended reals, its values kept: after each grid point the three accumulators hold the
running sums of the blocks' shares, and so each result array ends holding, per image, the sum over the image's blocks. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.Focal

local notation "𝕄" => MT nD τ sig Unit (Elt Ideal) ℕ (UR sig nD τ) ℕ

/-! ## The lanes a transfer moves -/

/-- An offset inside the block whose place is inside the array is inside the part of the block that is moved. -/
theorem lt_extent {x s d j : ℕ} (h : j < s) (h' : x * s + j < d) : j < (Pipeline.Clip.of x s d).extent s := by
  unfold Pipeline.Clip.of
  split
  · exact h
  · show j < d - x * s
    omega

/-- The scores of a lane inside the array are moved. -/
theorem moved_live (i : grid0.Coords) (c : Fin 80) (l : Fin 8192) (h : live i l) : (cfg0.win 0).moved i (ix3 0 c l) = true := by
  rw [Pipeline.Window.moved_iff]
  intro a
  have h2 : (i 1).val < 6 := (i 1).isLt
  have h1 : (i 0).val < 8 := (i 0).isLt
  have hl := l.isLt
  have hc := c.isLt
  have e2 : (BitVec.ofNat 32 (i 1).val).toNat = (i 1).val := by
    rw [BitVec.toNat_ofNat]; omega
  have e1 : (BitVec.ofNat 32 (i 0).val).toNat = (i 0).val := by
    rw [BitVec.toNat_ofNat]; omega
  refine lt_extent (x := cc0_transform_0 i a) (s := S1x80x8192.size a) (d := S8x80x49104.size a) (j := ((ix3 0 c l : S1x80x8192.Idx) a).val) ?_ ?_
  · exact ((ix3 0 c l : S1x80x8192.Idx) a).isLt
  · match a with
    | ⟨0, _⟩ => show (BitVec.ofNat 32 (i 0).val).toNat * 1 + 0 < 8; omega
    | ⟨1, _⟩ => show 0 * 80 + c.val < 80; omega
    | ⟨2, _⟩ =>
      show (BitVec.ofNat 32 (i 1).val).toNat * 8192 + l.val < 49104
      rw [e2]; exact h

/-- Two blocks of scores that agree on the lanes inside the array have one focal share. -/
theorem clsPart_congr (i : grid0.Coords) (x0 x0' : Vec Ideal S1x80x8192 .f32) (x2 : Vec Ideal S4x8192 .f32) (x3 : Vec Ideal S1x24x5 .f32) (x4 : Vec Ideal S1x5x24 .f32)
    (h : ∀ c l, live i l → x0 (ix3 0 c l) = x0' (ix3 0 c l)) : clsPart i x0 x2 x3 x4 = clsPart i x0' x2 x3 x4 := by
  rw [clsPart_eq, clsPart_eq]
  congr 2
  · refine Finset.sum_congr rfl fun l _ => ?_
    by_cases hl : live i l
    · rw [show (fun c => x0 (ix3 0 c l)) = fun c => x0' (ix3 0 c l) from funext fun c => h c l hl]
    · rw [if_neg fun hh => hl hh.2, if_neg fun hh => hl hh.2]
  · refine Finset.sum_congr rfl fun l _ => ?_
    by_cases hl : live i l
    · rw [show (fun c => x0 (ix3 0 c l)) = fun c => x0' (ix3 0 c l) from funext fun c => h c l hl]
    · rw [if_neg fun hh => hl hh.2, if_neg fun hh => hl hh.2]

/-! ## The running sums -/

/-- The running sum, started anew at every sixth point. -/
def accum (P : ℕ → EReal) (n : ℕ) : EReal := ∑ j ∈ Finset.range (n % 6 + 1), P (n - n % 6 + j)

/-- At an image's first point the running sum is the point's share. -/
theorem accum_first (P : ℕ → EReal) (n : ℕ) (h : n % 6 = 0) : accum P n = P n := by
  rw [accum, h]; simp

/-- At an image's later point the running sum grows by the point's share. -/
theorem accum_next (P : ℕ → EReal) (n : ℕ) (h : n % 6 ≠ 0) : accum P n = accum P (n - 1) + P n := by
  have e1 : (n - 1) % 6 + 1 = n % 6 := by omega
  have e2 : n - 1 - (n - 1) % 6 = n - n % 6 := by omega
  rw [accum, accum, Finset.sum_range_succ, e1, e2, Nat.sub_add_cancel (Nat.mod_le _ _)]

/-- Adding a share to an accumulator that holds one number. -/
theorem pay1_const (p y : EReal) : k0_pay1 (F := Ideal) p (fun _ => y) = fun _ => y + p := by
  funext j; rfl

/-- Adding a share to an accumulator that holds one number. -/
theorem pay2_const (p y : EReal) : k0_pay2 (F := Ideal) p (fun _ => y) = fun _ => y + p := by
  funext j; rfl

/-- Adding a share to an accumulator that holds one number. -/
theorem pay3_const (p y : EReal) : k0_pay3 (F := Ideal) p (fun _ => y) = fun _ => y + p := by
  funext j; rfl

/-- The accumulators start at zero. -/
theorem pay39_const : k0_pay39 (F := Ideal) = fun _ => 0 := by
  funext j; exact Idealize.ShloMosaic.Ideal.ofBits_zero_f32

variable (m : (ℓ : Loc nD τ sig) → Buf (Elt Ideal) ℓ) (ρ : Dev nD → PrngReg)

/-- The block of scores at a point, zero where the block leaves the array. -/
def blk0 (c : Dev nD) (t : Fin cfg0.N) : Vec Ideal S1x80x8192 .f32 :=
  (cfg0.win 0).fill (grid0.coords t) (fun _ => (0 : EReal)) (iblk m c 0 t)

/-- The focal share of point `n`. -/
def shareCls (c : Dev nD) (n : ℕ) : EReal :=
  if h : n < cfg0.N then clsPart (F := Ideal) (grid0.coords ⟨n, h⟩) (blk0 m c ⟨n, h⟩) (iblk m c 2 ⟨n, h⟩) (iblk m c 3 ⟨n, h⟩) (iblk m c 4 ⟨n, h⟩) else 0

/-- The box share of point `n`. -/
def shareReg (c : Dev nD) (n : ℕ) : EReal :=
  if h : n < cfg0.N then regPart (F := Ideal) (grid0.coords ⟨n, h⟩) (iblk m c 1 ⟨n, h⟩) (iblk m c 2 ⟨n, h⟩) (iblk m c 3 ⟨n, h⟩) (iblk m c 4 ⟨n, h⟩) else 0

/-- The count of matched anchors of point `n`. -/
def sharePos (c : Dev nD) (n : ℕ) : EReal :=
  if h : n < cfg0.N then posPart (F := Ideal) (grid0.coords ⟨n, h⟩) (iblk m c 2 ⟨n, h⟩) (iblk m c 3 ⟨n, h⟩) else 0

/-- The pipeline's proof data with the values kept: the inputs' blocks stay in place, the accumulators hold the running sums. -/
def vdats (_ : Fin 1) (c : Dev nD) : Dat τ (Elt Ideal) Unit ℕ (UR sig nD τ) ℕ cfg0 c where
  A w := V m c (Pipeline.arrRef spec0 w)
  after w t := match w with
    | ⟨0, _⟩ => blk0 m c t
    | ⟨1, _⟩ => iblk m c 1 t
    | ⟨2, _⟩ => iblk m c 2 t
    | ⟨3, _⟩ => iblk m c 3 t
    | ⟨4, _⟩ => iblk m c 4 t
    | ⟨5, _⟩ => fun _ => accum (shareCls m c) t.val
    | ⟨6, _⟩ => fun _ => accum (shareReg m c) t.val
    | ⟨7, _⟩ => fun _ => accum (sharePos m c) t.val
  Φ _ := Pipeline.ΦA spec0 c
  q _ := fullShare
  owed _ := 0

/-- The proof data's arrays are what the region finds. -/
theorem vA_eq (c : Dev nD) (w : Fin cfg0.W) : (vdats m 0 c).A w = V m c (Pipeline.arrRef spec0 w) := by dsimp only [vdats]

/-- The scores' buffer after the body. -/
theorem vafter_0 (c : Dev nD) (t : Fin cfg0.N) : (vdats m 0 c).after 0 t = blk0 m c t := by dsimp only [vdats]
/-- The boxes' buffer after the body. -/
theorem vafter_1 (c : Dev nD) (t : Fin cfg0.N) : (vdats m 0 c).after 1 t = iblk m c 1 t := by dsimp only [vdats]
/-- The anchors' buffer after the body. -/
theorem vafter_2 (c : Dev nD) (t : Fin cfg0.N) : (vdats m 0 c).after 2 t = iblk m c 2 t := by dsimp only [vdats]
/-- The annotations' buffer after the body. -/
theorem vafter_3 (c : Dev nD) (t : Fin cfg0.N) : (vdats m 0 c).after 3 t = iblk m c 3 t := by dsimp only [vdats]
/-- The turned annotations' buffer after the body. -/
theorem vafter_4 (c : Dev nD) (t : Fin cfg0.N) : (vdats m 0 c).after 4 t = iblk m c 4 t := by dsimp only [vdats]
/-- The first accumulator after the body. -/
theorem vafter_5 (c : Dev nD) (t : Fin cfg0.N) : (vdats m 0 c).after 5 t = fun _ => accum (shareCls m c) t.val := by dsimp only [vdats]
/-- The second accumulator after the body. -/
theorem vafter_6 (c : Dev nD) (t : Fin cfg0.N) : (vdats m 0 c).after 6 t = fun _ => accum (shareReg m c) t.val := by dsimp only [vdats]
/-- The third accumulator after the body. -/
theorem vafter_7 (c : Dev nD) (t : Fin cfg0.N) : (vdats m 0 c).after 7 t = fun _ => accum (sharePos m c) t.val := by dsimp only [vdats]

/-- The scores' buffer before the body holds the block's moved part over anything. -/
theorem vbefore_0 (c : Dev nD) (t : Fin cfg0.N) (d) :
    (vdats m 0 c).before 0 t d = (cfg0.win 0).fill (grid0.coords t) d (iblk m c 0 t) := by
  rw [Dat.before_fetched _ 0 t (fetch0_0 t)]
  unfold Dat.fetched Dat.blockOf iblk
  rw [vA_eq]

/-- The boxes' buffer before the body holds their block. -/
theorem vbefore_1 (c : Dev nD) (t : Fin cfg0.N) (d) : (vdats m 0 c).before 1 t d = iblk m c 1 t :=
  before0_1_of m (vdats m 0 c) (vA_eq m c 1) (vafter_1 m c) t d
/-- The anchors' buffer before the body holds their block. -/
theorem vbefore_2 (c : Dev nD) (t : Fin cfg0.N) (d) : (vdats m 0 c).before 2 t d = iblk m c 2 t :=
  before0_2_of m (vdats m 0 c) (vA_eq m c 2) (vafter_2 m c) t d
/-- The annotations' buffer before the body holds their block. -/
theorem vbefore_3 (c : Dev nD) (t : Fin cfg0.N) (d) : (vdats m 0 c).before 3 t d = iblk m c 3 t :=
  before0_3_of m (vdats m 0 c) (vA_eq m c 3) (vafter_3 m c) t d
/-- The turned annotations' buffer before the body holds their block. -/
theorem vbefore_4 (c : Dev nD) (t : Fin cfg0.N) (d) : (vdats m 0 c).before 4 t d = iblk m c 4 t :=
  before0_4_of m (vdats m 0 c) (vA_eq m c 4) (vafter_4 m c) t d

/-- A point is an image's first exactly when its number is a multiple of six. -/
theorem isFirst_iff (t : Fin cfg0.N) : isFirst (grid0.coords t) ↔ t.val % 6 = 0 := by
  have ht : t.val < 48 := t.isLt.trans_eq N_0
  have e1 : (grid0.coords t 1).val = t.val / 1 % 6 := Pipeline.Grid.coords_val t 1 (by decide) rfl
  simp only [isFirst, e1]; word_cmp

/-- The first accumulator, once started, holds the earlier running sum of the image. -/
theorem start_5 (c : Dev nD) (t : Fin cfg0.N) (d) :
    k0_pay1 (F := Ideal) (shareCls m c t.val) (start (grid0.coords t) ((vdats m 0 c).before 5 t d)) = fun _ => accum (shareCls m c) t.val := by
  by_cases h : t.val % 6 = 0
  · rw [start, if_pos ((isFirst_iff t).mpr h), pay39_const, pay1_const, accum_first _ _ h, zero_add]
  · rw [start, if_neg fun hh => h ((isFirst_iff t).mp hh), accum_next _ _ h,
      Dat.before_out_kept _ 5 rfl t (by omega) (by rw [← Bool.not_eq_true, flush0_5]; dsimp only; omega) (fun _ => rfl) (fun _ _ => rfl) d, vafter_5]
    exact pay1_const _ _

/-- The second accumulator, once started, holds the earlier running sum of the image. -/
theorem start_6 (c : Dev nD) (t : Fin cfg0.N) (d) :
    k0_pay2 (F := Ideal) (shareReg m c t.val) (start (grid0.coords t) ((vdats m 0 c).before 6 t d)) = fun _ => accum (shareReg m c) t.val := by
  by_cases h : t.val % 6 = 0
  · rw [start, if_pos ((isFirst_iff t).mpr h), pay39_const, pay2_const, accum_first _ _ h, zero_add]
  · rw [start, if_neg fun hh => h ((isFirst_iff t).mp hh), accum_next _ _ h,
      Dat.before_out_kept _ 6 rfl t (by omega) (by rw [← Bool.not_eq_true, flush0_6]; dsimp only; omega) (fun _ => rfl) (fun _ _ => rfl) d, vafter_6]
    exact pay2_const _ _

/-- The third accumulator, once started, holds the earlier running sum of the image. -/
theorem start_7 (c : Dev nD) (t : Fin cfg0.N) (d) :
    k0_pay3 (F := Ideal) (sharePos m c t.val) (start (grid0.coords t) ((vdats m 0 c).before 7 t d)) = fun _ => accum (sharePos m c) t.val := by
  by_cases h : t.val % 6 = 0
  · rw [start, if_pos ((isFirst_iff t).mpr h), pay39_const, pay3_const, accum_first _ _ h, zero_add]
  · rw [start, if_neg fun hh => h ((isFirst_iff t).mp hh), accum_next _ _ h,
      Dat.before_out_kept _ 7 rfl t (by omega) (by rw [← Bool.not_eq_true, flush0_7]; dsimp only; omega) (fun _ => rfl) (fun _ _ => rfl) d, vafter_7]
    exact pay3_const _ _

/-- Whatever lies beyond the array in the scores' buffer, the focal share is the same. -/
theorem share_cls (c : Dev nD) (t : Fin cfg0.N) (d) :
    clsPart (F := Ideal) (grid0.coords t) ((cfg0.win 0).fill (grid0.coords t) d (iblk m c 0 t)) (iblk m c 2 t) (iblk m c 3 t) (iblk m c 4 t) = shareCls m c t.val := by
  rw [shareCls, dif_pos t.isLt]
  refine clsPart_congr _ _ _ _ _ _ fun k l hl => ?_
  rw [blk0]
  unfold Pipeline.Window.fill
  rw [dif_pos (moved_live _ k l hl), dif_pos (moved_live _ k l hl)]

/-- The box share at a point. -/
theorem share_reg (c : Dev nD) (t : Fin cfg0.N) :
    regPart (F := Ideal) (grid0.coords t) (iblk m c 1 t) (iblk m c 2 t) (iblk m c 3 t) (iblk m c 4 t) = shareReg m c t.val := by
  rw [shareReg, dif_pos t.isLt]

/-- The count at a point. -/
theorem share_pos (c : Dev nD) (t : Fin cfg0.N) :
    posPart (F := Ideal) (grid0.coords t) (iblk m c 2 t) (iblk m c 3 t) = sharePos m c t.val := by
  rw [sharePos, dif_pos t.isLt]

/-- What the body is called with at point `t`, values kept. -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d))
    ∗ (∃ d, owns (c : Thread nD τ) (st0_7 t) fullShare ((vdats m 0 c).before 7 t d)))

/-- What the body returns at point `t`, values kept. -/
def vbodyPost (c : Dev nD) (t : Fin cfg0.N) : sProp 𝕄 :=
  iprop((vdats m 0 c).Φ t.succ ∗ (vdats m 0 c).owesAt () t.succ
    ∗ (∃ d, owns (c : Thread nD τ) (st0_0 t) fullShare ((cfg0.win 0).fill (grid0.coords t) d ((cfg0.win 0).cut (grid0.coords t) ((vdats m 0 c).after 0 t))))
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t)
    ∗ owns (c : Thread nD τ) (st0_7 t) fullShare ((vdats m 0 c).after 7 t))

/-- The moved part of the scores' block after the body is what was fetched. -/
theorem cut_blk0 (c : Dev nD) (t : Fin cfg0.N) : (cfg0.win 0).cut (grid0.coords t) (blk0 m c t) = iblk m c 0 t :=
  (cfg0.win 0).cut_fill _ _ _

/-- The first accumulator after the body. -/
theorem keep_5 (c : Dev nD) (t : Fin cfg0.N) (d0 d) :
    k0_pay1 (F := Ideal) (clsPart (F := Ideal) (grid0.coords t) ((cfg0.win 0).fill (grid0.coords t) d0 (iblk m c 0 t)) (iblk m c 2 t) (iblk m c 3 t) (iblk m c 4 t))
      (start (grid0.coords t) ((vdats m 0 c).before 5 t d)) = fun _ => accum (shareCls m c) t.val := by
  rw [share_cls]; exact start_5 m c t d

/-- The second accumulator after the body. -/
theorem keep_6 (c : Dev nD) (t : Fin cfg0.N) (d) :
    k0_pay2 (F := Ideal) (regPart (F := Ideal) (grid0.coords t) (iblk m c 1 t) (iblk m c 2 t) (iblk m c 3 t) (iblk m c 4 t))
      (start (grid0.coords t) ((vdats m 0 c).before 6 t d)) = fun _ => accum (shareReg m c) t.val := by
  rw [share_reg]; exact start_6 m c t d

/-- The third accumulator after the body. -/
theorem keep_7 (c : Dev nD) (t : Fin cfg0.N) (d) :
    k0_pay3 (F := Ideal) (posPart (F := Ideal) (grid0.coords t) (iblk m c 2 t) (iblk m c 3 t))
      (start (grid0.coords t) ((vdats m 0 c).before 7 t d)) = fun _ => accum (sharePos m c) t.val := by
  rw [share_pos]; exact start_7 m c t d

/-- The body's run with the accumulators' new contents named. -/
theorem body_keeps (c : Dev nD) (i : grid0.Coords) (arg2 : Memref sig .tc .vmem S1x80x8192 .f32) (harg2 : arg2.IsWhole) (arg3 : Memref sig .tc .vmem S1x4x8192 .f32) (harg3 : arg3.IsWhole) (arg4 : Memref sig .tc .vmem S4x8192 .f32) (harg4 : arg4.IsWhole) (arg5 : Memref sig .tc .vmem S1x24x5 .f32) (harg5 : arg5.IsWhole) (arg6 : Memref sig .tc .vmem S1x5x24 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole)
    (x0 : Vec Ideal S1x80x8192 .f32) (x1 : Vec Ideal S1x4x8192 .f32) (x2 : Vec Ideal S4x8192 .f32) (x3 : Vec Ideal S1x24x5 .f32) (x4 : Vec Ideal S1x5x24 .f32) (y5 y6 y7 z5 z6 z7 : Vec Ideal S1x1x1 .f32)
    (h5 : k0_pay1 (clsPart i x0 x2 x3 x4) (start i y5) = z5) (h6 : k0_pay2 (regPart i x1 x2 x3 x4) (start i y6) = z6) (h7 : k0_pay3 (posPart i x2 x3) (start i y7) = z7) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare z5 ∗ owns (c : Thread nD τ) arg8 fullShare z6 ∗ owns (c : Thread nD τ) arg9 fullShare z7) -∗ K ⟨⟩))
      ⊢ wp frame (wpE (defs₀ (F := Ideal)) Variants.none c none) Set.univ (cc0__focal_kernel i arg2 harg2 arg3 harg3 arg4 harg4 arg5 harg5 arg6 harg6 arg7 harg7 arg8 harg8 arg9 harg9) K := by
  subst h5 h6 h7
  exact body_value c i arg2 harg2 arg3 harg3 arg4 harg4 arg5 harg5 arg6 harg6 arg7 harg7 arg8 harg8 arg9 harg9 x0 x1 x2 x3 x4 y5 y6 y7 K

/-- The body's triple at any grid point, values kept. -/
theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  simp only [vbefore_0, vbefore_1, vbefore_2, vbefore_3, vbefore_4]
  rw [show (vdats m 0 c).Φ t.succ = (vdats m 0 c).Φ t.castSucc from rfl,
    show (vdats m 0 c).owesAt () t.succ = (vdats m 0 c).owesAt () t.castSucc from rfl,
    vafter_0, vafter_1, vafter_2, vafter_3, vafter_4, vafter_5, vafter_6, vafter_7, cut_blk0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_keeps c (grid0.coords t) _ _ _ _ _ _ _ _ _ _ _ _ _ _ _ _
    ((cfg0.win 0).fill (grid0.coords t) d0 (iblk m c 0 t)) (iblk m c 1 t) (iblk m c 2 t) (iblk m c 3 t) (iblk m c 4 t)
    ((vdats m 0 c).before 5 t d5) ((vdats m 0 c).before 6 t d6) ((vdats m 0 c).before 7 t d7)
    (fun _ => accum (shareCls m c) t.val) (fun _ => accum (shareReg m c) t.val) (fun _ => accum (sharePos m c) t.val)
    (keep_5 m c t d0 d5)
    (keep_6 m c t d6)
    (keep_7 m c t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, values kept. -/
theorem vbody_obligation (c : Dev nD) :
    BodyObligationLoose (vdats m 0 c) (defs₀ (F := Ideal)) Variants.none () Set.univ := fun t => by
  rw [bigSep_W0, bigSep_W0, body_row]
  exact triple_restated (vsound_body m c t) rfl .rfl fun _ => .rfl

set_option backward.isDefEq.respectTransparency.types false in
set_option maxHeartbeats 800000 in
/-- Every execution ends with the result arrays at the running sums and every other buffer at what the last lines compute from them. -/
theorem vrun_main : θ_run defs (onTc (τ := τ) (main (F := Ideal))) (s₀ m ρ)
    (fun r => Pipeline.FramePost cfgs (vdats m) 0 (Pipeline.afterTail₀ cfgs (vdats m) 0 (V0 m) [hostOps1]) r ∧ r.2.sem = fun _ => 0) :=
  Pipeline.θ_run_frame_around (Q' := _) cfgs (vdats m) (0 : Fin 1) launch0 defs₀ Variants.none m ρ main
    (hbody := fun c => vbody_obligation m c) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hΦ := fun _ _ => rfl)

/-! ## The result arrays -/

/-- The first result array ends at the images' focal sums. -/
theorem final_5 (c : Dev nD) : (vdats m 0 c).arrAt 5 cfg0.N = fun i : S8x1x1.Idx => accum (shareCls m c) (6 * (i 0).val + 5) := by
  refine (vdats m 0 c).arrAt_eq_of_covers 5 _ (by decide +kernel) fun t hf y => ?_
  have h5 := (flush0_5 t).mp hf
  have ht : t.val < 48 := t.isLt.trans_eq N_0
  blk_simp; rw [vafter_5]
  show accum (shareCls m c) t.val = accum (shareCls m c) (6 * (BitVec.ofNat 32 (grid0.coords t 0).val).toNat + 5)
  have e1 : (grid0.coords t 0).val = t.val / 6 % 8 := Pipeline.Grid.coords_val t 0 (by decide) rfl
  rw [e1, BitVec.toNat_ofNat]
  congr 1
  omega

/-- The second result array ends at the images' box sums. -/
theorem final_6 (c : Dev nD) : (vdats m 0 c).arrAt 6 cfg0.N = fun i : S8x1x1.Idx => accum (shareReg m c) (6 * (i 0).val + 5) := by
  refine (vdats m 0 c).arrAt_eq_of_covers 6 _ (by decide +kernel) fun t hf y => ?_
  have h5 := (flush0_6 t).mp hf
  have ht : t.val < 48 := t.isLt.trans_eq N_0
  blk_simp; rw [vafter_6]
  show accum (shareReg m c) t.val = accum (shareReg m c) (6 * (BitVec.ofNat 32 (grid0.coords t 0).val).toNat + 5)
  have e1 : (grid0.coords t 0).val = t.val / 6 % 8 := Pipeline.Grid.coords_val t 0 (by decide) rfl
  rw [e1, BitVec.toNat_ofNat]
  congr 1
  omega

/-- The third result array ends at the images' counts. -/
theorem final_7 (c : Dev nD) : (vdats m 0 c).arrAt 7 cfg0.N = fun i : S8x1x1.Idx => accum (sharePos m c) (6 * (i 0).val + 5) := by
  refine (vdats m 0 c).arrAt_eq_of_covers 7 _ (by decide +kernel) fun t hf y => ?_
  have h5 := (flush0_7 t).mp hf
  have ht : t.val < 48 := t.isLt.trans_eq N_0
  blk_simp; rw [vafter_7]
  show accum (sharePos m c) t.val = accum (sharePos m c) (6 * (BitVec.ofNat 32 (grid0.coords t 0).val).toNat + 5)
  have e1 : (grid0.coords t 0).val = t.val / 6 % 8 := Pipeline.Grid.coords_val t 0 (by decide) rfl
  rw [e1, BitVec.toNat_ofNat]
  congr 1
  omega

end Cert.KernelIdeal.Hand

end
-- ==== Proof.IdealBlocks.lean ====
module

public import proofs.«01_k».proof.Proof.IdealLaunch
public import Idealize.ShloMosaic.Lib.StableHlo.ReadAt
public import Idealize.ShloMosaic.Lib.Pointwise

/-! What the windows' blocks hold at a lane inside the arrays, in terms of the kernel's arguments. -/

@[expose] public section

set_option maxRecDepth 16384

noncomputable section

namespace Cert.KernelIdeal.Hand

open Idealize.ShloMosaic Idealize.ShloMosaic.TcCoe Idealize.ShloMosaic.Tactic
open Cert.KernelIdeal.Gen Cert.Focal

variable (m : (ℓ : Loc nD τ sig) → Buf (Elt Ideal) ℓ)

/-- The turned scores hold the scores. -/
theorem V_cls (c : Dev nD) (b : Fin 8) (k : Fin 80) (n : Fin 49104) :
    (V m c main_call0_v0 : Vec Ideal S8x80x49104 .f32) (ix3 b k n) = (m ((c.tc : Thread nD τ).loc main_arg0) : Vec Ideal S8x49104x80 .f32) (ix3 b n k) := by
  unfold V V0 hostOps0
  after_reads_at

/-- The turned annotations hold the annotations. -/
theorem V_ann (c : Dev nD) (b : Fin 8) (j : Fin 5) (k : Fin 24) :
    (V m c main_call0_v10 : Vec Ideal S8x5x24 .f32) (ix3 b j k) = (m ((c.tc : Thread nD τ).loc main_arg3) : Vec Ideal S8x24x5 .f32) (ix3 b k j) := by
  unfold V V0 hostOps0
  after_reads_at

/-- The turned and padded boxes hold the boxes. -/
theorem V_reg (c : Dev nD) (b : Fin 8) (j : Fin 4) (n : Fin 49152) (h : n.val < 49104) :
    (V m c main_call0_v9 : Vec Ideal S8x4x49152 .f32) (ix3 b j n) = (m ((c.tc : Thread nD τ).loc main_arg1) : Vec Ideal S8x49104x4 .f32) (ix3 b ⟨n.val, h⟩ j) := by
  unfold V V0 hostOps0
  after_reads_at
  rw [dif_pos (show n.val < 49104 from h)]
  after_reads_at

/-- The turned and padded anchors hold the anchors. -/
theorem V_anc (c : Dev nD) (j : Fin 4) (n : Fin 49152) (h : n.val < 49104) :
    (V m c main_call0_v6 : Vec Ideal S4x49152 .f32) (ix2 j n) = (m ((c.tc : Thread nD τ).loc main_arg2) : Vec Ideal S1x49104x4 .f32) (ix3 0 ⟨n.val, h⟩ j) := by
  unfold V V0 hostOps0
  after_reads_at
  rw [dif_pos (show n.val < 49104 from h)]
  after_reads_at

/-- A lane of the anchors' block inside the array holds its anchor. -/
theorem iblk_anc (c : Dev nD) (t : Fin cfg0.N) (j : Fin 4) (l : Fin 8192) (n : Fin 49104) (h : n.val = (grid0.coords t 1).val * 8192 + l.val) :
    (iblk m c 2 t : Vec Ideal S4x8192 .f32) (ix2 j l) = (m ((c.tc : Thread nD τ).loc main_arg2) : Vec Ideal S1x49104x4 .f32) (ix3 0 n j) := by
  unfold iblk
  blk_simp
  have h1 : (grid0.coords t 1).val < 6 := (grid0.coords t 1).isLt
  have e : (win0_2.blk t).view.emb (ix2 j l) = ix2 j (⟨n.val, by omega⟩ : Fin 49152) := by
    funext a; apply Fin.ext
    match a with
    | ⟨0, _⟩ => refine (Pipeline.Window.rect_emb_val _ _ _ _).trans ?_; show 0 * 4 + j.val = j.val; omega
    | ⟨1, _⟩ => refine (Pipeline.Window.rect_emb_val _ _ _ _).trans ?_; show (BitVec.ofNat 32 (grid0.coords t 1).val).toNat * 8192 + l.val = n.val; rw [BitVec.toNat_ofNat]; omega
  rw [e]
  exact V_anc m c j _ _

/-- A lane of the boxes' block inside the array holds its anchor's box. -/
theorem iblk_reg (c : Dev nD) (t : Fin cfg0.N) (j : Fin 4) (l : Fin 8192) (b : Fin 8) (hb : b.val = (grid0.coords t 0).val) (n : Fin 49104) (h : n.val = (grid0.coords t 1).val * 8192 + l.val) :
    (iblk m c 1 t : Vec Ideal S1x4x8192 .f32) (ix3 0 j l) = (m ((c.tc : Thread nD τ).loc main_arg1) : Vec Ideal S8x49104x4 .f32) (ix3 b n j) := by
  unfold iblk
  blk_simp
  have h1 : (grid0.coords t 1).val < 6 := (grid0.coords t 1).isLt
  have e : (win0_1.blk t).view.emb (ix3 0 j l) = ix3 b j (⟨n.val, by omega⟩ : Fin 49152) := by
    funext a; apply Fin.ext
    match a with
    | ⟨0, _⟩ => refine (Pipeline.Window.rect_emb_val _ _ _ _).trans ?_; show (BitVec.ofNat 32 (grid0.coords t 0).val).toNat * 1 + 0 = b.val; rw [BitVec.toNat_ofNat]; omega
    | ⟨1, _⟩ => refine (Pipeline.Window.rect_emb_val _ _ _ _).trans ?_; show 0 * 4 + j.val = j.val; omega
    | ⟨2, _⟩ => refine (Pipeline.Window.rect_emb_val _ _ _ _).trans ?_; show (BitVec.ofNat 32 (grid0.coords t 1).val).toNat * 8192 + l.val = n.val; rw [BitVec.toNat_ofNat]; omega
  rw [e]
  exact V_reg m c b j _ _

/-- The annotations' block holds the image's annotations. -/
theorem iblk_ann (c : Dev nD) (t : Fin cfg0.N) (k : Fin 24) (j : Fin 5) (b : Fin 8) (hb : b.val = (grid0.coords t 0).val) :
    (iblk m c 3 t : Vec Ideal S1x24x5 .f32) (ix3 0 k j) = (m ((c.tc : Thread nD τ).loc main_arg3) : Vec Ideal S8x24x5 .f32) (ix3 b k j) := by
  unfold iblk
  blk_simp
  have e : (win0_3.blk t).view.emb (ix3 0 k j) = ix3 b k j := by
    funext a; apply Fin.ext
    match a with
    | ⟨0, _⟩ => refine (Pipeline.Window.rect_emb_val _ _ _ _).trans ?_; show (BitVec.ofNat 32 (grid0.coords t 0).val).toNat * 1 + 0 = b.val; rw [BitVec.toNat_ofNat]; omega
    | ⟨1, _⟩ => refine (Pipeline.Window.rect_emb_val _ _ _ _).trans ?_; show 0 * 24 + k.val = k.val; omega
    | ⟨2, _⟩ => refine (Pipeline.Window.rect_emb_val _ _ _ _).trans ?_; show 0 * 5 + j.val = j.val; omega
  rw [e]
  exact congrFun (V_main_arg3 m c) _

/-- The turned annotations' block holds the image's annotations. -/
theorem iblk_tan (c : Dev nD) (t : Fin cfg0.N) (k : Fin 24) (j : Fin 5) (b : Fin 8) (hb : b.val = (grid0.coords t 0).val) :
    (iblk m c 4 t : Vec Ideal S1x5x24 .f32) (ix3 0 j k) = (m ((c.tc : Thread nD τ).loc main_arg3) : Vec Ideal S8x24x5 .f32) (ix3 b k j) := by
  unfold iblk
  blk_simp
  have e : (win0_4.blk t).view.emb (ix3 0 j k) = ix3 b j k := by
    funext a; apply Fin.ext
    match a with
    | ⟨0, _⟩ => refine (Pipeline.Window.rect_emb_val _ _ _ _).trans ?_; show (BitVec.ofNat 32 (grid0.coords t 0).val).toNat * 1 + 0 = b.val; rw [BitVec.toNat_ofNat]; omega
    | ⟨1, _⟩ => refine (Pipeline.Window.rect_emb_val _ _ _ _).trans ?_; show 0 * 5 + j.val = j.val; omega
    | ⟨2, _⟩ => refine (Pipeline.Window.rect_emb_val _ _ _ _).trans ?_; show 0 * 24 + k.val = k.val; omega
  rw [e]
  exact V_ann m c b j k

/-- A lane of the scores' block inside the array holds its anchor's scores. -/
theorem blk0_cls (c : Dev nD) (t : Fin cfg0.N) (k : Fin 80) (l : Fin 8192) (b : Fin 8) (hb : b.val = (grid0.coords t 0).val) (n : Fin 49104) (h : n.val = (grid0.coords t 1).val * 8192 + l.val) :
    blk0 m c t (ix3 0 k l) = (m ((c.tc : Thread nD τ).loc main_arg0) : Vec Ideal S8x49104x80 .f32) (ix3 b n k) := by
  have hl : live (grid0.coords t) l := by show _ < _; omega
  unfold blk0 Pipeline.Window.fill
  rw [dif_pos (moved_live _ k l hl)]
  unfold iblk
  blk_simp
  have h1 : (grid0.coords t 1).val < 6 := (grid0.coords t 1).isLt
  refine Eq.trans (congrArg (V m c main_call0_v0) (?_ : _ = ix3 b k n)) (V_cls m c b k n)
  funext a; apply Fin.ext
  match a with
  | ⟨0, _⟩ => refine (Pipeline.Window.rect_emb_val _ _ _ _).trans ?_; show (BitVec.ofNat 32 (grid0.coords t 0).val).toNat * 1 + 0 = b.val; rw [BitVec.toNat_ofNat]; omega
  | ⟨1, _⟩ => refine (Pipeline.Window.rect_emb_val _ _ _ _).trans ?_; show 0 * 80 + k.val = k.val; omega
  | ⟨2, _⟩ => refine (Pipeline.Window.rect_emb_val _ _ _ _).trans ?_; show (BitVec.ofNat 32 (grid0.coords t 1).val).toNat * 8192 + l.val = n.val; rw [BitVec.toNat_ofNat]; omega

end Cert.KernelIdeal.Hand

end
-- ==== Proof.Anchor.lean ====
module

public import proofs.«01_k».proof.Proof.Focal

/-! The losses of one anchor, and sums over all anchors taken block by block. -/

@[expose] public section

noncomputable section

namespace Cert.Focal

open Idealize.ShloMosaic

variable (p : Fin 80 → EReal) (r a : Fin 4 → EReal) (g : Fin 24 → Fin 5 → EReal)

/-- The best overlap of an anchor with the annotations. -/
def crest : EReal := best (row a g)

/-- The annotation an anchor is matched to. -/
def mate : Fin 5 → EReal := g (pick (row a g))

/-- One for a matched anchor. -/
def posTerm : EReal := if positive (crest a g) then 1 else 0

/-- The box loss of a matched anchor. -/
def regTerm : EReal := if positive (crest a g) then boxLoss a r (mate a g) else 0

/-- The background part of an anchor's focal loss. -/
def backTerm : EReal := if positive (crest a g) ∨ negative (crest a g) then background p else 0

/-- The correction of a matched anchor's focal loss at its class. -/
def foreTerm : EReal := if positive (crest a g) then foreground (score p (FloatOps.fptosi (F := Ideal) (φ := .f32) 32 (mate a g 4))) else 0

/-- The mean over the images of the sums, each divided by the larger of its count and one. -/
def meanCls (S N : Fin 8 → EReal) : EReal :=
  Ideal.div (∑ b : Fin 8, Ideal.div (S b) (max (N b) 1)) (Ideal.ofBits .f32 0x41000000#32)

/-- The mean over the images of the sums, each divided by four times the larger of its count and one, an image of no count left out. -/
def meanReg (S N : Fin 8 → EReal) : EReal :=
  Ideal.div (∑ b : Fin 8, if 0 < N b then Ideal.div (S b) (max (N b) 1 * Ideal.ofBits .f32 0x40800000#32) else 0) (Ideal.ofBits .f32 0x41000000#32)

/-- A sum over blocks of equal length is the sum over all places. -/
theorem sum_blocks_range (f : ℕ → EReal) (s k : ℕ) : ∑ a ∈ Finset.range k, ∑ l ∈ Finset.range s, f (a * s + l) = ∑ n ∈ Finset.range (k * s), f n := by
  induction k with
  | zero => simp
  | succ k ih => rw [Finset.sum_range_succ, ih, Nat.succ_mul, Finset.sum_range_add]

/-- The sum over six blocks of lanes, the lanes outside the array left out, is the sum over the anchors. -/
theorem sum_blocks (T : Fin 49104 → EReal) :
    ∑ a ∈ Finset.range 6, ∑ l : Fin 8192, (if h : a * 8192 + l.val < 49104 then T ⟨a * 8192 + l.val, h⟩ else 0) = ∑ n, T n := by
  have e : ∀ a, ∑ l : Fin 8192, (if h : a * 8192 + l.val < 49104 then T ⟨a * 8192 + l.val, h⟩ else 0)
      = ∑ l ∈ Finset.range 8192, (fun n => if h : n < 49104 then T ⟨n, h⟩ else 0) (a * 8192 + l) := fun a =>
    Fin.sum_univ_eq_sum_range (fun l => (fun n => if h : n < 49104 then T ⟨n, h⟩ else 0) (a * 8192 + l)) 8192
  refine (Finset.sum_congr rfl fun a _ => e a).trans ((sum_blocks_range (fun n => if h : n < 49104 then T ⟨n, h⟩ else 0) 8192 6).trans ?_)
  rw [show 6 * 8192 = 49104 + 48 from rfl, Finset.sum_range_add]
  rw [Finset.sum_eq_zero (s := Finset.range 48) (fun x _ => dif_neg (by omega)), add_zero,
    ← Fin.sum_univ_eq_sum_range (fun n => if h : n < 49104 then T ⟨n, h⟩ else 0) 49104]
  exact Finset.sum_congr rfl fun n _ => dif_pos n.isLt

end Cert.Focal

end
-- ==== Proof.IdealShares.lean ====
module

public import proofs.«01_k».proof.Proof.IdealBlocks
public import proofs.«01_k».proof.Proof.Anchor

/-! The sums the kernel's result arrays end at, in terms of the kernel's arguments. -/

@[expose] public section

set_option maxRecDepth 16384

noncomputable section

namespace Cert.KernelIdeal.Hand

open Idealize.ShloMosaic Idealize.ShloMosaic.TcCoe
open Cert.KernelIdeal.Gen Cert.Focal

variable (m : (ℓ : Loc nD τ sig) → Buf (Elt Ideal) ℓ)

/-- The scores of an anchor. -/
def scoresOf (c : Dev nD) (b : Fin 8) (n : Fin 49104) : Fin 80 → EReal :=
  fun k => (m ((c.tc : Thread nD τ).loc main_arg0) : Vec Ideal S8x49104x80 .f32) (ix3 b n k)
/-- The box of an anchor. -/
def boxOf (c : Dev nD) (b : Fin 8) (n : Fin 49104) : Fin 4 → EReal :=
  fun j => (m ((c.tc : Thread nD τ).loc main_arg1) : Vec Ideal S8x49104x4 .f32) (ix3 b n j)
/-- The anchors. -/
def anchorOf (c : Dev nD) (n : Fin 49104) : Fin 4 → EReal :=
  fun j => (m ((c.tc : Thread nD τ).loc main_arg2) : Vec Ideal S1x49104x4 .f32) (ix3 0 n j)
/-- The annotations of an image. -/
def notesOf (c : Dev nD) (b : Fin 8) : Fin 24 → Fin 5 → EReal :=
  fun k j => (m ((c.tc : Thread nD τ).loc main_arg3) : Vec Ideal S8x24x5 .f32) (ix3 b k j)

variable (c : Dev nD) (t : Fin cfg0.N) (b : Fin 8) (hb : b.val = (grid0.coords t 0).val) (l : Fin 8192) (n : Fin 49104)
  (h : n.val = (grid0.coords t 1).val * 8192 + l.val)

include h in
/-- A lane's anchor. -/
theorem box_eq : box (iblk m c 2 t) l = anchorOf m c n := funext fun j => iblk_anc m c t j l n h

include hb in
/-- A block's annotations. -/
theorem notes_eq : notes (iblk m c 3 t) = notesOf m c b := funext fun k => funext fun j => iblk_ann m c t k j b hb

include hb h in
/-- A lane's best overlap. -/
theorem peak_eq : peak (iblk m c 2 t) (iblk m c 3 t) l = crest (anchorOf m c n) (notesOf m c b) := by
  rw [peak, crest, box_eq m c t l n h, notes_eq m c t b hb]

include hb h in
/-- A lane's matched annotation. -/
theorem note_eq : note (iblk m c 2 t) (iblk m c 3 t) (iblk m c 4 t) l = mate (anchorOf m c n) (notesOf m c b) := by
  funext j
  rw [note, mate, box_eq m c t l n h, notes_eq m c t b hb]
  exact iblk_tan m c t _ j b hb

include hb h in
/-- A lane's scores. -/
theorem scores_eq : (fun k => blk0 m c t (ix3 0 k l)) = scoresOf m c b n := funext fun k => blk0_cls m c t k l b hb n h

include hb h in
/-- A lane's box. -/
theorem boxes_eq : (fun j => (iblk m c 1 t : Vec Ideal S1x4x8192 .f32) (ix3 0 j l)) = boxOf m c b n := funext fun j => iblk_reg m c t j l b hb n h

omit b hb l n h in
/-- A point's second coordinate. -/
theorem coords_one (b : Fin 8) (a : ℕ) (ha : a < 6) (hn : 6 * b.val + a < cfg0.N) : (grid0.coords ⟨6 * b.val + a, hn⟩ 1).val = a := by
  have e1 : (grid0.coords ⟨6 * b.val + a, hn⟩ 1).val = (6 * b.val + a) / 1 % 6 := Pipeline.Grid.coords_val _ 1 (by decide) rfl
  rw [e1]; omega

omit b hb l n h in
/-- A point's first coordinate. -/
theorem coords_zero (b : Fin 8) (a : ℕ) (ha : a < 6) (hn : 6 * b.val + a < cfg0.N) : b.val = (grid0.coords ⟨6 * b.val + a, hn⟩ 0).val := by
  have e1 : (grid0.coords ⟨6 * b.val + a, hn⟩ 0).val = (6 * b.val + a) / 6 % 8 := Pipeline.Grid.coords_val _ 0 (by decide) rfl
  have := b.isLt
  rw [e1]; omega

/-- A point of the grid. -/
theorem point_lt (b : Fin 8) (a : ℕ) (ha : a < 6) : 6 * b.val + a < cfg0.N := by
  rw [show cfg0.N = 48 from N_0]; have := b.isLt; omega

/-- The count of a point, over its anchors. -/
theorem sharePos_eq (b : Fin 8) (a : ℕ) (ha : a < 6) : sharePos m c (6 * b.val + a)
    = ∑ l : Fin 8192, if h : a * 8192 + l.val < 49104 then posTerm (anchorOf m c ⟨_, h⟩) (notesOf m c b) else 0 := by
  have hn := point_lt b a ha
  have hb := coords_zero b a ha hn
  have e1 := coords_one b a ha hn
  rw [sharePos, dif_pos hn, posPart_eq]
  refine Finset.sum_congr rfl fun l _ => ?_
  unfold live
  rw [e1]
  by_cases h : a * 8192 + l.val < 49104
  · rw [dif_pos h, peak_eq m c _ b hb l ⟨_, h⟩ (by rw [e1]), posTerm]
    by_cases h2 : positive (crest (anchorOf m c ⟨_, h⟩) (notesOf m c b))
    · rw [if_pos ⟨h2, h⟩, if_pos h2]
    · rw [if_neg fun hh => h2 hh.1, if_neg h2]
  · rw [dif_neg h, if_neg fun hh => h hh.2]

/-- The box share of a point, over its anchors. -/
theorem shareReg_eq (b : Fin 8) (a : ℕ) (ha : a < 6) : shareReg m c (6 * b.val + a)
    = ∑ l : Fin 8192, if h : a * 8192 + l.val < 49104 then regTerm (boxOf m c b ⟨_, h⟩) (anchorOf m c ⟨_, h⟩) (notesOf m c b) else 0 := by
  have hn := point_lt b a ha
  have hb := coords_zero b a ha hn
  have e1 := coords_one b a ha hn
  rw [shareReg, dif_pos hn, regPart_eq]
  refine Finset.sum_congr rfl fun l _ => ?_
  unfold live
  rw [e1]
  by_cases h : a * 8192 + l.val < 49104
  · rw [dif_pos h, peak_eq m c _ b hb l ⟨_, h⟩ (by rw [e1]), regTerm, box_eq m c _ l ⟨_, h⟩ (by rw [e1]), boxes_eq m c _ b hb l ⟨_, h⟩ (by rw [e1]),
      note_eq m c _ b hb l ⟨_, h⟩ (by rw [e1])]
    by_cases h2 : positive (crest (anchorOf m c ⟨_, h⟩) (notesOf m c b))
    · rw [if_pos ⟨h2, h⟩, if_pos h2]
    · rw [if_neg fun hh => h2 hh.1, if_neg h2]
  · rw [dif_neg h, if_neg fun hh => h hh.2]

/-- The focal share of a point, over its anchors. -/
theorem shareCls_eq (b : Fin 8) (a : ℕ) (ha : a < 6) : shareCls m c (6 * b.val + a)
    = Ideal.ofBits .f32 0xBE800000#32 * ((∑ l : Fin 8192, if h : a * 8192 + l.val < 49104 then backTerm (scoresOf m c b ⟨_, h⟩) (anchorOf m c ⟨_, h⟩) (notesOf m c b) else 0)
      + ∑ l : Fin 8192, if h : a * 8192 + l.val < 49104 then foreTerm (scoresOf m c b ⟨_, h⟩) (anchorOf m c ⟨_, h⟩) (notesOf m c b) else 0) := by
  have hn := point_lt b a ha
  have hb := coords_zero b a ha hn
  have e1 := coords_one b a ha hn
  rw [shareCls, dif_pos hn, clsPart_eq]
  refine congrArg (fun z => Ideal.ofBits .f32 0xBE800000#32 * z) (congrArg₂ (fun x y : EReal => x + y) ?_ ?_)
  · refine Finset.sum_congr rfl fun l _ => ?_
    unfold live
    rw [e1]
    by_cases h : a * 8192 + l.val < 49104
    · rw [dif_pos h, peak_eq m c _ b hb l ⟨_, h⟩ (by rw [e1]), backTerm, scores_eq m c _ b hb l ⟨_, h⟩ (by rw [e1])]
      by_cases h2 : positive (crest (anchorOf m c ⟨_, h⟩) (notesOf m c b)) ∨ negative (crest (anchorOf m c ⟨_, h⟩) (notesOf m c b))
      · rw [if_pos ⟨h2, h⟩, if_pos h2]
      · rw [if_neg fun hh => h2 hh.1, if_neg h2]
    · rw [dif_neg h, if_neg fun hh => h hh.2]
  · refine Finset.sum_congr rfl fun l _ => ?_
    unfold live
    rw [e1]
    by_cases h : a * 8192 + l.val < 49104
    · rw [dif_pos h, peak_eq m c _ b hb l ⟨_, h⟩ (by rw [e1]), foreTerm, scores_eq m c _ b hb l ⟨_, h⟩ (by rw [e1]), note_eq m c _ b hb l ⟨_, h⟩ (by rw [e1])]
      by_cases h2 : positive (crest (anchorOf m c ⟨_, h⟩) (notesOf m c b))
      · rw [if_pos ⟨h2, h⟩, if_pos h2]
      · rw [if_neg fun hh => h2 hh.1, if_neg h2]
    · rw [dif_neg h, if_neg fun hh => h hh.2]

/-- The running sum at an image's last point is the sum of the image's shares. -/
theorem accum_last (P : ℕ → EReal) (b : ℕ) : accum P (6 * b + 5) = ∑ a ∈ Finset.range 6, P (6 * b + a) := by
  have e1 : (6 * b + 5) % 6 = 5 := by omega
  rw [accum, e1, Nat.add_sub_cancel]

/-- The matched anchors of an image. -/
theorem accumPos (b : Fin 8) : accum (sharePos m c) (6 * b.val + 5) = ∑ n, posTerm (anchorOf m c n) (notesOf m c b) := by
  rw [accum_last, ← sum_blocks]
  exact Finset.sum_congr rfl fun a ha => sharePos_eq m c b a (Finset.mem_range.mp ha)

/-- The box loss of an image. -/
theorem accumReg (b : Fin 8) : accum (shareReg m c) (6 * b.val + 5) = ∑ n, regTerm (boxOf m c b n) (anchorOf m c n) (notesOf m c b) := by
  rw [accum_last, ← sum_blocks]
  exact Finset.sum_congr rfl fun a ha => shareReg_eq m c b a (Finset.mem_range.mp ha)

end Cert.KernelIdeal.Hand

end
-- ==== Proof.IdealTail.lean ====
module

public import proofs.«01_k».proof.Proof.IdealShares
public import Idealize.ShloMosaic.Lib.StableHlo.ReadAt
public import Idealize.ShloMosaic.Lib.Pointwise

/-! What the kernel's last lines compute from the three result arrays of the launch. -/

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal.Gen Cert.Focal

/-- The first result from the launch's arrays. -/
theorem tail_cls (W : Valuation τ sig (Elt Ideal)) :
    (StableHlo.after hostOps1 W (Proc.devRef .tc main_v0_0) : Vec Ideal S1 .f32) (ix1 0)
      = meanCls (fun b => (W (Proc.devRef .tc main_call0_v11_0) : Vec Ideal S8x1x1 .f32) (ix3 b 0 0))
          (fun b => (W (Proc.devRef .tc main_call0_v11_2) : Vec Ideal S8x1x1 .f32) (ix3 b 0 0)) := by
  unfold hostOps1 meanCls
  after_reads_at

/-- The second result from the launch's arrays. -/
theorem tail_reg (W : Valuation τ sig (Elt Ideal)) :
    (StableHlo.after hostOps1 W (Proc.devRef .tc main_v0_1) : Vec Ideal S1 .f32) (ix1 0)
      = meanReg (fun b => (W (Proc.devRef .tc main_call0_v11_1) : Vec Ideal S8x1x1 .f32) (ix3 b 0 0))
          (fun b => (W (Proc.devRef .tc main_call0_v11_2) : Vec Ideal S8x1x1 .f32) (ix3 b 0 0)) := by
  unfold hostOps1 meanReg
  after_reads_at
  have e : (id (constant S_ FTy.f32 0#32) : FVec Ideal S_ .f32) ix0 = (0 : EReal) := Idealize.ShloMosaic.Ideal.ofBits_zero_f32
  simp only [e]

variable (m : (ℓ : Loc nD τ sig) → Buf (Elt Ideal) ℓ) (ρ : Dev nD → PrngReg)

/-- The launch's buffers after the region. -/
abbrev regionEnd (c : Dev nD) : Valuation τ sig (Elt Ideal) :=
  Pipeline.withArrays (cfgs 0).spec c (V0 m c) fun w => (vdats m 0 c).arrAt w (cfgs 0).N

/-- The windows' arrays are distinct. -/
theorem arrRef_inj : Function.Injective (Pipeline.arrRef spec0) := by decide

/-- The first result array at the region's end. -/
theorem regionEnd_5 (c : Dev nD) (b : Fin 8) :
    (regionEnd m c (Proc.devRef .tc main_call0_v11_0) : Vec Ideal S8x1x1 .f32) (ix3 b 0 0) = accum (shareCls m c) (6 * b.val + 5) :=
  congrFun ((Pipeline.withArrays_arr spec0 arrRef_inj c (V0 m c) (fun w => (vdats m 0 c).arrAt w cfg0.N) 5).trans (final_5 m c)) (ix3 b 0 0)

/-- The second result array at the region's end. -/
theorem regionEnd_6 (c : Dev nD) (b : Fin 8) :
    (regionEnd m c (Proc.devRef .tc main_call0_v11_1) : Vec Ideal S8x1x1 .f32) (ix3 b 0 0) = ∑ n, regTerm (boxOf m c b n) (anchorOf m c n) (notesOf m c b) :=
  (congrFun ((Pipeline.withArrays_arr spec0 arrRef_inj c (V0 m c) (fun w => (vdats m 0 c).arrAt w cfg0.N) 6).trans (final_6 m c)) (ix3 b 0 0)).trans (accumReg m c b)

/-- The third result array at the region's end. -/
theorem regionEnd_7 (c : Dev nD) (b : Fin 8) :
    (regionEnd m c (Proc.devRef .tc main_call0_v11_2) : Vec Ideal S8x1x1 .f32) (ix3 b 0 0) = ∑ n, posTerm (anchorOf m c n) (notesOf m c b) :=
  (congrFun ((Pipeline.withArrays_arr spec0 arrRef_inj c (V0 m c) (fun w => (vdats m 0 c).arrAt w cfg0.N) 7).trans (final_7 m c)) (ix3 b 0 0)).trans (accumPos m c b)

/-- An index of a one-element row. -/
theorem ix_one (i : S1.Idx) : i = ix1 0 := by
  funext a
  match a with
  | ⟨0, _⟩ => exact Subsingleton.elim (α := Fin 1) _ _

/-- The kernel's first result. -/
def outCls (c : Dev nD) : EReal :=
  meanCls (fun b => accum (shareCls m c) (6 * b.val + 5)) (fun b => ∑ n, posTerm (anchorOf m c n) (notesOf m c b))

/-- The kernel's second result. -/
def outReg (c : Dev nD) : EReal :=
  meanReg (fun b => ∑ n, regTerm (boxOf m c b n) (anchorOf m c n) (notesOf m c b)) (fun b => ∑ n, posTerm (anchorOf m c n) (notesOf m c b))

/-- The first result buffer at the end. -/
theorem end_cls (c : Dev nD) : (Pipeline.afterTail₀ cfgs (vdats m) 0 (V0 m) [hostOps1] c main_v0_0 : Vec Ideal S1 .f32) = fun _ => outCls m c := by
  funext i
  rw [ix_one i]
  refine (tail_cls (regionEnd m c)).trans ?_
  exact congrArg₂ meanCls (funext fun b => regionEnd_5 m c b) (funext fun b => regionEnd_7 m c b)

/-- The second result buffer at the end. -/
theorem end_reg (c : Dev nD) : (Pipeline.afterTail₀ cfgs (vdats m) 0 (V0 m) [hostOps1] c main_v0_1 : Vec Ideal S1 .f32) = fun _ => outReg m c := by
  funext i
  rw [ix_one i]
  refine (tail_reg (regionEnd m c)).trans ?_
  exact congrArg₂ meanReg (funext fun b => regionEnd_6 m c b) (funext fun b => regionEnd_7 m c b)

/-- Every execution of the kernel ends with its two results at the stated values and its arguments unchanged. -/
theorem value_run : θ_run defs (onTc (τ := τ) (main (F := Ideal))) ⟨m, fun _ => 0, ρ⟩ (fun r => ∀ c : Dev nD,
      r.2.mem ((c.tc : Thread nD τ).loc main_v0_0) = (fun _ => outCls m c : Vec Ideal S1 .f32)
      ∧ r.2.mem ((c.tc : Thread nD τ).loc main_v0_1) = (fun _ => outReg m c : Vec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1 c).2 main_v0_0 (Pipeline.mem_restRefs_of main_v0_0 (by decide) (by decide))).trans (end_cls m c),
      ((h.1 c).2 main_v0_1 (Pipeline.mem_restRefs_of main_v0_1 (by decide) (by decide))).trans (end_reg m c),
      ((h.1 c).2 main_arg0 (Pipeline.mem_restRefs_of main_arg0 (by decide) (by decide))).trans (W_main_arg0 m (vdats m) c),
      ((h.1 c).2 main_arg1 (Pipeline.mem_restRefs_of main_arg1 (by decide) (by decide))).trans (W_main_arg1 m (vdats m) c),
      ((h.1 c).2 main_arg2 (Pipeline.mem_restRefs_of main_arg2 (by decide) (by decide))).trans (W_main_arg2 m (vdats m) c),
      ((h.1 c).1 3).trans (((vdats m 0 c).arrAt_in 3 rfl _).trans ((vA_eq m c 3).trans (V_main_arg3 m c))),
      ((h.1 c).2 main_arg4 (Pipeline.mem_restRefs_of main_arg4 (by decide) (by decide))).trans (W_main_arg4 m (vdats m) c)⟩)
    (vrun_main m ρ)

end Cert.KernelIdeal.Hand

end
-- ==== Proof.RefPoint.lean ====
module

public import proofs.«01_k».proof.Proof.RefRunA
public import proofs.«01_k».proof.Proof.Anchor
public import Idealize.ShloMosaic.Lib.Pointwise
public import Idealize.ShloMosaic.Lib.Tactic.CleanTypes

/-! The reference's arrays read at an anchor: overlaps, the best one, and the annotation it comes from. -/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Focal

variable (V : Valuation τ sig (Elt Ideal))

/-- The scores of an anchor. -/
def rScores (b : Fin 8) (n : Fin 49104) : Fin 80 → EReal := fun k => (V (Proc.devRef .tc main_arg0) : Vec Ideal S8x49104x80 .f32) (ix3 b n k)
/-- The box of an anchor. -/
def rBox (b : Fin 8) (n : Fin 49104) : Fin 4 → EReal := fun j => (V (Proc.devRef .tc main_arg1) : Vec Ideal S8x49104x4 .f32) (ix3 b n j)
/-- The anchors. -/
def rAnchor (n : Fin 49104) : Fin 4 → EReal := fun j => (V (Proc.devRef .tc main_arg2) : Vec Ideal S1x49104x4 .f32) (ix3 0 n j)
/-- The annotations of an image. -/
def rNotes (b : Fin 8) : Fin 24 → Fin 5 → EReal := fun k j => (V (Proc.devRef .tc main_arg3) : Vec Ideal S8x24x5 .f32) (ix3 b k j)

/-- The anchors without their leading axis. -/
theorem v0_at (n : Fin 49104) (j : Fin 4) : (res_main_v0 V : Vec Ideal S49104x4 .f32) (ix2 n j) = rAnchor V n j := by
  unfold res_main_v0 rAnchor
  clean_types
  pointwise

/-- An anchor's width. -/
theorem v5_at (n : Fin 49104) : (res_main_v5 V : Vec Ideal S49104 .f32) (ix1 n) = rAnchor V n 2 - rAnchor V n 0 := by
  unfold res_main_v5
  simp only [← v0_at V]
  clean_types
  pointwise

/-- An anchor's height. -/
theorem v10_at (n : Fin 49104) : (res_main_v10 V : Vec Ideal S49104 .f32) (ix1 n) = rAnchor V n 3 - rAnchor V n 1 := by
  unfold res_main_v10
  simp only [← v0_at V]
  clean_types
  pointwise

/-- The width an anchor shares with an annotation. -/
theorem v72_at (b : Fin 8) (n : Fin 49104) (k : Fin 24) : (res_main_v72 V : Vec Ideal S8x49104x24 .f32) (ix3 b n k)
    = overlap (rAnchor V n 0) (rAnchor V n 2) (rNotes V b k 0) (rNotes V b k 2) := by
  unfold res_main_v72 overlap rNotes
  simp only [← v0_at V]
  clean_types
  pointwise
  exact congrArg (fun z : EReal => max z _) Idealize.ShloMosaic.Ideal.ofBits_zero_f32

/-- The height an anchor shares with an annotation. -/
theorem v73_at (b : Fin 8) (n : Fin 49104) (k : Fin 24) : (res_main_v73 V : Vec Ideal S8x49104x24 .f32) (ix3 b n k)
    = overlap (rAnchor V n 1) (rAnchor V n 3) (rNotes V b k 1) (rNotes V b k 3) := by
  unfold res_main_v73 overlap rNotes
  simp only [← v0_at V]
  clean_types
  pointwise
  exact congrArg (fun z : EReal => max z _) Idealize.ShloMosaic.Ideal.ofBits_zero_f32

/-- The overlap of an anchor with an annotation. -/
theorem v84_at (b : Fin 8) (n : Fin 49104) (k : Fin 24) : (res_main_v84 V : Vec Ideal S8x49104x24 .f32) (ix3 b n k)
    = row (rAnchor V n) (rNotes V b) k := by
  unfold res_main_v84 row iou inter
  rw [← v72_at, ← v73_at, ← v5_at, ← v10_at]
  unfold rNotes
  clean_types
  pointwise

/-- The best overlap of an anchor. -/
theorem v85_at (b : Fin 8) (n : Fin 49104) : (res_main_v85 V : Vec Ideal S8x49104 .f32) (ix2 b n)
    = crest (rAnchor V n) (rNotes V b) := by
  unfold res_main_v85 crest best
  rw [show row (rAnchor V n) (rNotes V b) = fun k => (res_main_v84 V : Vec Ideal S8x49104x24 .f32) (ix3 b n k) from funext fun k => (v84_at V b n k).symm]
  clean_types
  pointwise
  rw [show Ideal.ofBits .f32 0xFF800000#32 = (⊥ : EReal) from by simp [Ideal.ofBits, Ideal.ieee]]

end Cert.ReferenceIdeal.Value

end
-- ==== Proof.RefPick.lean ====
module

public import proofs.«01_k».proof.Proof.RefRunA
public import proofs.«01_k».proof.Proof.Focal
public import Idealize.ShloMosaic.Lib.Pointwise
public import Idealize.ShloMosaic.Lib.Tactic.CleanTypes

/-! The reference's choice of an annotation read as the first place at which a row is greatest, and its look-up read as that row. -/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Focal

/-- A pair is no better than another: its value is less, or it is the same and its place is no earlier. -/
def Below (e r : EReal × BitVec 32) : Prop := e.1 < r.1 ∨ e.1 = r.1 ∧ r.2.toInt ≤ e.2.toInt

/-- The order of the argmax is reflexive. -/
theorem Below.refl (e : EReal × BitVec 32) : Below e e := Or.inr ⟨rfl, le_refl _⟩

/-- The order of the argmax is transitive. -/
theorem Below.trans {a b c : EReal × BitVec 32} (h : Below a b) (h' : Below b c) : Below a c := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

/-- The body keeps the first pair where it is strictly better, else the second. -/
theorem body_eq (a b : EReal × BitVec 32) : reducer_argmax_f32_i32 (F := Ideal) a b
    = if b.1 < a.1 ∨ (a.1 = b.1 ∧ a.2.toInt < b.2.toInt) then a else b := by
  obtain ⟨a1, a2⟩ := a
  obtain ⟨b1, b2⟩ := b
  have key : reducer_argmax_f32_i32 (F := Ideal) (a1, a2) (b1, b2)
      = (Scalar.select (IntOp.ori (BitVec.ofBool (decide (b1 < a1))) (BitVec.ofBool (decide (a1 ≠ a1)))) a1 b1,
        Scalar.select (IntOp.ori (IntOp.ori (BitVec.ofBool (decide (b1 < a1))) (BitVec.ofBool (decide (a1 ≠ a1))))
          (IntOp.andi (BitVec.ofBool (decide (a1 = b1))) (BitVec.ofBool (BitVec.slt a2 b2)))) a2 b2) := rfl
  rw [key]
  have hs : BitVec.slt a2 b2 = decide (a2.toInt < b2.toInt) := rfl
  rw [hs]
  by_cases h1 : b1 < a1
  · have h2 : a1 ≠ b1 := ne_of_gt h1
    simp [h1, h2, Scalar.select, IntOp.ori, IntOp.andi]
  · by_cases h2 : a1 = b1
    · subst h2
      by_cases h3 : a2.toInt < b2.toInt <;> simp [h3, Scalar.select, IntOp.ori, IntOp.andi]
    · simp [h1, h2, Scalar.select, IntOp.ori, IntOp.andi]

/-- A step of the argmax gives one of its two arguments. -/
theorem body_cases (a b : EReal × BitVec 32) : reducer_argmax_f32_i32 (F := Ideal) a b = a ∨ reducer_argmax_f32_i32 (F := Ideal) a b = b := by
  rw [body_eq]
  split
  · exact Or.inl rfl
  · exact Or.inr rfl

/-- A step of the argmax gives no less than its left argument. -/
theorem body_left (a b : EReal × BitVec 32) : Below a (reducer_argmax_f32_i32 (F := Ideal) a b) := by
  rw [body_eq]
  split
  · exact Below.refl _
  · rename_i h
    rcases lt_trichotomy a.1 b.1 with h' | h' | h'
    · exact Or.inl h'
    · exact Or.inr ⟨h', not_lt.1 fun h'' => h (Or.inr ⟨h', h''⟩)⟩
    · exact absurd (Or.inl h') h

/-- A step of the argmax gives no less than its right argument. -/
theorem body_right (a b : EReal × BitVec 32) : Below b (reducer_argmax_f32_i32 (F := Ideal) a b) := by
  rw [body_eq]
  split
  · rename_i h
    rcases h with h | ⟨h, h'⟩
    · exact Or.inl h
    · exact Or.inr ⟨h.symm, h'.le⟩
  · exact Below.refl _

/-- The fold returns the initial pair or one of the list, and none of them is better. -/
theorem fold_best (L : List (EReal × BitVec 32)) : ∀ a : EReal × BitVec 32,
    (L.foldl (reducer_argmax_f32_i32 (F := Ideal)) a = a ∨ L.foldl (reducer_argmax_f32_i32 (F := Ideal)) a ∈ L)
      ∧ Below a (L.foldl (reducer_argmax_f32_i32 (F := Ideal)) a) ∧ ∀ e ∈ L, Below e (L.foldl (reducer_argmax_f32_i32 (F := Ideal)) a) := by
  induction L with
  | nil => exact fun a => ⟨Or.inl rfl, Below.refl _, fun e he => absurd he List.not_mem_nil⟩
  | cons b L ih =>
    intro a
    rw [List.foldl_cons]
    obtain ⟨h1, h2, h3⟩ := ih (reducer_argmax_f32_i32 (F := Ideal) a b)
    refine ⟨?_, (body_left a b).trans h2, fun e he => ?_⟩
    · rcases h1 with h1 | h1
      · rw [h1]
        rcases body_cases a b with h | h
        · exact Or.inl h
        · rw [h]
          exact Or.inr List.mem_cons_self
      · exact Or.inr (List.mem_cons_of_mem _ h1)
    · rcases List.mem_cons.1 he with rfl | he
      · exact (body_right a e).trans h2
      · exact h3 e he

/-- A place's word reads as the place. -/
theorem toInt_place (k : Fin 24) : (BitVec.ofNat 32 k.val).toInt = k.val := by
  rw [BitVec.toInt_eq_toNat_of_lt (by simp; omega)]
  simp; omega

/-- A value of a row is at most the greatest. -/
theorem le_best (f : Fin 24 → EReal) (k : Fin 24) : f k ≤ best f := by
  rw [best_eq_sup]; exact Finset.le_sup (Finset.mem_univ k)

/-- A value a row attains and does not exceed is its greatest. -/
theorem eq_best {f : Fin 24 → EReal} {k : Fin 24} (h : ∀ k', f k' ≤ f k) : f k = best f :=
  le_antisymm (le_best f k) (by rw [best_eq_sup]; exact Finset.sup_le fun k' _ => h k')

/-- The place the reference chooses is the first at which the row is greatest. -/
theorem choose_at (x : FVec Ideal S8x49104x24 .f32) (b : Fin 8) (n : Fin 49104) :
    (Host.argReduce reducer_argmax_f32_i32 x (iotaInDim S8x49104x24 32 2) (constant S_ .f32 0xFF800000#32 : FVec Ideal S_ .f32)
      (constantI S_ 32 0#32) reducesTo_S8x49104x24_S8x49104_d2 h_S_ (ix2 b n)).2 = BitVec.ofNat 32 (pick fun k => x (ix3 b n k)).val := by
  rw [Idealize.ShloMosaic.Ideal.argReduce_eq_reduce2, Host.reduce2_eq_foldl_fiber]
  have hinit : ((constant S_ .f32 0xFF800000#32 : FVec Ideal S_ .f32) (Shape.Idx.first h_S_), (constantI S_ 32 0#32) (Shape.Idx.first h_S_)) = ((⊥ : EReal), 0#32) :=
    Prod.ext (show Ideal.ofBits .f32 0xFF800000#32 = (⊥ : EReal) from by simp [Ideal.ofBits, Ideal.ieee]) rfl
  have hmem : ∀ e, e ∈ Host.argReduceFiber x (iotaInDim S8x49104x24 32 2) reducesTo_S8x49104x24_S8x49104_d2 (ix2 b n)
      ↔ ∃ k : Fin 24, e = (x (ix3 b n k), BitVec.ofNat 32 k.val) := by
    intro e
    unfold Host.argReduceFiber
    simp only [List.mem_map, List.mem_filter, List.mem_finRange, true_and, decide_eq_true_eq]
    constructor
    · rintro ⟨i, hi, rfl⟩
      obtain ⟨k, hk⟩ := (Shape.ReducesTo.fiber_r3_a2 reducesTo_S8x49104x24_S8x49104_d2 (ix2 b n) _).1 hi
      refine ⟨k, ?_⟩
      rw [← hk]
      rfl
    · rintro ⟨k, rfl⟩
      refine ⟨S8x49104x24.rowMajor (ix3 b n k), ?_, ?_⟩
      · rw [Equiv.symm_apply_apply]
        exact (Shape.ReducesTo.fiber_r3_a2 reducesTo_S8x49104x24_S8x49104_d2 (ix2 b n) _).2 ⟨k, rfl⟩
      · rw [Equiv.symm_apply_apply]
        rfl
  have hall := fold_best (Host.argReduceFiber x (iotaInDim S8x49104x24 32 2) reducesTo_S8x49104x24_S8x49104_d2 (ix2 b n)) ((⊥ : EReal), 0#32)
  generalize Host.argReduceFiber x (iotaInDim S8x49104x24 32 2) reducesTo_S8x49104x24_S8x49104_d2 (ix2 b n) = L at hmem hall ⊢
  rw [hinit]
  generalize List.foldl (reducer_argmax_f32_i32 (F := Ideal)) ((⊥ : EReal), 0#32) L = r at hall ⊢
  obtain ⟨h1, h2, h3⟩ := hall
  have h4 : ∀ k : Fin 24, Below (x (ix3 b n k), BitVec.ofNat 32 k.val) r := fun k => h3 _ ((hmem _).2 ⟨k, rfl⟩)
  rcases h1 with h1 | h1
  · subst h1
    have hb : ∀ k : Fin 24, x (ix3 b n k) = (⊥ : EReal) := by
      intro k
      rcases h4 k with h | ⟨h, _⟩
      · exact absurd h not_lt_bot
      · exact h
    have hp : IsPick (fun k => x (ix3 b n k)) 0 :=
      ⟨eq_best fun k' => le_of_eq ((hb k').trans (hb 0).symm), fun k' hk' => absurd hk' (by simp [Fin.lt_def])⟩
    rw [← hp.eq]
    rfl
  · obtain ⟨k, rfl⟩ := (hmem r).1 h1
    have hp : IsPick (fun k => x (ix3 b n k)) k := by
      have hg : x (ix3 b n k) = best fun k => x (ix3 b n k) := eq_best (f := fun k => x (ix3 b n k)) fun k' => by
        rcases h4 k' with h | ⟨h, _⟩
        · exact le_of_lt h
        · exact le_of_eq h
      refine ⟨hg, fun k' hk' e => ?_⟩
      rcases h4 k' with h | ⟨_, h⟩
      · exact absurd (e.trans hg.symm) (ne_of_lt h)
      · rw [toInt_place, toInt_place] at h
        have := Fin.lt_def.1 hk'
        omega
    rw [← hp.eq]

/-- The look-up along the second axis reads the row its place names. -/
theorem lookup_at (x : FVec Ideal S8x24x5 .f32) (idx : IVec S8x49104x1 32) (b : Fin 8) (n : Fin 49104) (j : Fin 5) (k : Fin 24)
    (hk : idx (ix3 b n 0) = BitVec.ofNat 32 k.val) :
    Host.gather gather_S8x24x5_S8x49104x1_S8x49104x5_2_1_0_0_1_2_115 x idx (ix3 b n j) = x (ix3 b k j) := by
  unfold Host.gather
  congr 1
  funext a
  refine Fin.ext ?_
  set d := gather_S8x24x5_S8x49104x1_S8x49104x5_2_1_0_0_1_2_115 with hd
  show d.start (ix3 b n j) idx a + d.batchCoord (ix3 b n j) a + d.offCoord (ix3 b n j) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => absurd (List.mem_singleton.1 (show (1 : Fin 3) ∈ [(0 : Fin 3)] from h)) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b n j) ⟨List.idxOf (1 : Fin 3) d.startIndexMap,
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    rw [hsi, hk, toInt_place]
    show min ((k.val : ℤ).toNat) (24 - 1) = k.val
    omega
  · unfold GatherDims.start
    rw [dif_neg (show ¬ (2 : Fin 3) ∈ d.startIndexMap from fun h => absurd (List.mem_singleton.1 (show (2 : Fin 3) ∈ [(1 : Fin 3)] from h)) (by decide)),
      GatherDims.batchCoord_eq_zero _ _ _ (fun h => absurd (List.mem_singleton.1 (show (2 : Fin 3) ∈ [(0 : Fin 3)] from h)) (by decide))]
    simp only [Nat.zero_add, Nat.add_zero]
    rfl

end Cert.ReferenceIdeal.Value

end
-- ==== Proof.RefMatch.lean ====
module

public import proofs.«01_k».proof.Proof.RefPoint
public import proofs.«01_k».proof.Proof.RefPick
public import Idealize.ShloMosaic.Lib.IndicatorCount

/-! The reference's matching read at an anchor: which anchors are positive, how many, and the annotation each takes. -/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Focal

variable (V : Valuation τ sig (Elt Ideal))

/-- A vector compared with a half, at an element. -/
theorem half_at (x : FVec Ideal S8x49104 .f32) (b : Fin 8) (n : Fin 49104) :
    cmpf .oge x (broadcastInDim S8x49104 ![] bcast_S_S8x49104 (constant S_ .f32 0x3F000000#32 : FVec Ideal S_ .f32)) (ix2 b n)
      = BitVec.ofBool (decide (positive (x (ix2 b n)))) := rfl

/-- Whether an anchor is positive. -/
theorem v88_at (b : Fin 8) (n : Fin 49104) : (res_main_v88 V : IVec S8x49104 1) (ix2 b n)
    = BitVec.ofBool (decide (positive (crest (rAnchor V n) (rNotes V b)))) := by
  rw [← v85_at V b n]
  exact half_at (res_main_v85 V) b n

/-- The set bits of a row counted. -/
theorem count_at (x : IVec S8x49104 1) (b : Fin 8) :
    Host.reduce IntOp.addi (extui 32 x natLt_1_32) (constantI S_ 32 0#32) reducesTo_S8x49104_S8_d1 h_S_ (ix1 b)
      = BitVec.ofNat 32 (Finset.univ.filter fun n : Fin 49104 => x (ix2 b n) = 1#1).card := by
  rw [← IndicatorCount.fold_addi_setWidth_eq_card (fun n : Fin 49104 => x (ix2 b n)) Finset.univ, Host.reduce_eq_fold,
    Shape.ReducesTo.fold_fiber_r2_a1]
  rfl

/-- The number of an image's positive anchors. -/
def posCount (b : Fin 8) : ℕ := (Finset.univ.filter fun n : Fin 49104 => positive (crest (rAnchor V n) (rNotes V b))).card

/-- An image has at most as many matched anchors as anchors. -/
theorem posCount_le (b : Fin 8) : posCount V b ≤ 49104 := by
  refine (Finset.card_le_univ _).trans (le_of_eq ?_)
  exact Fintype.card_fin _

/-- The count of the matched anchors of an image. -/
theorem v90_at (b : Fin 8) : (res_main_v90 V : IVec S8 32) (ix1 b) = BitVec.ofNat 32 (posCount V b) := by
  refine (count_at (res_main_v88 V) b).trans (congrArg (BitVec.ofNat 32) (congrArg Finset.card (Finset.filter_congr fun n _ => ?_)))
  rw [v88_at]
  by_cases h : positive (crest (rAnchor V n) (rNotes V b)) <;> simp [h]

/-- A vector with a unit axis appended, at an element. -/
theorem lane_at {α : Type} (w : S8x49104.Idx → α) (b : Fin 8) (n : Fin 49104) :
    broadcastInDim S8x49104x1 ![0, 1] bcast_S8x49104_S8x49104x1_0_1 w (ix3 b n 0) = w (ix2 b n) :=
  congrArg w (by funext a; match a with | ⟨0, _⟩ => rfl | ⟨1, _⟩ => rfl)

/-- The place of the annotation an anchor takes. -/
theorem v91_at (b : Fin 8) (n : Fin 49104) : (res_main_v91 V : IVec S8x49104x1 32) (ix3 b n 0)
    = BitVec.ofNat 32 (pick (row (rAnchor V n) (rNotes V b))).val :=
  (lane_at _ b n).trans ((choose_at (res_main_v84 V) b n).trans (congrArg (fun f => BitVec.ofNat 32 (pick f).val) (funext fun k => v84_at V b n k)))

/-- A place counted from the end where it is negative. -/
theorem wrap_at (x : IVec S8x49104x1 32) (i : S8x49104x1.Idx) (k : Fin 24) (h : x i = BitVec.ofNat 32 k.val) :
    select (cmpi .slt x (broadcastInDim S8x49104x1 ![] bcast_S_S8x49104x1 (constantI S_ 32 0#32)))
      (addi x (broadcastInDim S8x49104x1 ![] bcast_S_S8x49104x1 (constantI S_ 32 24#32))) x i = BitVec.ofNat 32 k.val := by
  have e : select (cmpi .slt x (broadcastInDim S8x49104x1 ![] bcast_S_S8x49104x1 (constantI S_ 32 0#32)))
      (addi x (broadcastInDim S8x49104x1 ![] bcast_S_S8x49104x1 (constantI S_ 32 24#32))) x i
      = Scalar.select (IntOp.cmpi .slt (x i) 0#32) (IntOp.addi (x i) 24#32) (x i) := rfl
  rw [e, h]
  clear e h
  revert k
  decide

/-- The index the lookup takes for an anchor. -/
theorem call4_at (b : Fin 8) (n : Fin 49104) : (res_main_call4_v4 V : IVec S8x49104x1 32) (ix3 b n 0)
    = BitVec.ofNat 32 (pick (row (rAnchor V n) (rNotes V b))).val :=
  wrap_at (res_main_v91 V) (ix3 b n 0) _ (v91_at V b n)

/-- A place in range passes the look-up's check. -/
theorem guard_at (x : IVec S8x49104x1 32) (b : Fin 8) (n : Fin 49104) (k : Fin 24) (h : x (ix3 b n 0) = BitVec.ofNat 32 k.val) :
    Host.reduce IntOp.andi (andi (cmpi .sge x (broadcastInDim S8x49104x1 ![] bcast_S_S8x49104x1 (constantI S_ 32 0#32))) (cmpi .sle x (broadcastInDim S8x49104x1 ![0, 1, 2] bcast_S1x1x1_S8x49104x1_0_1_2 (broadcastInDim S1x1x1 ![2] bcast_S1_S1x1x1_2 (constantI S1 32 23#32))))) (constantI S_ 1 1#1) reducesTo_S8x49104x1_S8x49104_d2 h_S_ (ix2 b n)
      = 1#1 := by
  rw [Host.reduce_eq_fold, Shape.ReducesTo.fold_fiber_r3_a2, Finset.univ_unique, Finset.fold_singleton]
  have e : (andi (cmpi .sge x (broadcastInDim S8x49104x1 ![] bcast_S_S8x49104x1 (constantI S_ 32 0#32))) (cmpi .sle x (broadcastInDim S8x49104x1 ![0, 1, 2] bcast_S1x1x1_S8x49104x1_0_1_2 (broadcastInDim S1x1x1 ![2] bcast_S1_S1x1x1_2 (constantI S1 32 23#32))))) (ix3 b n 0)
      = IntOp.andi (IntOp.cmpi .sge (x (ix3 b n 0)) 0#32) (IntOp.cmpi .sle (x (ix3 b n 0)) 23#32) := rfl
  refine (congrArg (fun z => IntOp.andi z 1#1) e).trans ?_
  rw [h]
  clear e h
  revert k
  decide

/-- The look-up with its check, at an element. -/
theorem take_at (g : FVec Ideal S8x24x5 .f32) (x : IVec S8x49104x1 32) (m : IVec S8x49104 1) (b : Fin 8) (n : Fin 49104) (j : Fin 5) (k : Fin 24)
    (hm : m (ix2 b n) = 1#1) (h : x (ix3 b n 0) = BitVec.ofNat 32 k.val) :
    select (broadcastInDim S8x49104x5 ![0, 1] bcast_S8x49104_S8x49104x5_0_1 m) (Host.gather gather_S8x24x5_S8x49104x1_S8x49104x5_2_1_0_0_1_2_115 g x)
      (broadcastInDim S8x49104x5 ![] bcast_S_S8x49104x5 (constant S_ .f32 0x7FC00000#32 : FVec Ideal S_ .f32)) (ix3 b n j) = g (ix3 b k j) := by
  rw [← lookup_at g x b n j k h]
  generalize Host.gather gather_S8x24x5_S8x49104x1_S8x49104x5_2_1_0_0_1_2_115 g x = y
  have e : broadcastInDim S8x49104x5 ![0, 1] bcast_S8x49104_S8x49104x5_0_1 m (ix3 b n j) = 1#1 := by
    rw [← hm]
    exact congrArg m (by funext a; match a with | ⟨0, _⟩ => rfl | ⟨1, _⟩ => rfl)
  have e' : ∀ (c : IVec S8x49104x5 1) (z : FVec Ideal S8x49104x5 .f32), c (ix3 b n j) = 1#1 → select c y z (ix3 b n j) = y (ix3 b n j) := by
    intro c z hc
    show Scalar.select (c (ix3 b n j)) (y (ix3 b n j)) (z (ix3 b n j)) = _
    rw [hc]
    rfl
  exact e' _ _ e

/-- The annotation an anchor takes. -/
theorem v92_at (b : Fin 8) (n : Fin 49104) (j : Fin 5) : (res_main_v92 V : Vec Ideal S8x49104x5 .f32) (ix3 b n j)
    = mate (rAnchor V n) (rNotes V b) j :=
  take_at (V (Proc.devRef .tc main_arg3)) (res_main_call4_v4 V) _ b n j (pick (row (rAnchor V n) (rNotes V b)))
    (guard_at (res_main_call4_v4 V) b n _ (call4_at V b n)) (call4_at V b n)

end Cert.ReferenceIdeal.Value

end
-- ==== Proof.RefTerms.lean ====
module

public import proofs.«01_k».proof.Proof.RefMatch

/-! The reference's clipped scores, class targets and box differences read at an anchor. -/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Focal

variable (V : Valuation τ sig (Elt Ideal))

/-- The score kept off zero and one. -/
def clipped (p : EReal) : EReal := min (Ideal.ofBits .f32 0x3F7FF972#32) (max (Ideal.ofBits .f32 0x38D1B717#32) p)

/-- The clipped score at an element. -/
theorem v21_at (b : Fin 8) (n : Fin 49104) (c : Fin 80) : (res_main_v21 V : Vec Ideal S8x49104x80 .f32) (ix3 b n c) = clipped (rScores V b n c) := rfl

/-- The word of the class an anchor is given. -/
def rLabel (b : Fin 8) (n : Fin 49104) : BitVec 32 := FloatOps.fptosi (F := Ideal) (φ := .f32) 32 (mate (rAnchor V n) (rNotes V b) 4)

/-- A vector spread over the classes, at an element. -/
theorem classes_at {α : Type} (y : S8x49104.Idx → α) (b : Fin 8) (n : Fin 49104) (c : Fin 80) :
    broadcastInDim S8x49104x80 ![0, 1, 2] bcast_S8x49104x1_S8x49104x80_0_1_2 (broadcastInDim S8x49104x1 ![0, 1] bcast_S8x49104_S8x49104x1_0_1 y) (ix3 b n c) = y (ix2 b n) :=
  congrArg y (by funext a; match a with | ⟨0, _⟩ => rfl | ⟨1, _⟩ => rfl)

/-- The classes' own numbers, at an element. -/
theorem number_at (b : Fin 8) (n : Fin 49104) (c : Fin 80) :
    broadcastInDim S8x49104x80 ![0, 1, 2] bcast_S1x1x80_S8x49104x80_0_1_2 (iotaInDim S1x1x80 32 2) (ix3 b n c) = BitVec.ofNat 32 c.val := rfl

/-- The last column of the annotations, at an element. -/
theorem last_at (x : FVec Ideal S8x49104x5 .f32) (b : Fin 8) (n : Fin 49104) :
    shapeCast S8x49104 (extractStridedSlice S8x49104x1 ![0, 0, 4] x slices_S8x49104x5_S8x49104x1_0_0_4) shapeCasts_S8x49104x1_S8x49104 (ix2 b n) = x (ix3 b n 4) := by
  pointwise

/-- A vector compared with two fifths, at an element. -/
theorem fifths_at (x : FVec Ideal S8x49104 .f32) (b : Fin 8) (n : Fin 49104) :
    cmpf .olt x (broadcastInDim S8x49104 ![] bcast_S_S8x49104 (constant S_ .f32 0x3ECCCCCD#32 : FVec Ideal S_ .f32)) (ix2 b n)
      = BitVec.ofBool (decide (negative (x (ix2 b n)))) := rfl

/-- Three masks in turn, at an element. -/
theorem masks_at (p e q : IVec S8x49104x80 1) (i : S8x49104x80.Idx) :
    select (andi p e) (broadcastInDim S8x49104x80 ![] bcast_S_S8x49104x80 (id (constant S_ .f32 0x3F800000#32 : FVec Ideal S_ .f32))) (select p (broadcastInDim S8x49104x80 ![] bcast_S_S8x49104x80 (id (constant S_ .f32 0x00000000#32 : FVec Ideal S_ .f32))) (select q (broadcastInDim S8x49104x80 ![] bcast_S_S8x49104x80 (id (constant S_ .f32 0x00000000#32 : FVec Ideal S_ .f32))) (broadcastInDim S8x49104x80 ![] bcast_S_S8x49104x80 (constant S_ .f32 0xBF800000#32 : FVec Ideal S_ .f32)))) i
      = Scalar.select (IntOp.andi (p i) (e i)) (Ideal.ofBits .f32 0x3F800000#32) (Scalar.select (p i) (Ideal.ofBits .f32 0x00000000#32)
          (Scalar.select (q i) (Ideal.ofBits .f32 0x00000000#32) (Ideal.ofBits .f32 0xBF800000#32))) := rfl

/-- Two arrays of words compared as a number above a half, at an element. -/
theorem same_at (l k : IVec S8x49104x80 32) (i : S8x49104x80.Idx) :
    cmpf .ogt (uitofp .f32 (cmpi .eq l k) : FVec Ideal S8x49104x80 .f32) (broadcastInDim S8x49104x80 ![] bcast_S_S8x49104x80 (constant S_ .f32 0x3F000000#32)) i
      = FloatOps.cmpf (F := Ideal) (φ := .f32) .ogt (FloatOps.uitofp .f32 (IntOp.cmpi .eq (l i) (k i))) (Ideal.ofBits .f32 0x3F000000#32) := rfl

/-- The targets of three arrays. -/
theorem target_at (x : FVec Ideal S8x49104x5 .f32) (y : IVec S8x49104 1) (z : FVec Ideal S8x49104 .f32) (b : Fin 8) (n : Fin 49104) (c : Fin 80)
    (l : EReal) (p : BitVec 1) (q : EReal) (hx : x (ix3 b n 4) = l) (hy : y (ix2 b n) = p) (hz : z (ix2 b n) = q) :
    select (andi (broadcastInDim S8x49104x80 ![0, 1, 2] bcast_S8x49104x1_S8x49104x80_0_1_2 (broadcastInDim S8x49104x1 ![0, 1] bcast_S8x49104_S8x49104x1_0_1 y)) (cmpf .ogt (uitofp .f32 (cmpi .eq (broadcastInDim S8x49104x80 ![0, 1, 2] bcast_S8x49104x1_S8x49104x80_0_1_2 (broadcastInDim S8x49104x1 ![0, 1] bcast_S8x49104_S8x49104x1_0_1 (fptosi 32 (shapeCast S8x49104 (extractStridedSlice S8x49104x1 ![0, 0, 4] x slices_S8x49104x5_S8x49104x1_0_0_4) shapeCasts_S8x49104x1_S8x49104)))) (broadcastInDim S8x49104x80 ![0, 1, 2] bcast_S1x1x80_S8x49104x80_0_1_2 (iotaInDim S1x1x80 32 2))) : FVec Ideal S8x49104x80 .f32) (broadcastInDim S8x49104x80 ![] bcast_S_S8x49104x80 (constant S_ .f32 0x3F000000#32)))) (broadcastInDim S8x49104x80 ![] bcast_S_S8x49104x80 (id (constant S_ .f32 0x3F800000#32 : FVec Ideal S_ .f32))) (select (broadcastInDim S8x49104x80 ![0, 1, 2] bcast_S8x49104x1_S8x49104x80_0_1_2 (broadcastInDim S8x49104x1 ![0, 1] bcast_S8x49104_S8x49104x1_0_1 y)) (broadcastInDim S8x49104x80 ![] bcast_S_S8x49104x80 (id (constant S_ .f32 0x00000000#32 : FVec Ideal S_ .f32))) (select (broadcastInDim S8x49104x80 ![0, 1, 2] bcast_S8x49104x1_S8x49104x80_0_1_2 (broadcastInDim S8x49104x1 ![0, 1] bcast_S8x49104_S8x49104x1_0_1 (cmpf .olt z (broadcastInDim S8x49104 ![] bcast_S_S8x49104 (constant S_ .f32 0x3ECCCCCD#32))))) (broadcastInDim S8x49104x80 ![] bcast_S_S8x49104x80 (id (constant S_ .f32 0x00000000#32 : FVec Ideal S_ .f32))) (broadcastInDim S8x49104x80 ![] bcast_S_S8x49104x80 (constant S_ .f32 0xBF800000#32 : FVec Ideal S_ .f32)))) (ix3 b n c)
      = Scalar.select (IntOp.andi p (FloatOps.cmpf (F := Ideal) (φ := .f32) .ogt
          (FloatOps.uitofp .f32 (IntOp.cmpi .eq (FloatOps.fptosi (F := Ideal) (φ := .f32) 32 l) (BitVec.ofNat 32 c.val))) (Ideal.ofBits .f32 0x3F000000#32)))
          (Ideal.ofBits .f32 0x3F800000#32) (Scalar.select p (Ideal.ofBits .f32 0x00000000#32)
          (Scalar.select (BitVec.ofBool (decide (negative q))) (Ideal.ofBits .f32 0x00000000#32) (Ideal.ofBits .f32 0xBF800000#32))) := by
  rw [masks_at, same_at, classes_at, classes_at, classes_at, number_at, fifths_at, fptosi_apply, last_at, hx, hy, hz]

/-- The target of an anchor at a class. -/
theorem v109_at (b : Fin 8) (n : Fin 49104) (c : Fin 80) : (res_main_v109 V : Vec Ideal S8x49104x80 .f32) (ix3 b n c)
    = Scalar.select (IntOp.andi (BitVec.ofBool (decide (positive (crest (rAnchor V n) (rNotes V b)))))
        (FloatOps.cmpf (F := Ideal) (φ := .f32) .ogt (FloatOps.uitofp .f32 (IntOp.cmpi .eq (rLabel V b n) (BitVec.ofNat 32 c.val))) (Ideal.ofBits .f32 0x3F000000#32)))
        (Ideal.ofBits .f32 0x3F800000#32)
        (Scalar.select (BitVec.ofBool (decide (positive (crest (rAnchor V n) (rNotes V b)))))
          (Ideal.ofBits .f32 0x00000000#32)
          (Scalar.select (BitVec.ofBool (decide (negative (crest (rAnchor V n) (rNotes V b)))))
            (Ideal.ofBits .f32 0x00000000#32) (Ideal.ofBits .f32 0xBF800000#32))) :=
  target_at (res_main_v92 V) (res_main_v88 V) (res_main_v85 V) b n c _ _ _ (v92_at V b n 4) (v88_at V b n) (v85_at V b n)

end Cert.ReferenceIdeal.Value

end
-- ==== Proof.RefSums.lean ====
module

public import proofs.«01_k».proof.Proof.RefTerms

/-! The reference's two results as sums over images, anchors and coordinates. -/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Focal

/-- The mean over the images. -/
theorem mean_at (X : FVec Ideal S8 .f32) :
    Host.divf (broadcastInDim S1 ![] bcast_S_S1 (Host.reduceAdd X (constant S_ .f32 0x00000000#32) reducesTo_S8_S_d0 h_S_)) (broadcastInDim S1 ![] bcast_S_S1 (constant S_ .f32 0x41000000#32)) (ix1 0)
      = Ideal.div (∑ b : Fin 8, X (ix1 b)) (Ideal.ofBits .f32 0x41000000#32) := by
  pointwise

/-- The sum over an image's anchors and classes. -/
theorem total80_at (Y : FVec Ideal S8x49104x80 .f32) (b : Fin 8) :
    Host.reduceAdd Y (constant S_ .f32 0x00000000#32) reducesTo_S8x49104x80_S8_d1_2 h_S_ (ix1 b) = ∑ n : Fin 49104, ∑ c : Fin 80, Y (ix3 b n c) := by
  pointwise

/-- The sum over an image's anchors and coordinates. -/
theorem total4_at (Y : FVec Ideal S8x49104x4 .f32) (b : Fin 8) :
    Host.reduceAdd Y (constant S_ .f32 0x00000000#32) reducesTo_S8x49104x4_S8_d1_2 h_S_ (ix1 b) = ∑ n : Fin 49104, ∑ c : Fin 4, Y (ix3 b n c) := by
  pointwise

/-- The class loss of a score against a target. -/
def clsOf (t p : EReal) : EReal :=
  Scalar.select (FloatOps.cmpf (F := Ideal) (φ := .f32) .une t (Ideal.ofBits .f32 0xBF800000#32))
    (Ideal.ofBits .f32 0x3E800000#32 * Ideal.pow (Scalar.select (FloatOps.cmpf (F := Ideal) (φ := .f32) .oeq t (Ideal.ofBits .f32 0x3F800000#32)) (Ideal.ofBits .f32 0x3F800000#32 - p) p) (Ideal.ofBits .f32 0x40000000#32)
      * -(t * Ideal.log p + (Ideal.ofBits .f32 0x3F800000#32 - t) * Ideal.log (Ideal.ofBits .f32 0x3F800000#32 - p)))
    (Ideal.ofBits .f32 0x00000000#32)

/-- The class loss at an element. -/
theorem clsOf_at (t p : FVec Ideal S8x49104x80 .f32) (i : S8x49104x80.Idx) :
    select (cmpf .une t (broadcastInDim S8x49104x80 ![] bcast_S_S8x49104x80 (constant S_ .f32 0xBF800000#32))) (mulf (mulf (broadcastInDim S8x49104x80 ![] bcast_S_S8x49104x80 (constant S_ .f32 0x3E800000#32)) (Host.powf (select (cmpf .oeq t (broadcastInDim S8x49104x80 ![] bcast_S_S8x49104x80 (constant S_ .f32 0x3F800000#32))) (subf (broadcastInDim S8x49104x80 ![] bcast_S_S8x49104x80 (constant S_ .f32 0x3F800000#32)) p) p) (broadcastInDim S8x49104x80 ![] bcast_S_S8x49104x80 (constant S_ .f32 0x40000000#32)))) (Host.negf (addf (mulf t (Host.log p)) (mulf (subf (broadcastInDim S8x49104x80 ![] bcast_S_S8x49104x80 (constant S_ .f32 0x3F800000#32)) t) (Host.log (subf (broadcastInDim S8x49104x80 ![] bcast_S_S8x49104x80 (constant S_ .f32 0x3F800000#32)) p)))))) (broadcastInDim S8x49104x80 ![] bcast_S_S8x49104x80 (id (constant S_ .f32 0x00000000#32 : FVec Ideal S_ .f32))) i
      = clsOf (t i) (p i) := rfl

/-- The box loss of a difference, counted where a bit is set. -/
def regOf (d : EReal) (w : BitVec 1) : EReal :=
  Scalar.select (FloatOps.cmpf (F := Ideal) (φ := .f32) .ole d (Ideal.ofBits .f32 0x3DE38E39#32))
    (Ideal.ofBits .f32 0x40900000#32 * (d * d)) (d - Ideal.ofBits .f32 0x3D638E39#32) * FloatOps.uitofp (F := Ideal) .f32 w

/-- A mask spread over the coordinates, at an element. -/
theorem sides_at (y : IVec S8x49104 1) (b : Fin 8) (n : Fin 49104) (j : Fin 4) :
    broadcastInDim S8x49104x4 ![0, 1, 2] bcast_S8x49104x1_S8x49104x4_0_1_2 (uitofp .f32 (broadcastInDim S8x49104x1 ![0, 1] bcast_S8x49104_S8x49104x1_0_1 y) : FVec Ideal S8x49104x1 .f32) (ix3 b n j)
      = FloatOps.uitofp (F := Ideal) .f32 (y (ix2 b n)) :=
  congrArg (fun i => FloatOps.uitofp (F := Ideal) .f32 (y i)) (by funext a; match a with | ⟨0, _⟩ => rfl | ⟨1, _⟩ => rfl)

/-- The box loss at an element. -/
theorem loss_at (d m : FVec Ideal S8x49104x4 .f32) (i : S8x49104x4.Idx) :
    mulf (select (cmpf .ole d (broadcastInDim S8x49104x4 ![] bcast_S_S8x49104x4 (constant S_ .f32 0x3DE38E39#32))) (mulf (broadcastInDim S8x49104x4 ![] bcast_S_S8x49104x4 (constant S_ .f32 0x40900000#32)) (mulf d d)) (subf d (broadcastInDim S8x49104x4 ![] bcast_S_S8x49104x4 (constant S_ .f32 0x3D638E39#32)))) m i
      = Scalar.select (FloatOps.cmpf (F := Ideal) (φ := .f32) .ole (d i) (Ideal.ofBits .f32 0x3DE38E39#32))
    (Ideal.ofBits .f32 0x40900000#32 * (d i * d i)) (d i - Ideal.ofBits .f32 0x3D638E39#32) * m i := rfl

/-- The class result of any targets, scores and counts. -/
theorem cls_at (t p : FVec Ideal S8x49104x80 .f32) (N : IVec S8 32) :
    Host.divf (broadcastInDim S1 ![] bcast_S_S1 (Host.reduceAdd (Host.divf (Host.reduceAdd (select (cmpf .une t (broadcastInDim S8x49104x80 ![] bcast_S_S8x49104x80 (constant S_ .f32 0xBF800000#32))) (mulf (mulf (broadcastInDim S8x49104x80 ![] bcast_S_S8x49104x80 (constant S_ .f32 0x3E800000#32)) (Host.powf (select (cmpf .oeq t (broadcastInDim S8x49104x80 ![] bcast_S_S8x49104x80 (constant S_ .f32 0x3F800000#32))) (subf (broadcastInDim S8x49104x80 ![] bcast_S_S8x49104x80 (constant S_ .f32 0x3F800000#32)) p) p) (broadcastInDim S8x49104x80 ![] bcast_S_S8x49104x80 (constant S_ .f32 0x40000000#32)))) (Host.negf (addf (mulf t (Host.log p)) (mulf (subf (broadcastInDim S8x49104x80 ![] bcast_S_S8x49104x80 (constant S_ .f32 0x3F800000#32)) t) (Host.log (subf (broadcastInDim S8x49104x80 ![] bcast_S_S8x49104x80 (constant S_ .f32 0x3F800000#32)) p)))))) (broadcastInDim S8x49104x80 ![] bcast_S_S8x49104x80 (id (constant S_ .f32 0x00000000#32 : FVec Ideal S_ .f32)))) (constant S_ .f32 0x00000000#32) reducesTo_S8x49104x80_S8_d1_2 h_S_) (maximumf (sitofp .f32 N) (broadcastInDim S8 ![] bcast_S_S8 (constant S_ .f32 0x3F800000#32)))) (constant S_ .f32 0x00000000#32) reducesTo_S8_S_d0 h_S_)) (broadcastInDim S1 ![] bcast_S_S1 (constant S_ .f32 0x41000000#32)) (ix1 0)
      = Ideal.div (∑ b : Fin 8, Ideal.div (∑ n : Fin 49104, ∑ c : Fin 80, clsOf (t (ix3 b n c)) (p (ix3 b n c))) (max (FloatOps.sitofp (F := Ideal) .f32 (N (ix1 b))) (Ideal.ofBits .f32 0x3F800000#32)))
          (Ideal.ofBits .f32 0x41000000#32) := by
  rw [mean_at]
  refine congrArg (fun z => Ideal.div z _) (Finset.sum_congr rfl fun b _ => ?_)
  refine congrArg₂ (fun x y : EReal => Ideal.div x y) ((total80_at _ b).trans ?_) rfl
  exact Finset.sum_congr rfl fun n _ => Finset.sum_congr rfl fun c _ => clsOf_at t p _

/-- The box result of any differences, masks and counts. -/
theorem reg_at (d : FVec Ideal S8x49104x4 .f32) (y : IVec S8x49104 1) (N : IVec S8 32) :
    Host.divf (broadcastInDim S1 ![] bcast_S_S1 (Host.reduceAdd (select (cmpi .sgt N (broadcastInDim S8 ![] bcast_S_S8 (constantI S_ 32 0#32))) (Host.divf (Host.reduceAdd (mulf (select (cmpf .ole d (broadcastInDim S8x49104x4 ![] bcast_S_S8x49104x4 (constant S_ .f32 0x3DE38E39#32))) (mulf (broadcastInDim S8x49104x4 ![] bcast_S_S8x49104x4 (constant S_ .f32 0x40900000#32)) (mulf d d)) (subf d (broadcastInDim S8x49104x4 ![] bcast_S_S8x49104x4 (constant S_ .f32 0x3D638E39#32)))) (broadcastInDim S8x49104x4 ![0, 1, 2] bcast_S8x49104x1_S8x49104x4_0_1_2 (uitofp .f32 (broadcastInDim S8x49104x1 ![0, 1] bcast_S8x49104_S8x49104x1_0_1 y)))) (constant S_ .f32 0x00000000#32) reducesTo_S8x49104x4_S8_d1_2 h_S_) (mulf (sitofp .f32 (maxsi N (broadcastInDim S8 ![] bcast_S_S8 (constantI S_ 32 1#32)))) (broadcastInDim S8 ![] bcast_S_S8 (constant S_ .f32 0x40800000#32)))) (broadcastInDim S8 ![] bcast_S_S8 (id (constant S_ .f32 0x00000000#32 : FVec Ideal S_ .f32)))) (constant S_ .f32 0x00000000#32) reducesTo_S8_S_d0 h_S_)) (broadcastInDim S1 ![] bcast_S_S1 (constant S_ .f32 0x41000000#32)) (ix1 0)
      = Ideal.div (∑ b : Fin 8, Scalar.select (IntOp.cmpi .sgt (N (ix1 b)) 0#32)
            (Ideal.div (∑ n : Fin 49104, ∑ j : Fin 4, regOf (d (ix3 b n j)) (y (ix2 b n))) (FloatOps.sitofp (F := Ideal) .f32 (IntOp.maxsi (N (ix1 b)) 1#32) * Ideal.ofBits .f32 0x40800000#32))
            (Ideal.ofBits .f32 0x00000000#32))
          (Ideal.ofBits .f32 0x41000000#32) := by
  rw [mean_at]
  refine congrArg (fun z => Ideal.div z _) (Finset.sum_congr rfl fun b _ => ?_)
  refine congrArg (fun z => Scalar.select (IntOp.cmpi .sgt (N (ix1 b)) 0#32) z (Ideal.ofBits .f32 0x00000000#32)) ?_
  refine congrArg₂ (fun x y : EReal => Ideal.div x y) ((total4_at _ b).trans ?_) rfl
  exact Finset.sum_congr rfl fun n _ => Finset.sum_congr rfl fun j _ => (loss_at d _ _).trans (congrArg (fun z => _ * z) (sides_at y b n j))

end Cert.ReferenceIdeal.Value

end
-- ==== Proof.RealLoss.lean ====
module

public import proofs.«01_k».proof.Proof.RefSums

/-! The class loss of scores strictly between zero and one: it is a real number, and the sum over the classes splits into the background's part and the class's own part. -/

@[expose] public section

set_option maxRecDepth 16384

noncomputable section

namespace Cert.Focal

open Idealize.ShloMosaic Idealize.ShloMosaic.TcCoe
open Cert.ReferenceIdeal.Value

/-- The word of 1. -/
theorem word_one : Ideal.ofBits .f32 0x3F800000#32 = ((1 : ℝ) : EReal) := by
  rw [Ideal.ofBits_one_f32]; rfl
/-- The word of 0. -/
theorem word_zero : Ideal.ofBits .f32 0x00000000#32 = ((0 : ℝ) : EReal) := by
  rw [Ideal.ofBits_zero_f32]; rfl
/-- The word of -1. -/
theorem word_neg_one : Ideal.ofBits .f32 0xBF800000#32 = ((-1 : ℝ) : EReal) := by
  simp [Ideal.ofBits, Ideal.ieee]
  rw [← EReal.coe_mul]
  norm_num
/-- The word of 2. -/
theorem word_two : Ideal.ofBits .f32 0x40000000#32 = ((2 : ℝ) : EReal) := by
  simp [Ideal.ofBits, Ideal.ieee]
  rw [← EReal.coe_mul]
  norm_num
/-- The word of 1/2. -/
theorem word_half : Ideal.ofBits .f32 0x3F000000#32 = ((1 / 2 : ℝ) : EReal) := by
  simp [Ideal.ofBits, Ideal.ieee]
  rw [← EReal.coe_mul]
  norm_num
/-- The word of 1/4. -/
theorem word_quarter : Ideal.ofBits .f32 0x3E800000#32 = ((1 / 4 : ℝ) : EReal) := by
  simp [Ideal.ofBits, Ideal.ieee]
  rw [← EReal.coe_mul]
  norm_num
/-- The word of -1/4. -/
theorem word_neg_quarter : Ideal.ofBits .f32 0xBE800000#32 = ((-(1 / 4) : ℝ) : EReal) := by
  simp [Ideal.ofBits, Ideal.ieee]
  rw [← EReal.coe_mul]
  norm_num
/-- The word of the float nearest 0.1. -/
theorem word_tenth : Ideal.ofBits .f32 0x3DCCCCCD#32 = ((13421773 / 134217728 : ℝ) : EReal) := by
  simp [Ideal.ofBits, Ideal.ieee]
  rw [← EReal.coe_mul]
  norm_num
/-- The word of the float nearest 0.2. -/
theorem word_fifth : Ideal.ofBits .f32 0x3E4CCCCD#32 = ((13421773 / 67108864 : ℝ) : EReal) := by
  simp [Ideal.ofBits, Ideal.ieee]
  rw [← EReal.coe_mul]
  norm_num
/-- The lower end of the clip is a positive real. -/
theorem word_low : ∃ e : ℝ, 0 < e ∧ Ideal.ofBits .f32 0x38D1B717#32 = (e : EReal) := by
  refine ⟨_, ?_, by simp [Ideal.ofBits, Ideal.ieee]; rfl⟩
  norm_num
/-- The upper end of the clip is a real below one. -/
theorem word_high : ∃ e : ℝ, e < 1 ∧ Ideal.ofBits .f32 0x3F7FF972#32 = (e : EReal) := by
  refine ⟨_, ?_, by simp [Ideal.ofBits, Ideal.ieee]; rfl⟩
  norm_num

/-- The coercion of a sum of reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A choice by the bit of a proposition. -/
theorem select_if {α : Type} (p : Prop) [Decidable p] (a b : α) : Scalar.select (BitVec.ofBool (decide p)) a b = if p then a else b := by
  by_cases h : p <;> simp [h, Scalar.select]

/-- The second power of a real. -/
theorem pow_two_real (y : ℝ) : Ideal.pow (y : EReal) ((2 : ℝ) : EReal) = ((y * y : ℝ) : EReal) := by
  rw [Ideal.pow_coe_coe]
  refine congrArg _ ?_
  have h : Real.rpow y 2 = y ^ (2 : ℕ) := Real.rpow_two y
  rw [h, pow_two]

/-- The logarithm of a positive real. -/
theorem log_real {y : ℝ} (h : 0 < y) : Ideal.log (y : EReal) = ((Real.log y : ℝ) : EReal) := by
  rw [Ideal.log_coe, if_neg (not_le.2 h)]

/-- The choices of the class loss by cases. -/
theorem clsOf_if (t p : EReal) : clsOf t p = if t ≠ ((-1 : ℝ) : EReal) then
    ((1 / 4 : ℝ) : EReal) * Ideal.pow (if t = ((1 : ℝ) : EReal) then ((1 : ℝ) : EReal) - p else p) ((2 : ℝ) : EReal)
      * -(t * Ideal.log p + (((1 : ℝ) : EReal) - t) * Ideal.log (((1 : ℝ) : EReal) - p)) else ((0 : ℝ) : EReal) := by
  unfold clsOf
  rw [word_neg_one, word_quarter, word_one, word_two, word_zero]
  exact (select_if _ _ _).trans (by rw [show Scalar.select (FloatOps.cmpf (F := Ideal) (φ := .f32) .oeq t ((1 : ℝ) : EReal)) (((1 : ℝ) : EReal) - p) p = if t = ((1 : ℝ) : EReal) then ((1 : ℝ) : EReal) - p else p from select_if _ _ _])

variable {x : ℝ} (h0 : 0 < x) (h1 : x < 1)
include h0 h1

/-- The loss at the anchor's own class. -/
theorem clsOf_one : clsOf ((1 : ℝ) : EReal) (x : EReal) = ((-(1 / 4) * ((1 - x) * (1 - x) * Real.log x) : ℝ) : EReal) := by
  have hx : 0 < 1 - x := by linarith
  rw [clsOf_if, if_pos (by rw [Ne, EReal.coe_eq_coe_iff]; norm_num), if_pos rfl, ← EReal.coe_sub, pow_two_real, log_real h0, log_real hx]
  simp only [← EReal.coe_mul, ← EReal.coe_add, ← EReal.coe_sub, ← EReal.coe_neg]
  refine congrArg _ ?_
  ring

/-- The loss at another class. -/
theorem clsOf_zero : clsOf ((0 : ℝ) : EReal) (x : EReal) = ((-(1 / 4) * (x * x * Real.log (1 - x)) : ℝ) : EReal) := by
  have hx : 0 < 1 - x := by linarith
  rw [clsOf_if, if_pos (by rw [Ne, EReal.coe_eq_coe_iff]; norm_num), if_neg (by rw [EReal.coe_eq_coe_iff]; norm_num), show ((1 : ℝ) : EReal) - (x : EReal) = ((1 - x : ℝ) : EReal) from (EReal.coe_sub _ _).symm, pow_two_real, log_real h0, log_real hx]
  simp only [← EReal.coe_mul, ← EReal.coe_add, ← EReal.coe_sub, ← EReal.coe_neg]
  refine congrArg _ ?_
  ring

omit h0 h1 in
/-- An anchor that is neither has no loss. -/
theorem clsOf_neg (p : EReal) : clsOf ((-1 : ℝ) : EReal) p = ((0 : ℝ) : EReal) := by
  rw [clsOf_if, if_neg (by simp)]

/-- What the class an anchor is given adds to its loss, as a real. -/
theorem foreground_real : foreground (x : EReal) = (((1 - x) * (1 - x) * Real.log x - x * x * Real.log (1 - x) : ℝ) : EReal) := by
  have hx : 0 < 1 - x := by linarith
  unfold foreground
  rw [← EReal.coe_one, ← EReal.coe_sub, log_real h0, log_real hx]
  simp only [← EReal.coe_mul, ← EReal.coe_add, ← EReal.coe_sub, ← EReal.coe_neg]

omit h0 h1 in
/-- The background's loss, as a real. -/
theorem background_real (p : Fin 80 → ℝ) (h1 : ∀ c, p c < 1) :
    background (fun c => (p c : EReal)) = ((∑ c, p c * p c * Real.log (1 - p c) : ℝ) : EReal) := by
  unfold background
  rw [coe_sum]
  refine Finset.sum_congr rfl fun c _ => ?_
  rw [← EReal.coe_one, ← EReal.coe_sub, log_real (by linarith [h1 c]), ← EReal.coe_mul, ← EReal.coe_mul]

omit h0 h1 in
/-- Words of two classes are equal only for equal classes. -/
theorem word_inj {c c' : Fin 80} : BitVec.ofNat 32 c.val = BitVec.ofNat 32 c'.val ↔ c = c' := by
  constructor
  · intro h
    have := congrArg BitVec.toNat h
    simp only [BitVec.toNat_ofNat] at this
    rw [Nat.mod_eq_of_lt (by omega), Nat.mod_eq_of_lt (by omega)] at this
    exact Fin.ext this
  · rintro rfl; rfl

omit h0 h1 in
/-- The score of the class a word names. -/
theorem score_real (p : Fin 80 → EReal) (k : Fin 80) : score p (BitVec.ofNat 32 k.val) = p k := by
  unfold score
  simp only [word_inj]
  rw [Finset.sum_ite_eq' Finset.univ k p, if_pos (Finset.mem_univ _)]

/-- The target of an anchor at a class, by cases. -/
def aim (P N : Prop) [Decidable P] [Decidable N] (l k : BitVec 32) : EReal :=
  if P then (if l = k then ((1 : ℝ) : EReal) else ((0 : ℝ) : EReal)) else if N then ((0 : ℝ) : EReal) else ((-1 : ℝ) : EReal)

omit h0 h1 in
/-- The reference's chain of choices gives the target. -/
theorem aim_eq (P N : Prop) [Decidable P] [Decidable N] (l k : BitVec 32) :
    Scalar.select (IntOp.andi (BitVec.ofBool (decide P))
        (FloatOps.cmpf (F := Ideal) (φ := .f32) .ogt (FloatOps.uitofp .f32 (IntOp.cmpi .eq l k)) (Ideal.ofBits .f32 0x3F000000#32)))
        (Ideal.ofBits .f32 0x3F800000#32)
        (Scalar.select (BitVec.ofBool (decide P)) (Ideal.ofBits .f32 0x00000000#32)
          (Scalar.select (BitVec.ofBool (decide N)) (Ideal.ofBits .f32 0x00000000#32) (Ideal.ofBits .f32 0xBF800000#32))) = aim P N l k := by
  have hc : FloatOps.cmpf (F := Ideal) (φ := .f32) .ogt (FloatOps.uitofp .f32 (IntOp.cmpi .eq l k)) (Ideal.ofBits .f32 0x3F000000#32) = BitVec.ofBool (decide (l = k)) := by
    have e : IntOp.cmpi .eq l k = BitVec.ofBool (decide (l = k)) := by
      show BitVec.ofBool (l == k) = _
      by_cases h : l = k
      · simp [h]
      · rw [beq_eq_false_iff_ne.2 h, decide_eq_false h]
    rw [e, word_half]
    have e2 : ∀ w : BitVec 1, FloatOps.cmpf (F := Ideal) (φ := .f32) .ogt (FloatOps.uitofp .f32 w) ((1 / 2 : ℝ) : EReal)
        = BitVec.ofBool (decide (((1 / 2 : ℝ) : EReal) < (((w.toNat : ℝ)) : EReal))) := fun w => rfl
    rw [e2]
    refine congrArg BitVec.ofBool (decide_eq_decide.2 ?_)
    rw [EReal.coe_lt_coe_iff]
    by_cases h : l = k
    · simp [h]; norm_num
    · simp [h]
  rw [hc, word_one, word_zero, word_neg_one, select_if, select_if]
  unfold aim
  by_cases hP : P
  · by_cases h : l = k <;> simp [hP, h, Scalar.select, IntOp.andi]
  · simp [hP, Scalar.select, IntOp.andi]

omit h0 h1 in
/-- The loss of an anchor over the classes. -/
theorem aim_sum (p : Fin 80 → ℝ) (h0 : ∀ c, 0 < p c) (h1 : ∀ c, p c < 1) (P N : Prop) [Decidable P] [Decidable N] (k : Fin 80) :
    ∑ c : Fin 80, clsOf (aim P N (BitVec.ofNat 32 k.val) (BitVec.ofNat 32 c.val)) (p c : EReal)
      = ((-(1 / 4) * ((if P ∨ N then ∑ c, p c * p c * Real.log (1 - p c) else 0)
          + if P then (1 - p k) * (1 - p k) * Real.log (p k) - p k * p k * Real.log (1 - p k) else 0) : ℝ) : EReal) := by
  unfold aim
  by_cases hP : P
  · have e : ∀ c : Fin 80, clsOf (if P then (if BitVec.ofNat 32 k.val = BitVec.ofNat 32 c.val then ((1 : ℝ) : EReal) else ((0 : ℝ) : EReal)) else if N then ((0 : ℝ) : EReal) else ((-1 : ℝ) : EReal)) (p c : EReal)
        = ((-(1 / 4) * (p c * p c * Real.log (1 - p c) + if k = c then (1 - p k) * (1 - p k) * Real.log (p k) - p k * p k * Real.log (1 - p k) else 0) : ℝ) : EReal) := by
      intro c
      rw [if_pos hP]
      by_cases h : k = c
      · subst h
        rw [if_pos rfl, if_pos rfl, clsOf_one (h0 k) (h1 k)]
        refine congrArg _ ?_
        ring
      · rw [if_neg (fun h' => h (word_inj.1 h')), if_neg h, clsOf_zero (h0 c) (h1 c), add_zero]
    rw [Finset.sum_congr rfl fun c _ => e c, ← coe_sum, ← Finset.mul_sum, Finset.sum_add_distrib, Finset.sum_ite_eq Finset.univ k, if_pos (Finset.mem_univ _),
      if_pos (Or.inl hP), if_pos hP]
  · by_cases hN : N
    · rw [if_pos (Or.inr hN), if_neg hP, add_zero, Finset.mul_sum, coe_sum]
      refine Finset.sum_congr rfl fun c _ => ?_
      rw [if_neg hP, if_pos hN, clsOf_zero (h0 c) (h1 c)]
    · rw [if_neg (show ¬(P ∨ N) by tauto), if_neg hP]
      rw [Finset.sum_eq_zero (fun c _ => (congrArg (fun t => clsOf t (p c : EReal)) ((if_neg hP).trans (if_neg hN))).trans (clsOf_neg _))]
      simp

omit h0 h1 in
/-- Six blocks of lanes, each block's two sums scaled together, are the anchors' losses. -/
theorem scaled_blocks (β φ : Fin 49104 → ℝ) :
    ∑ a ∈ Finset.range 6, Ideal.ofBits .f32 0xBE800000#32 * ((∑ l : Fin 8192, if h : a * 8192 + l.val < 49104 then (β ⟨a * 8192 + l.val, h⟩ : EReal) else 0)
        + ∑ l : Fin 8192, if h : a * 8192 + l.val < 49104 then (φ ⟨a * 8192 + l.val, h⟩ : EReal) else 0)
      = ∑ n, ((-(1 / 4) * (β n + φ n) : ℝ) : EReal) := by
  rw [← sum_blocks]
  refine Finset.sum_congr rfl fun a _ => ?_
  have e : ∀ T : Fin 49104 → ℝ, (∑ l : Fin 8192, if h : a * 8192 + l.val < 49104 then (T ⟨a * 8192 + l.val, h⟩ : EReal) else 0)
      = ((∑ l : Fin 8192, if h : a * 8192 + l.val < 49104 then T ⟨a * 8192 + l.val, h⟩ else 0 : ℝ) : EReal) := by
    intro T
    rw [coe_sum]
    refine Finset.sum_congr rfl fun l _ => ?_
    by_cases h : a * 8192 + l.val < 49104
    · rw [dif_pos h, dif_pos h]
    · rw [dif_neg h, dif_neg h]; rfl
  rw [e, e, e fun n => -(1 / 4) * (β n + φ n), word_neg_quarter, ← EReal.coe_add, ← EReal.coe_mul, ← Finset.sum_add_distrib, Finset.mul_sum]
  refine congrArg _ (Finset.sum_congr rfl fun l _ => ?_)
  by_cases h : a * 8192 + l.val < 49104
  · rw [dif_pos h, dif_pos h, dif_pos h]
  · rw [dif_neg h, dif_neg h, dif_neg h]; simp

end Cert.Focal

end
-- ==== Proof.RefBox.lean ====
module

public import proofs.«01_k».proof.Proof.RefMatch

/-! The reference's box differences read at an anchor. -/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Focal

/-- Four columns side by side, at an element. -/
theorem columns_at (p q r s : FVec Ideal S8x49104x1 .f32) (b : Fin 8) (n : Fin 49104) (j : Fin 4) :
    concatenate S8x49104x4 2 [⟨S8x49104x1, p⟩, ⟨S8x49104x1, q⟩, ⟨S8x49104x1, r⟩, ⟨S8x49104x1, s⟩]
      concatenates_S8x49104x1_S8x49104x1_S8x49104x1_S8x49104x1_S8x49104x4_d2 (ix3 b n j)
      = (![p (ix3 b n 0), q (ix3 b n 0), r (ix3 b n 0), s (ix3 b n 0)] : Fin 4 → EReal) j := by
  pointwise
  match j with
  | ⟨0, _⟩ => rfl
  | ⟨1, _⟩ => rfl
  | ⟨2, _⟩ => rfl
  | ⟨3, _⟩ => rfl

/-- A scaled difference's size, at an element. -/
theorem gap_at (C A : FVec Ideal S8x49104x4 .f32) (L : FVec Ideal S1x1x4 .f32) (b : Fin 8) (n : Fin 49104) (j : Fin 4) :
    Host.absf (subf (Host.divf C (broadcastInDim S8x49104x4 ![0, 1, 2] bcast_S1x1x4_S8x49104x4_0_1_2 L)) A) (ix3 b n j)
      = FloatOps.absf (F := Ideal) (φ := .f32) (Ideal.div (C (ix3 b n j)) (L (ix3 0 0 j)) - A (ix3 b n j)) := by
  pointwise

/-- A vector with a unit axis put in front and spread over the images, at an element. -/
theorem spread_at (u : FVec Ideal S49104 .f32) (b : Fin 8) (n : Fin 49104) :
    broadcastInDim S8x49104 ![0, 1] bcast_S1x49104_S8x49104_0_1 (broadcastInDim S1x49104 ![1] bcast_S49104_S1x49104_1 u) (ix2 b n) = u (ix1 n) := by
  pointwise

/-- A centre's shift, at an element. -/
theorem shift_at (g w : FVec Ideal S8x49104 .f32) (a u : FVec Ideal S49104 .f32) (b : Fin 8) (n : Fin 49104) :
    broadcastInDim S8x49104x1 ![0, 1] bcast_S8x49104_S8x49104x1_0_1 (Host.divf (subf (addf g (mulf (broadcastInDim S8x49104 ![] bcast_S_S8x49104 (constant S_ .f32 0x3F000000#32)) w)) (broadcastInDim S8x49104 ![0, 1] bcast_S1x49104_S8x49104_0_1 (broadcastInDim S1x49104 ![1] bcast_S49104_S1x49104_1 (addf a (mulf (broadcastInDim S49104 ![] bcast_S_S49104 (constant S_ .f32 0x3F000000#32)) u))))) (broadcastInDim S8x49104 ![0, 1] bcast_S1x49104_S8x49104_0_1 (broadcastInDim S1x49104 ![1] bcast_S49104_S1x49104_1 u))) (ix3 b n 0)
      = Ideal.div (g (ix2 b n) + Ideal.ofBits .f32 0x3F000000#32 * w (ix2 b n) - (a (ix1 n) + Ideal.ofBits .f32 0x3F000000#32 * u (ix1 n))) (u (ix1 n)) := by
  pointwise

/-- A length's logarithm, at an element. -/
theorem stretch_at (w : FVec Ideal S8x49104 .f32) (u : FVec Ideal S49104 .f32) (b : Fin 8) (n : Fin 49104) :
    broadcastInDim S8x49104x1 ![0, 1] bcast_S8x49104_S8x49104x1_0_1 (Host.log (Host.divf (maximumf w (broadcastInDim S8x49104 ![] bcast_S_S8x49104 (constant S_ .f32 0x3F800000#32))) (broadcastInDim S8x49104 ![0, 1] bcast_S1x49104_S8x49104_0_1 (broadcastInDim S1x49104 ![1] bcast_S49104_S1x49104_1 u)))) (ix3 b n 0)
      = Ideal.log (Ideal.div (max (w (ix2 b n)) 1) (u (ix1 n))) := by
  pointwise

variable (V : Valuation τ sig (Elt Ideal))

/-- A column of the annotations less another, at an element. -/
theorem wide_at (x : FVec Ideal S8x49104x5 .f32) (b : Fin 8) (n : Fin 49104) :
    subf (shapeCast S8x49104 (extractStridedSlice S8x49104x1 ![0, 0, 2] x slices_S8x49104x5_S8x49104x1_0_0_2) shapeCasts_S8x49104x1_S8x49104) (shapeCast S8x49104 (extractStridedSlice S8x49104x1 ![0, 0, 0] x slices_S8x49104x5_S8x49104x1_0_0_0) shapeCasts_S8x49104x1_S8x49104) (ix2 b n)
      = (x (ix3 b n 2) : EReal) - x (ix3 b n 0) := by
  pointwise

/-- The width of the annotation an anchor takes. -/
theorem v142_at (b : Fin 8) (n : Fin 49104) : (res_main_v142 V : Vec Ideal S8x49104 .f32) (ix2 b n)
    = mate (rAnchor V n) (rNotes V b) 2 - mate (rAnchor V n) (rNotes V b) 0 :=
  (wide_at (res_main_v92 V) b n).trans (congrArg₂ (fun x y : EReal => x - y) (v92_at V b n 2) (v92_at V b n 0))

/-- A column of the annotations less another, at an element. -/
theorem tall_at (x : FVec Ideal S8x49104x5 .f32) (b : Fin 8) (n : Fin 49104) :
    subf (shapeCast S8x49104 (extractStridedSlice S8x49104x1 ![0, 0, 3] x slices_S8x49104x5_S8x49104x1_0_0_3) shapeCasts_S8x49104x1_S8x49104) (shapeCast S8x49104 (extractStridedSlice S8x49104x1 ![0, 0, 1] x slices_S8x49104x5_S8x49104x1_0_0_1) shapeCasts_S8x49104x1_S8x49104) (ix2 b n)
      = (x (ix3 b n 3) : EReal) - x (ix3 b n 1) := by
  pointwise

/-- The height of the annotation an anchor takes. -/
theorem v147_at (b : Fin 8) (n : Fin 49104) : (res_main_v147 V : Vec Ideal S8x49104 .f32) (ix2 b n)
    = mate (rAnchor V n) (rNotes V b) 3 - mate (rAnchor V n) (rNotes V b) 1 :=
  (tall_at (res_main_v92 V) b n).trans (congrArg₂ (fun x y : EReal => x - y) (v92_at V b n 3) (v92_at V b n 1))

/-- A column of the annotations, at an element. -/
theorem left_at (x : FVec Ideal S8x49104x5 .f32) (b : Fin 8) (n : Fin 49104) :
    shapeCast S8x49104 (extractStridedSlice S8x49104x1 ![0, 0, 0] x slices_S8x49104x5_S8x49104x1_0_0_0) shapeCasts_S8x49104x1_S8x49104 (ix2 b n) = x (ix3 b n 0) := by
  pointwise

/-- A column of the annotations, at an element. -/
theorem top_at (x : FVec Ideal S8x49104x5 .f32) (b : Fin 8) (n : Fin 49104) :
    shapeCast S8x49104 (extractStridedSlice S8x49104x1 ![0, 0, 1] x slices_S8x49104x5_S8x49104x1_0_0_1) shapeCasts_S8x49104x1_S8x49104 (ix2 b n) = x (ix3 b n 1) := by
  pointwise

/-- A column of the anchors, at an element. -/
theorem start_at (x : FVec Ideal S49104x4 .f32) (n : Fin 49104) :
    shapeCast S49104 (extractStridedSlice S49104x1 ![0, 0] x slices_S49104x4_S49104x1_0_0) shapeCasts_S49104x1_S49104 (ix1 n) = x (ix2 n 0) := by
  pointwise

/-- A column of the anchors, at an element. -/
theorem first_at (x : FVec Ideal S49104x4 .f32) (n : Fin 49104) :
    shapeCast S49104 (extractStridedSlice S49104x1 ![0, 1] x slices_S49104x4_S49104x1_0_1) shapeCasts_S49104x1_S49104 (ix1 n) = x (ix2 n 1) := by
  pointwise

/-- The table of scales, at an element. -/
theorem table_at (j : Fin 4) : ((fun i => FloatOps.ofBits .f32 (lit0 (S1x1x4.rowMajor i))) : FVec Ideal S1x1x4 .f32) (ix3 0 0 j) = Ideal.ofBits .f32 (lit0 j) :=
  match j with
  | ⟨0, _⟩ => rfl
  | ⟨1, _⟩ => rfl
  | ⟨2, _⟩ => rfl
  | ⟨3, _⟩ => rfl

/-- The differences of the box targets from the boxes, of any arrays. -/
theorem targets_at (x : FVec Ideal S8x49104x5 .f32) (w h : FVec Ideal S8x49104 .f32) (a : FVec Ideal S49104x4 .f32) (u v : FVec Ideal S49104 .f32) (r : FVec Ideal S8x49104x4 .f32)
    (L : FVec Ideal S1x1x4 .f32) (b : Fin 8) (n : Fin 49104) (j : Fin 4) (g : Fin 5 → EReal) (A : Fin 4 → EReal) (s : EReal) (hL : L (ix3 0 0 j) = s)
    (hx0 : x (ix3 b n 0) = g 0) (hx1 : x (ix3 b n 1) = g 1) (hw : w (ix2 b n) = g 2 - g 0) (hh : h (ix2 b n) = g 3 - g 1)
    (ha0 : a (ix2 n 0) = A 0) (ha1 : a (ix2 n 1) = A 1) (hu : u (ix1 n) = A 2 - A 0) (hv : v (ix1 n) = A 3 - A 1) :
    Host.absf (subf (Host.divf ((concatenate S8x49104x4 2 [⟨S8x49104x1, ((broadcastInDim S8x49104x1 ![0, 1] bcast_S8x49104_S8x49104x1_0_1 (Host.divf (subf (addf (shapeCast S8x49104 (extractStridedSlice S8x49104x1 ![0, 0, 0] x slices_S8x49104x5_S8x49104x1_0_0_0) shapeCasts_S8x49104x1_S8x49104) (mulf (broadcastInDim S8x49104 ![] bcast_S_S8x49104 (constant S_ .f32 0x3F000000#32)) w)) (broadcastInDim S8x49104 ![0, 1] bcast_S1x49104_S8x49104_0_1 (broadcastInDim S1x49104 ![1] bcast_S49104_S1x49104_1 (addf (shapeCast S49104 (extractStridedSlice S49104x1 ![0, 0] a slices_S49104x4_S49104x1_0_0) shapeCasts_S49104x1_S49104) (mulf (broadcastInDim S49104 ![] bcast_S_S49104 (constant S_ .f32 0x3F000000#32)) u))))) (broadcastInDim S8x49104 ![0, 1] bcast_S1x49104_S8x49104_0_1 (broadcastInDim S1x49104 ![1] bcast_S49104_S1x49104_1 u)))))⟩, ⟨S8x49104x1, ((broadcastInDim S8x49104x1 ![0, 1] bcast_S8x49104_S8x49104x1_0_1 (Host.divf (subf (addf (shapeCast S8x49104 (extractStridedSlice S8x49104x1 ![0, 0, 1] x slices_S8x49104x5_S8x49104x1_0_0_1) shapeCasts_S8x49104x1_S8x49104) (mulf (broadcastInDim S8x49104 ![] bcast_S_S8x49104 (constant S_ .f32 0x3F000000#32)) h)) (broadcastInDim S8x49104 ![0, 1] bcast_S1x49104_S8x49104_0_1 (broadcastInDim S1x49104 ![1] bcast_S49104_S1x49104_1 (addf (shapeCast S49104 (extractStridedSlice S49104x1 ![0, 1] a slices_S49104x4_S49104x1_0_1) shapeCasts_S49104x1_S49104) (mulf (broadcastInDim S49104 ![] bcast_S_S49104 (constant S_ .f32 0x3F000000#32)) v))))) (broadcastInDim S8x49104 ![0, 1] bcast_S1x49104_S8x49104_0_1 (broadcastInDim S1x49104 ![1] bcast_S49104_S1x49104_1 v)))))⟩, ⟨S8x49104x1, ((broadcastInDim S8x49104x1 ![0, 1] bcast_S8x49104_S8x49104x1_0_1 (Host.log (Host.divf (maximumf w (broadcastInDim S8x49104 ![] bcast_S_S8x49104 (constant S_ .f32 0x3F800000#32))) (broadcastInDim S8x49104 ![0, 1] bcast_S1x49104_S8x49104_0_1 (broadcastInDim S1x49104 ![1] bcast_S49104_S1x49104_1 u))))))⟩, ⟨S8x49104x1, ((broadcastInDim S8x49104x1 ![0, 1] bcast_S8x49104_S8x49104x1_0_1 (Host.log (Host.divf (maximumf h (broadcastInDim S8x49104 ![] bcast_S_S8x49104 (constant S_ .f32 0x3F800000#32))) (broadcastInDim S8x49104 ![0, 1] bcast_S1x49104_S8x49104_0_1 (broadcastInDim S1x49104 ![1] bcast_S49104_S1x49104_1 v))))))⟩] concatenates_S8x49104x1_S8x49104x1_S8x49104x1_S8x49104x1_S8x49104x4_d2 : FVec Ideal S8x49104x4 .f32)) (broadcastInDim S8x49104x4 ![0, 1, 2] bcast_S1x1x4_S8x49104x4_0_1_2 L)) r) (ix3 b n j)
      = FloatOps.absf (F := Ideal) (φ := .f32) (Ideal.div (offsets A g j) s - r (ix3 b n j)) := by
  rw [gap_at, columns_at, hL, shift_at, shift_at, stretch_at, stretch_at, left_at, top_at, start_at, first_at, hx0, hx1, hw, hh, ha0, ha1, hu, hv]
  rfl

/-- The differences of the box targets from the boxes. -/
theorem v190_at (b : Fin 8) (n : Fin 49104) (j : Fin 4) : (res_main_v190 V : Vec Ideal S8x49104x4 .f32) (ix3 b n j)
    = FloatOps.absf (F := Ideal) (φ := .f32) (Ideal.div (offsets (rAnchor V n) (mate (rAnchor V n) (rNotes V b)) j) (Ideal.ofBits .f32 (lit0 j)) - rBox V b n j) :=
  targets_at (res_main_v92 V) (res_main_v142 V) (res_main_v147 V) (res_main_v0 V) (res_main_v5 V) (res_main_v10 V) (V (Proc.devRef .tc main_arg1)) _ b n j
    (mate (rAnchor V n) (rNotes V b)) (rAnchor V n) _ (table_at j) (v92_at V b n 0) (v92_at V b n 1) (v142_at V b n) (v147_at V b n) (v0_at V n 0) (v0_at V n 1) (v5_at V n) (v10_at V n)

end Cert.ReferenceIdeal.Value

end
-- ==== Proof.RefResult.lean ====
module

public import proofs.«01_k».proof.Proof.RealLoss
public import proofs.«01_k».proof.Proof.RefBox

/-! The reference's two results in the terms the kernel's are stated in. -/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Focal

/-- Division by a target's unit is the product with its scale. -/
theorem scale_div (x : EReal) (j : Fin 4) : Ideal.div x (Ideal.ofBits .f32 (lit0 j)) = x * scales j := by
  match j with
  | ⟨0, _⟩ => exact (congrArg (Ideal.div x) word_tenth).trans ((Ideal.div_coe (by norm_num) x).trans (congrArg (fun z : ℝ => x * (z : EReal)) (by norm_num)))
  | ⟨1, _⟩ => exact (congrArg (Ideal.div x) word_tenth).trans ((Ideal.div_coe (by norm_num) x).trans (congrArg (fun z : ℝ => x * (z : EReal)) (by norm_num)))
  | ⟨2, _⟩ => exact (congrArg (Ideal.div x) word_fifth).trans ((Ideal.div_coe (by norm_num) x).trans (congrArg (fun z : ℝ => x * (z : EReal)) (by norm_num)))
  | ⟨3, _⟩ => exact (congrArg (Ideal.div x) word_fifth).trans ((Ideal.div_coe (by norm_num) x).trans (congrArg (fun z : ℝ => x * (z : EReal)) (by norm_num)))

/-- The counted box loss is the smooth loss where the bit is set. -/
theorem regOf_if (d : EReal) (P : Prop) [Decidable P] : regOf d (BitVec.ofBool (decide P)) = if P then smooth d else 0 := by
  have e : regOf d (BitVec.ofBool (decide P)) = smooth d * ((((BitVec.ofBool (decide P)).toNat : ℝ)) : EReal) := by
    unfold regOf smooth
    rw [mul_assoc (Ideal.ofBits .f32 0x40900000#32) d d]
    exact congrArg (fun z : EReal => z * _) (select_if _ _ _)
  rw [e]
  by_cases h : P <;> simp [h]

/-- The counted box loss over the coordinates. -/
theorem regOf_sum (a r : Fin 4 → EReal) (g : Fin 24 → Fin 5 → EReal) :
    ∑ j : Fin 4, regOf (FloatOps.absf (F := Ideal) (φ := .f32) (Ideal.div (offsets a (mate a g) j) (Ideal.ofBits .f32 (lit0 j)) - r j)) (BitVec.ofBool (decide (positive (crest a g))))
      = regTerm r a g := by
  unfold regTerm boxLoss
  simp only [regOf_if, scale_div]
  by_cases h : positive (crest a g)
  · simp only [if_pos h]
  · simp only [if_neg h, Finset.sum_const_zero]

variable (V : Valuation τ sig (Elt Ideal))

/-- A count's word reads as the count. -/
theorem toInt_count (k : ℕ) (h : k ≤ 49104) : (BitVec.ofNat 32 k).toInt = k := by
  rw [BitVec.toInt_eq_toNat_of_lt (by simp; omega)]
  simp; omega

/-- The number of positive anchors as a sum of ones. -/
theorem posSum (b : Fin 8) : ∑ n, posTerm (rAnchor V n) (rNotes V b) = (((posCount V b : ℕ) : ℝ) : EReal) := by
  have e : ∀ n : Fin 49104, posTerm (rAnchor V n) (rNotes V b) = (((if positive (crest (rAnchor V n) (rNotes V b)) then 1 else 0 : ℝ)) : EReal) := by
    intro n
    unfold posTerm
    by_cases h : positive (crest (rAnchor V n) (rNotes V b))
    · rw [if_pos h, if_pos h]; rfl
    · rw [if_neg h, if_neg h]; rfl
  rw [Finset.sum_congr rfl fun n _ => e n, ← coe_sum, Finset.sum_boole]
  rfl

/-- The count as a float is the sum of the ones of the matched anchors. -/
theorem count_float (b : Fin 8) : FloatOps.sitofp (F := Ideal) .f32 ((res_main_v90 V : IVec S8 32) (ix1 b)) = ∑ n, posTerm (rAnchor V n) (rNotes V b) := by
  rw [v90_at, posSum]
  show ((((BitVec.ofNat 32 (posCount V b)).toInt : ℝ)) : EReal) = _
  rw [toInt_count _ (posCount_le V b)]
  rfl

/-- The larger of the count and one, as a float. -/
theorem count_max (b : Fin 8) : FloatOps.sitofp (F := Ideal) .f32 (IntOp.maxsi ((res_main_v90 V : IVec S8 32) (ix1 b)) 1#32) = max (∑ n, posTerm (rAnchor V n) (rNotes V b)) 1 := by
  rw [v90_at, posSum]
  have hk := posCount_le V b
  generalize posCount V b = k at hk ⊢
  show ((((IntOp.maxsi (BitVec.ofNat 32 k) 1#32).toInt : ℝ)) : EReal) = _
  have e : (IntOp.maxsi (BitVec.ofNat 32 k) 1#32).toInt = max (k : ℤ) 1 := by
    unfold IntOp.maxsi
    have ht := toInt_count k hk
    by_cases h : k < 1
    · have : k = 0 := by omega
      subst this
      rfl
    · have h1 : (1#32 : BitVec 32).toInt = 1 := rfl
      simp only [BitVec.sle, BitVec.slt, ht, h1]
      split <;> simp_all <;> omega
  rw [e]
  push_cast
  rfl

/-- The count is positive exactly when the sum of the ones is. -/
theorem count_pos (b : Fin 8) : IntOp.cmpi .sgt ((res_main_v90 V : IVec S8 32) (ix1 b)) 0#32 = BitVec.ofBool (decide (0 < ∑ n, posTerm (rAnchor V n) (rNotes V b))) := by
  rw [v90_at, posSum]
  have hk := posCount_le V b
  generalize posCount V b = k at hk ⊢
  show BitVec.ofBool (decide ((0#32 : BitVec 32).toInt < (BitVec.ofNat 32 k).toInt)) = _
  rw [toInt_count k hk]
  refine congrArg BitVec.ofBool (decide_eq_decide.2 ?_)
  rw [show (0#32 : BitVec 32).toInt = 0 from rfl, ← EReal.coe_zero, EReal.coe_lt_coe_iff]
  simp

/-- The reference's box result. -/
theorem reg_result :
    Ideal.div (∑ b : Fin 8, Scalar.select (IntOp.cmpi .sgt ((res_main_v90 V : IVec S8 32) (ix1 b)) 0#32)
            (Ideal.div (∑ n : Fin 49104, ∑ j : Fin 4, regOf ((res_main_v190 V : Vec Ideal S8x49104x4 .f32) (ix3 b n j)) ((res_main_v88 V : IVec S8x49104 1) (ix2 b n)))
              (FloatOps.sitofp (F := Ideal) .f32 (IntOp.maxsi ((res_main_v90 V : IVec S8 32) (ix1 b)) 1#32) * Ideal.ofBits .f32 0x40800000#32))
            (Ideal.ofBits .f32 0x00000000#32))
          (Ideal.ofBits .f32 0x41000000#32)
      = meanReg (fun b => ∑ n, regTerm (rBox V b n) (rAnchor V n) (rNotes V b)) (fun b => ∑ n, posTerm (rAnchor V n) (rNotes V b)) := by
  unfold meanReg
  refine congrArg (fun z : EReal => Ideal.div z (Ideal.ofBits .f32 0x41000000#32)) ?_
  refine Finset.sum_congr rfl fun b _ => ?_
  rw [count_pos, count_max, select_if, Ideal.ofBits_zero_f32]
  refine congrArg (fun z : EReal => if 0 < ∑ n, posTerm (rAnchor V n) (rNotes V b) then Ideal.div z (max (∑ n, posTerm (rAnchor V n) (rNotes V b)) 1 * Ideal.ofBits .f32 0x40800000#32) else 0)
    (Finset.sum_congr rfl fun n _ => ?_)
  exact (Finset.sum_congr rfl fun j _ => congrArg₂ regOf (v190_at V b n j) (v88_at V b n)).trans (regOf_sum (rAnchor V n) (rBox V b n) (rNotes V b))

/-- The class loss of an anchor as a real, from its real scores, whether it is matched or background, and its class. -/
def lossOf (p : Fin 80 → ℝ) (P N : Prop) [Decidable P] [Decidable N] (k : Fin 80) : ℝ :=
  -(1 / 4) * ((if P ∨ N then ∑ c, p c * p c * Real.log (1 - p c) else 0)
          + if P then (1 - p k) * (1 - p k) * Real.log (p k) - p k * p k * Real.log (1 - p k) else 0)

/-- The reference's class result, for scores the clip keeps and labels that name a class. -/
theorem cls_result (p : Fin 8 → Fin 49104 → Fin 80 → ℝ) (k : Fin 8 → Fin 49104 → Fin 80)
    (hp : ∀ b n c, clipped (rScores V b n c) = (p b n c : EReal)) (h0 : ∀ b n c, 0 < p b n c) (h1 : ∀ b n c, p b n c < 1)
    (hk : ∀ b n, rLabel V b n = BitVec.ofNat 32 (k b n).val) :
    Ideal.div (∑ b : Fin 8, Ideal.div (∑ n : Fin 49104, ∑ c : Fin 80, clsOf ((res_main_v109 V : Vec Ideal S8x49104x80 .f32) (ix3 b n c)) ((res_main_v21 V : Vec Ideal S8x49104x80 .f32) (ix3 b n c)))
        (max (FloatOps.sitofp (F := Ideal) .f32 ((res_main_v90 V : IVec S8 32) (ix1 b))) (Ideal.ofBits .f32 0x3F800000#32))) (Ideal.ofBits .f32 0x41000000#32)
      = meanCls (fun b => ∑ n, (lossOf (p b n) (positive (crest (rAnchor V n) (rNotes V b))) (negative (crest (rAnchor V n) (rNotes V b))) (k b n) : EReal))
          (fun b => ∑ n, posTerm (rAnchor V n) (rNotes V b)) := by
  unfold meanCls
  refine congrArg (fun z => Ideal.div z _) (Finset.sum_congr rfl fun b _ => ?_)
  rw [count_float, Ideal.ofBits_one_f32]
  refine congrArg (fun z : EReal => Ideal.div z (max (∑ n, posTerm (rAnchor V n) (rNotes V b)) 1)) (Finset.sum_congr rfl fun n _ => ?_)
  refine Eq.trans (Finset.sum_congr rfl fun c _ => ?_)
    (aim_sum (p b n) (h0 b n) (h1 b n) (positive (crest (rAnchor V n) (rNotes V b))) (negative (crest (rAnchor V n) (rNotes V b))) (k b n))
  refine congrArg₂ clsOf ((v109_at V b n c).trans ((aim_eq _ _ _ _).trans ?_)) ((v21_at V b n c).trans (hp b n c))
  rw [hk]

end Cert.ReferenceIdeal.Value

end
-- ==== Proof.InRange.lean ====
module

public import proofs.«01_k».proof.Pre_in_range
public import proofs.«01_k».proof.Proof.Gen.Pre_in_range
public import proofs.«01_k».proof.Proof.RealLoss
public import Idealize.ShloMosaic.Lib.ReduceAll
public import Idealize.ShloMosaic.Lib.Pointwise

/-! The precondition read at an element: a score is a real strictly between zero and one which the clip keeps, and a label names a class. -/

@[expose] public section

set_option maxRecDepth 16384

noncomputable section

namespace Cert.Focal

open Idealize.ShloMosaic Idealize.ShloMosaic.Tactic Cert.Pre_in_range

/-- The array of no axes has one index. -/
instance one_index : Subsingleton S_.Idx := ⟨fun i j => funext fun a => a.elim0⟩

/-- The label column, at an annotation. -/
theorem labels_at (x : FVec Ideal S8x24x5 .f32) (b : Fin 8) (k : Fin 24) :
    shapeCast S8x24 (extractStridedSlice S8x24x1 ![0, 0, 4] x Gen.slices_S8x24x5_S8x24x1_0_0_4) Gen.shapeCasts_S8x24x1_S8x24 (ix2 b k) = x (ix3 b k 4) := by
  pointwise

/-- A comparison that gives the bit one holds. -/
theorem bit_one {p : Prop} [Decidable p] (h : BitVec.ofBool (decide p) = 1#1) : p := by
  by_contra hp
  simp [hp] at h

/-- The precondition at an element of the scores and of the labels. -/
theorem range_at (x : FVec Ideal S8x49104x80 .f32) (y : FVec Ideal S8x49104x4 .f32) (z : FVec Ideal S1x49104x4 .f32) (w : FVec Ideal S8x24x5 .f32) (v : IVec S_ 32)
    (h : fn (F := Ideal) x y z w v = fun _ => 1#1) :
    (∀ (b : Fin 8) (n : Fin 49104) (c : Fin 80), Ideal.ofBits .f32 0x38D1B717#32 ≤ x (ix3 b n c) ∧ x (ix3 b n c) ≤ Ideal.ofBits .f32 0x3F7FF972#32)
    ∧ ∀ (b : Fin 8) (k : Fin 24), 0 ≤ (FloatOps.fptosi (F := Ideal) (φ := .f32) 32 (w (ix3 b k 4))).toInt ∧ (FloatOps.fptosi (F := Ideal) (φ := .f32) 32 (w (ix3 b k 4))).toInt < 80 := by
  have h0 := congrFun h (Shape.Idx.first Gen.h_S_)
  obtain ⟨h1, h2⟩ := IntOp.andi_eq_one.1 h0
  refine ⟨fun b n c => ?_, fun b k => ?_⟩
  · obtain ⟨e1, e2⟩ := IntOp.andi_eq_one.1 (Host.reduce_andi_all _ _ _ _ _ h1 (ix3 b n c))
    exact ⟨bit_one e1, bit_one e2⟩
  · obtain ⟨e1, e2⟩ := IntOp.andi_eq_one.1 (Host.reduce_andi_all _ _ _ _ _ h2 (ix2 b k))
    rw [← labels_at w b k]
    have e1' : BitVec.ofBool ((0#32).sle (FloatOps.fptosi (F := Ideal) (φ := .f32) 32 (shapeCast S8x24 (extractStridedSlice S8x24x1 ![0, 0, 4] w Gen.slices_S8x24x5_S8x24x1_0_0_4) Gen.shapeCasts_S8x24x1_S8x24 (ix2 b k)))) = 1#1 := e1
    have e2' : BitVec.ofBool ((FloatOps.fptosi (F := Ideal) (φ := .f32) 32 (shapeCast S8x24 (extractStridedSlice S8x24x1 ![0, 0, 4] w Gen.slices_S8x24x5_S8x24x1_0_0_4) Gen.shapeCasts_S8x24x1_S8x24 (ix2 b k))).slt 80#32) = 1#1 := e2
    exact ⟨bit_one (p := (0#32).toInt ≤ _) e1', bit_one (p := _ < (80#32).toInt) e2'⟩

/-- A value between the ends of the clip is a real strictly between zero and one. -/
theorem real_between (x : EReal) (h1 : Ideal.ofBits .f32 0x38D1B717#32 ≤ x) (h2 : x ≤ Ideal.ofBits .f32 0x3F7FF972#32) :
    ∃ p : ℝ, x = (p : EReal) ∧ 0 < p ∧ p < 1 := by
  obtain ⟨e, he, e1⟩ := word_low
  obtain ⟨f, hf, e2⟩ := word_high
  rw [e1] at h1
  rw [e2] at h2
  induction x using EReal.rec with
  | bot => exact absurd h1 (by simp)
  | top => exact absurd h2 (by simp)
  | coe p => exact ⟨p, rfl, lt_of_lt_of_le he (EReal.coe_le_coe_iff.1 h1), lt_of_le_of_lt (EReal.coe_le_coe_iff.1 h2) hf⟩

/-- A word from zero to seventy-nine names a class. -/
theorem names_class (w : BitVec 32) (h1 : 0 ≤ w.toInt) (h2 : w.toInt < 80) : ∃ k : Fin 80, w = BitVec.ofNat 32 k.val := by
  have e := BitVec.toInt_eq_toNat_cond w
  have hn := w.isLt
  have hlt : w.toNat < 80 := by
    split at e <;> omega
  exact ⟨⟨w.toNat, hlt⟩, by simp⟩

end Cert.Focal

end
-- ==== Proof.Equal.lean ====
module

public import proofs.«01_k».proof.Defs
public import proofs.«01_k».proof.Proof.IdealTail
public import proofs.«01_k».proof.Proof.RefResult
public import proofs.«01_k».proof.Proof.RefRunB
public import proofs.«01_k».proof.Proof.InRange

/-! The two results of the kernel and of the reference are equal for arguments in range. -/

@[expose] public section

set_option maxRecDepth 16384

noncomputable section

namespace Cert.Proof

open Idealize.ShloMosaic Idealize.ShloMosaic.TcCoe Idealize.ShloMosaic.StableHlo Idealize.SL.Sem
open Cert.Focal Cert.KernelIdeal.Hand Cert.ReferenceIdeal.Value

/-- A value between the ends of the clip is kept by it. -/
theorem clipped_id (x : EReal) (h1 : Ideal.ofBits .f32 0x38D1B717#32 ≤ x) (h2 : x ≤ Ideal.ofBits .f32 0x3F7FF972#32) : clipped x = x := by
  unfold clipped
  rw [max_eq_right h1, min_eq_right h2]

/-- The real background loss of an anchor, zero for an anchor that is ignored. -/
def backReal (p : Fin 80 → ℝ) (P N : Prop) [Decidable P] [Decidable N] : ℝ := if P ∨ N then ∑ c, p c * p c * Real.log (1 - p c) else 0
/-- The real correction of a matched anchor at its class. -/
def foreReal (p : Fin 80 → ℝ) (P : Prop) [Decidable P] (k : Fin 80) : ℝ :=
  if P then (1 - p k) * (1 - p k) * Real.log (p k) - p k * p k * Real.log (1 - p k) else 0

/-- The kernel's background term of an anchor with real scores is the real one. -/
theorem back_real (s : Fin 80 → EReal) (p : Fin 80 → ℝ) (a : Fin 4 → EReal) (g : Fin 24 → Fin 5 → EReal) (hs : s = fun c => (p c : EReal)) (h1 : ∀ c, p c < 1) :
    backTerm s a g = (backReal p (positive (crest a g)) (negative (crest a g)) : EReal) := by
  unfold backTerm backReal
  rw [hs, background_real p h1]
  split <;> simp

/-- The kernel's correction at an anchor with real scores and a label that names a class is the real one. -/
theorem fore_real (s : Fin 80 → EReal) (p : Fin 80 → ℝ) (a : Fin 4 → EReal) (g : Fin 24 → Fin 5 → EReal) (k : Fin 80) (hs : s = fun c => (p c : EReal)) (h0 : ∀ c, 0 < p c) (h1 : ∀ c, p c < 1)
    (hk : FloatOps.fptosi (F := Ideal) (φ := .f32) 32 (mate a g 4) = BitVec.ofNat 32 k.val) :
    foreTerm s a g = (foreReal p (positive (crest a g)) k : EReal) := by
  unfold foreTerm foreReal
  rw [hk, hs, score_real, foreground_real (h0 k) (h1 k)]
  split <;> simp

/-- The class loss of an image in the kernel, as a sum of reals over the anchors. -/
theorem accumCls (m : (ℓ : Loc Cert.KernelIdeal.nD Cert.KernelIdeal.τ Cert.KernelIdeal.sig) → Buf (Elt Ideal) ℓ) (c : Dev Cert.KernelIdeal.nD) (b : Fin 8)
    (p : Fin 49104 → Fin 80 → ℝ) (k : Fin 49104 → Fin 80) (hp : ∀ n, scoresOf m c b n = fun j => (p n j : EReal))
    (h0 : ∀ n j, 0 < p n j) (h1 : ∀ n j, p n j < 1)
    (hk : ∀ n, FloatOps.fptosi (F := Ideal) (φ := .f32) 32 (mate (anchorOf m c n) (notesOf m c b) 4) = BitVec.ofNat 32 (k n).val) :
    accum (shareCls m c) (6 * b.val + 5)
      = ∑ n, (lossOf (p n) (positive (crest (anchorOf m c n) (notesOf m c b))) (negative (crest (anchorOf m c n) (notesOf m c b))) (k n) : EReal) := by
  rw [accum_last]
  refine Eq.trans (Finset.sum_congr rfl fun a ha => (shareCls_eq m c b a (Finset.mem_range.mp ha)).trans ?_)
    (scaled_blocks (fun n => backReal (p n) (positive (crest (anchorOf m c n) (notesOf m c b))) (negative (crest (anchorOf m c n) (notesOf m c b))))
      (fun n => foreReal (p n) (positive (crest (anchorOf m c n) (notesOf m c b))) (k n)))
  refine congrArg (fun z : EReal => Ideal.ofBits .f32 0xBE800000#32 * z) (congrArg₂ (fun y z : EReal => y + z)
    (Finset.sum_congr rfl fun l _ => ?_) (Finset.sum_congr rfl fun l _ => ?_))
  · by_cases h : a * 8192 + l.val < 49104
    · rw [dif_pos h, dif_pos h]
      exact back_real _ _ _ _ (hp _) (h1 _)
    · rw [dif_neg h, dif_neg h]
  · by_cases h : a * 8192 + l.val < 49104
    · rw [dif_pos h, dif_pos h]
      exact fore_real _ _ _ _ _ (hp _) (h0 _) (h1 _) (hk _)
    · rw [dif_neg h, dif_neg h]

/-- The class result of the kernel is that of a reference valuation which reads the same arrays. -/
theorem cls_equal (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (hs : ∀ b n, rScores V b n = scoresOf m c b n) (ha : ∀ n, rAnchor V n = anchorOf m c n) (hg : ∀ b, rNotes V b = notesOf m c b)
    (hr : ∀ b n j, Ideal.ofBits .f32 0x38D1B717#32 ≤ scoresOf m c b n j ∧ scoresOf m c b n j ≤ Ideal.ofBits .f32 0x3F7FF972#32)
    (hl : ∀ b k, 0 ≤ (FloatOps.fptosi (F := Ideal) (φ := .f32) 32 (notesOf m c b k 4)).toInt ∧ (FloatOps.fptosi (F := Ideal) (φ := .f32) 32 (notesOf m c b k 4)).toInt < 80) :
    Ideal.div (∑ b : Fin 8, Ideal.div (∑ n : Fin 49104, ∑ c : Fin 80, clsOf ((res_main_v109 V : Vec Ideal Cert.ReferenceIdeal.S8x49104x80 .f32) (ix3 b n c)) ((res_main_v21 V : Vec Ideal Cert.ReferenceIdeal.S8x49104x80 .f32) (ix3 b n c)))
        (max (FloatOps.sitofp (F := Ideal) .f32 ((res_main_v90 V : IVec Cert.ReferenceIdeal.S8 32) (ix1 b))) (Ideal.ofBits .f32 0x3F800000#32))) (Ideal.ofBits .f32 0x41000000#32)
      = outCls m c := by
  choose p hp h0 h1 using fun b n j => real_between (scoresOf m c b n j) (hr b n j).1 (hr b n j).2
  choose k hk using fun b n => names_class (FloatOps.fptosi (F := Ideal) (φ := .f32) 32 (mate (anchorOf m c n) (notesOf m c b) 4)) (hl b _).1 (hl b _).2
  refine (cls_result V p k (fun b n j => ?_) h0 h1 (fun b n => ?_)).trans ?_
  · rw [hs, clipped_id _ (hr b n j).1 (hr b n j).2, hp]
  · unfold rLabel
    rw [ha, hg, hk]
  · unfold outCls
    refine congrArg₂ meanCls (funext fun b => ?_) (funext fun b => ?_)
    · rw [accumCls m c b (p b) (k b) (fun n => funext fun j => hp b n j) (h0 b) (h1 b) (hk b)]
      refine Finset.sum_congr rfl fun n _ => ?_
      rw [ha, hg]
    · refine Finset.sum_congr rfl fun n _ => ?_
      rw [ha, hg]

/-- The box result of the kernel is that of a reference valuation which reads the same arrays. -/
theorem reg_equal (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (hb : ∀ b n, rBox V b n = boxOf m c b n) (ha : ∀ n, rAnchor V n = anchorOf m c n) (hg : ∀ b, rNotes V b = notesOf m c b) :
    meanReg (fun b => ∑ n, regTerm (rBox V b n) (rAnchor V n) (rNotes V b)) (fun b => ∑ n, posTerm (rAnchor V n) (rNotes V b)) = outReg m c := by
  unfold outReg
  refine congrArg₂ meanReg (funext fun b => Finset.sum_congr rfl fun n _ => ?_) (funext fun b => Finset.sum_congr rfl fun n _ => ?_)
  · rw [hb, ha, hg]
  · rw [ha, hg]

/-- A result of one element is given by it. -/
theorem of_one (x : FVec Ideal Cert.ReferenceIdeal.S1 .f32) (v : EReal) (h : x (ix1 0) = v) : x = fun _ => v :=
  funext fun i => (congrArg x (ix_one i)).trans h

/-- For scores the clip keeps and labels that name a class, both programs end with the same two results. -/
theorem algebraic : Cert.algebraic_KernelIdeal_ReferenceIdeal_pre_in_range := by
  intro m g m' g' hpre hargs
  refine ⟨fun c _ => outCls m c, fun c _ => outReg m c, value_run m g, ?_⟩
  refine (θ_run _ _ _).mono (fun _ h c => ?_) (Cert.ReferenceIdeal.Value.run m' g')
  obtain ⟨e0, e1, e2, e3, -⟩ := hargs c
  obtain ⟨hr, hl⟩ := range_at _ _ _ _ _ (hpre c)
  have hs : ∀ b n, rScores (launchContents m' c) b n = scoresOf m c b n := fun b n => funext fun j => congrFun e0 (ix3 b n j)
  have hb : ∀ b n, rBox (launchContents m' c) b n = boxOf m c b n := fun b n => funext fun j => congrFun e1 (ix3 b n j)
  have ha : ∀ n, rAnchor (launchContents m' c) n = anchorOf m c n := fun n => funext fun j => congrFun e2 (ix3 0 n j)
  have hg : ∀ b, rNotes (launchContents m' c) b = notesOf m c b := fun b => funext fun k => funext fun j => congrFun e3 (ix3 b k j)
  exact ⟨(h c).1.trans (of_one _ _ ((cls_at (res_main_v109 (launchContents m' c)) (res_main_v21 (launchContents m' c)) (res_main_v90 (launchContents m' c))).trans
      (cls_equal m c (launchContents m' c) hs ha hg hr hl))),
    (h c).2.1.trans (of_one _ _ ((reg_at (res_main_v190 (launchContents m' c)) (res_main_v88 (launchContents m' c)) (res_main_v90 (launchContents m' c))).trans
      ((reg_result (launchContents m' c)).trans (reg_equal m c (launchContents m' c) hb ha hg)))), (h c).2.2⟩

end Cert.Proof

end
-- ==== Proof.lean ====
/- The proof of the certificate's claims, each cited from its module. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.KernelFrame
public import proofs.«01_k».proof.Proof.IdealFrame
public import proofs.«01_k».proof.Proof.RefFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Both named constants are the exact reciprocals their names stand for. -/
theorem preserves : Cert.preserves_Kernel_KernelIdeal :=
  ⟨IdealRules.named_const.statement Cert.KernelIdeal.κ "inv_tenth" .f32 0x41200000#32 _ rfl,
    IdealRules.named_const.statement Cert.KernelIdeal.κ "inv_fifth" .f32 0x40A00000#32 _ rfl⟩

/-- The claims: the frames of the three programs, with and without the precondition, the named constants, and the equal results. -/
theorem claim : Cert.Claim := ⟨Cert.Kernel.Gen.facts, Cert.KernelIdeal.Gen.facts, Cert.ReferenceIdeal.Gen.facts, Cert.Pre_in_range.Gen.facts,
  fun m ρ _ => Cert.Kernel.Hand.quiescent m ρ, fun m ρ _ => Cert.KernelIdeal.Hand.quiescent m ρ,
  fun m ρ _ => Cert.KernelIdeal.Hand.quiescent m ρ,
  fun m ρ _ => Cert.ReferenceIdeal.Value.quiescent m ρ, fun m ρ _ => Cert.ReferenceIdeal.Value.quiescent m ρ, preserves, algebraic⟩

end Cert.Proof

end
